-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S4x2048x2048 : Shape := ⟨3, ![4, 2048, 2048]⟩
abbrev S16384x1024 : Shape := ⟨2, ![16384, 1024]⟩
abbrev S4x1x2048 : Shape := ⟨3, ![4, 1, 2048]⟩
abbrev S1x1024x2048 : Shape := ⟨3, ![1, 1024, 2048]⟩
abbrev S1x512x2048 : Shape := ⟨3, ![1, 512, 2048]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1024x512 : Shape := ⟨2, ![1024, 512]⟩
abbrev S4x2048x1 : Shape := ⟨3, ![4, 2048, 1]⟩
abbrev S4x1024x1 : Shape := ⟨3, ![4, 1024, 1]⟩
abbrev S1x1x2048 : Shape := ⟨3, ![1, 1, 2048]⟩
abbrev S1x2048x1 : Shape := ⟨3, ![1, 2048, 1]⟩
abbrev S1x1024x1 : Shape := ⟨3, ![1, 1024, 1]⟩
abbrev S1x2048 : Shape := ⟨2, ![1, 2048]⟩
abbrev S1x256x1 : Shape := ⟨3, ![1, 256, 1]⟩
abbrev S256x1 : Shape := ⟨2, ![256, 1]⟩
abbrev S256x2048 : Shape := ⟨2, ![256, 2048]⟩
abbrev S2048 : Shape := ⟨1, ![2048]⟩
abbrev S256 : Shape := ⟨1, ![256]⟩
abbrev S64x64 : Shape := ⟨2, ![64, 64]⟩
abbrev S4096x1024 : Shape := ⟨2, ![4096, 1024]⟩
abbrev S2x64 : Shape := ⟨2, ![2, 64]⟩
abbrev S64x1024 : Shape := ⟨2, ![64, 1024]⟩
abbrev S_ : Shape := ⟨0, ![]⟩
abbrev S64x128 : Shape := ⟨2, ![64, 128]⟩
abbrev S1x64 : Shape := ⟨2, ![1, 64]⟩
abbrev S64 : Shape := ⟨1, ![64]⟩
abbrev S16384x128 : Shape := ⟨2, ![16384, 128]⟩
abbrev S4x1024x1024 : Shape := ⟨3, ![4, 1024, 1024]⟩
abbrev S4x2048x1024 : Shape := ⟨3, ![4, 2048, 1024]⟩
abbrev S1x2048x2048 : Shape := ⟨3, ![1, 2048, 2048]⟩
abbrev S512x2048 : Shape := ⟨2, ![512, 2048]⟩
abbrev S1x2048x1024 : Shape := ⟨3, ![1, 2048, 1024]⟩
abbrev S2048x1024 : Shape := ⟨2, ![2048, 1024]⟩
abbrev S4x3072x1024 : Shape := ⟨3, ![4, 3072, 1024]⟩
abbrev S4x2048 : Shape := ⟨2, ![4, 2048]⟩
abbrev S4x2048x2 : Shape := ⟨3, ![4, 2048, 2]⟩
abbrev S4x4096 : Shape := ⟨2, ![4, 4096]⟩

abbrev nBuf : Table → Nat
  | .hbm => 26
  | .local .tc .vmem => 26
  | .local .scVector .vmem => 2
  | _ => 0

abbrev bufTy : (tb : Table) → Fin (nBuf tb) → BufTy
  | .hbm, ⟨0, _⟩ => ⟨S4x4096x1024, .f32⟩
  | .hbm, ⟨1, _⟩ => ⟨S4x4096x1024, .f32⟩
  | .hbm, ⟨2, _⟩ => ⟨S4x2048x2048, .f32⟩
  | .hbm, ⟨3, _⟩ => ⟨S4x2048x2048, .f32⟩
  | .hbm, ⟨4, _⟩ => ⟨S16384x1024, .f32⟩
  | .hbm, ⟨5, _⟩ => ⟨S4x1x2048, .f32⟩
  | .hbm, ⟨6, _⟩ => ⟨S4x1x2048, .i32⟩
  | .hbm, ⟨7, _⟩ => ⟨S4x2048x1, .f32⟩
  | .hbm, ⟨8, _⟩ => ⟨S4x1x2048, .i32⟩
  | .hbm, ⟨9, _⟩ => ⟨S4x1024x1, .i32⟩
  | .hbm, ⟨10, _⟩ => ⟨S64x64, .i32⟩
  | .hbm, ⟨11, _⟩ => ⟨S4096x1024, .f32⟩
  | .hbm, ⟨12, _⟩ => ⟨S4x1024x1024, .f32⟩
  | .hbm, ⟨13, _⟩ => ⟨S4x2048x1024, .f32⟩
  | .hbm, ⟨14, _⟩ => ⟨S4x3072x1024, .f32⟩
  | .hbm, ⟨15, _⟩ => ⟨S2048, .i32⟩
  | .hbm, ⟨16, _⟩ => ⟨S1x2048, .i32⟩
  | .hbm, ⟨17, _⟩ => ⟨S_, .i32⟩
  | .hbm, ⟨18, _⟩ => ⟨S1x2048, .i32⟩
  | .hbm, ⟨19, _⟩ => ⟨S1x2048, .i32⟩
  | .hbm, ⟨20, _⟩ => ⟨S4x2048, .i32⟩
  | .hbm, ⟨21, _⟩ => ⟨S4x2048, .i32⟩
  | .hbm, ⟨22, _⟩ => ⟨S4x2048x1, .i32⟩
  | .hbm, ⟨23, _⟩ => ⟨S4x2048x1, .i32⟩
  | .hbm, ⟨24, _⟩ => ⟨S4x2048x2, .i32⟩
  | .hbm, ⟨25, _⟩ => ⟨S4x4096, .i32⟩
  | .local .tc .vmem, ⟨0, _⟩ => ⟨S1x1024x2048, .f32⟩
  | .local .tc .vmem, ⟨1, _⟩ => ⟨S1x1024x2048, .f32⟩
  | .local .tc .vmem, ⟨2, _⟩ => ⟨S1x512x2048, .f32⟩
  | .local .tc .vmem, ⟨3, _⟩ => ⟨S1x512x2048, .f32⟩
  | .local .tc .vmem, ⟨4, _⟩ => ⟨S1x1x1024, .f32⟩
  | .local .tc .vmem, ⟨5, _⟩ => ⟨S1x1x1024, .f32⟩
  | .local .tc .vmem, ⟨6, _⟩ => ⟨S1x1x1024, .i32⟩
  | .local .tc .vmem, ⟨7, _⟩ => ⟨S1x1x1024, .i32⟩
  | .local .tc .vmem, ⟨8, _⟩ => ⟨S1x1x2048, .f32⟩
  | .local .tc .vmem, ⟨9, _⟩ => ⟨S1x1x2048, .f32⟩
  | .local .tc .vmem, ⟨10, _⟩ => ⟨S1x2048x1, .f32⟩
  | .local .tc .vmem, ⟨11, _⟩ => ⟨S1x2048x1, .f32⟩
  | .local .tc .vmem, ⟨12, _⟩ => ⟨S1x1x2048, .i32⟩
  | .local .tc .vmem, ⟨13, _⟩ => ⟨S1x1x2048, .i32⟩
  | .local .tc .vmem, ⟨14, _⟩ => ⟨S1x1x2048, .i32⟩
  | .local .tc .vmem, ⟨15, _⟩ => ⟨S1x1x2048, .i32⟩
  | .local .tc .vmem, ⟨16, _⟩ => ⟨S1x1024x1, .i32⟩
  | .local .tc .vmem, ⟨17, _⟩ => ⟨S1x1024x1, .i32⟩
  | .local .tc .vmem, ⟨18, _⟩ => ⟨S1x2048x2048, .f32⟩
  | .local .tc .vmem, ⟨19, _⟩ => ⟨S1x2048x2048, .f32⟩
  | .local .tc .vmem, ⟨20, _⟩ => ⟨S1x1x2048, .i32⟩
  | .local .tc .vmem, ⟨21, _⟩ => ⟨S1x1x2048, .i32⟩
  | .local .tc .vmem, ⟨22, _⟩ => ⟨S1x1x2048, .i32⟩
  | .local .tc .vmem, ⟨23, _⟩ => ⟨S1x1x2048, .i32⟩
  | .local .tc .vmem, ⟨24, _⟩ => ⟨S1x512x1024, .f32⟩
  | .local .tc .vmem, ⟨25, _⟩ => ⟨S1x512x1024, .f32⟩
  | .local .scVector .vmem, ⟨0, _⟩ => ⟨S2x64, .i32⟩
  | .local .scVector .vmem, ⟨1, _⟩ => ⟨S64x1024, .f32⟩
  | _, _ => ⟨S4x4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v2_scv : Ref sig .scVector := ⟨.hbm, 4, rfl⟩
abbrev main_v6_scv : Ref sig .scVector := ⟨.hbm, 10, rfl⟩
abbrev main_v7_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32_11 : BitVec 32 := 0#32
  let v40 : BitVec 1 := Scalar.cmpi .eq arg2 c0_i32_11
  let v41 : BitVec 32 := Scalar.extui v40
  let c0_i32_12 : BitVec 32 := 0#32
  let v42 : BitVec 1 := Scalar.cmpi .ne v41 c0_i32_12
  v42

def k0_cond2 (i : grid0.Coords) : BitVec 1 :=
  let arg2 : BitVec 32 := BitVec.ofNat 32 (i 2).val
  let c0_i32_13 : BitVec 32 := 0#32
  let v43 : BitVec 1 := Scalar.cmpi .sgt arg2 c0_i32_13
  let v44 : BitVec 32 := Scalar.extui v43
  let c0_i32_14 : BitVec 32 := 0#32
  let v45 : BitVec 1 := Scalar.cmpi .ne v44 c0_i32_14
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32_7_r0 : BitVec 32 := 0#32
  ![v3.toNat, 0]
@[reducible] def k2_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k2_mult1 (k2_t1 : Fin k2_t1_loop.trips) : BitVec 32 :=
  let c128_i32_9 : BitVec 32 := 128#32
  let c0_i32_8 : BitVec 32 := 0#32
  let c0_i32 : BitVec 32 := 0#32
  let c1_i32 : BitVec 32 := 1#32
  let arg8 : BitVec 32 := Scf.iv c0_i32 c1_i32 k2_t1
  let c1_i32_7 : BitVec 32 := 1#32
  let v8 : BitVec 32 := Scalar.muli arg8 c1_i32_7
  let v9 : BitVec 32 := Scalar.addi c0_i32_8 v8
  let v10 : BitVec 32 := Scalar.muli c128_i32_9 v9
  v10
def k2_off2 (k2_t1 : Fin k2_t1_loop.trips) : Fin 2 → Nat :=
  let c0_i32_11 : BitVec 32 := 0#32
  let c128_i32_9 : BitVec 32 := 128#32
  let c0_i32_8 : BitVec 32 := 0#32
  let c0_i32 : BitVec 32 := 0#32
  let c1_i32 : BitVec 32 := 1#32
  let arg8 : BitVec 32 := Scf.iv c0_i32 c1_i32 k2_t1
  let c1_i32_7 : BitVec 32 := 1#32
  let v8 : BitVec 32 := Scalar.muli arg8 c1_i32_7
  let v9 : BitVec 32 := Scalar.addi c0_i32_8 v8
  let v10 : BitVec 32 := Scalar.muli c128_i32_9 v9
  let v11 : BitVec 32 := v10
  ![0, v11.toNat]
def k2_off3 (k2_t1 : Fin k2_t1_loop.trips) : Fin 2 → Nat :=
  let c0_i32_13 : BitVec 32 := 0#32
  let c128_i32_9 : BitVec 32 := 128#32
  let c0_i32_8 : BitVec 32 := 0#32
  let c0_i32 : BitVec 32 := 0#32
  let c1_i32 : BitVec 32 := 1#32
  let arg8 : BitVec 32 := Scf.iv c0_i32 c1_i32 k2_t1
  let c1_i32_7 : BitVec 32 := 1#32
  let v8 : BitVec 32 := Scalar.muli arg8 c1_i32_7
  let v9 : BitVec 32 := Scalar.addi c0_i32_8 v8
  let v10 : BitVec 32 := Scalar.muli c128_i32_9 v9
  let v11 : BitVec 32 := v10
  ![0, v11.toNat]
def k2_off4 (i : grid2.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v5 : BitVec 32 := Scalar.addi v2 c0_i32_2
  let c0_i32_7_r1 : BitVec 32 := 0#32
  ![v5.toNat, 0]
@[reducible] def k2_t2_loop : Scf.Loop 32 :=
  let c0_i32_3 : BitVec 32 := 0#32
  let c8_i32_4 : BitVec 32 := 8#32
  let v6 : BitVec 32 := Scalar.addi c0_i32_3 c8_i32_4
  let c1_i32_5 : BitVec 32 := 1#32
  ⟨c0_i32_3, v6, c1_i32_5⟩
def k2_mult2 (k2_t2 : Fin k2_t2_loop.trips) : BitVec 32 :=
  let c128_i32_9 : BitVec 32 := 128#32
  let c0_i32_8 : BitVec 32 := 0#32
  let c0_i32_3 : BitVec 32 := 0#32
  let c1_i32_5 : BitVec 32 := 1#32
  let arg8 : BitVec 32 := Scf.iv c0_i32_3 c1_i32_5 k2_t2
  let c1_i32_7 : BitVec 32 := 1#32
  let v8 : BitVec 32 := Scalar.muli arg8 c1_i32_7
  let v9 : BitVec 32 := Scalar.addi c0_i32_8 v8
  let v10 : BitVec 32 := Scalar.muli c128_i32_9 v9
  v10
def k2_off5 (k2_t2 : Fin k2_t2_loop.trips) : Fin 2 → Nat :=
  let c0_i32_11 : BitVec 32 := 0#32
  let c128_i32_9 : BitVec 32 := 128#32
  let c0_i32_8 : BitVec 32 := 0#32
  let c0_i32_3 : BitVec 32 := 0#32
  let c1_i32_5 : BitVec 32 := 1#32
  let arg8 : BitVec 32 := Scf.iv c0_i32_3 c1_i32_5 k2_t2
  let c1_i32_7 : BitVec 32 := 1#32
  let v8 : BitVec 32 := Scalar.muli arg8 c1_i32_7
  let v9 : BitVec 32 := Scalar.addi c0_i32_8 v8
  let v10 : BitVec 32 := Scalar.muli c128_i32_9 v9
  let v11 : BitVec 32 := v10
  ![0, v11.toNat]
def k2_off6 (k2_t2 : Fin k2_t2_loop.trips) : Fin 2 → Nat :=
  let c0_i32_13 : BitVec 32 := 0#32
  let c128_i32_9 : BitVec 32 := 128#32
  let c0_i32_8 : BitVec 32 := 0#32
  let c0_i32_3 : BitVec 32 := 0#32
  let c1_i32_5 : BitVec 32 := 1#32
  let arg8 : BitVec 32 := Scf.iv c0_i32_3 c1_i32_5 k2_t2
  let c1_i32_7 : BitVec 32 := 1#32
  let v8 : BitVec 32 := Scalar.muli arg8 c1_i32_7
  let v9 : BitVec 32 := Scalar.addi c0_i32_8 v8
  let v10 : BitVec 32 := Scalar.muli c128_i32_9 v9
  let v11 : BitVec 32 := v10
  ![0, v11.toNat]
abbrev grid3 : Pipeline.Grid := ⟨2, ![4, 4], ![false, false]⟩

def k3_off1 (i : grid3.Coords) : Fin 3 → Nat :=
  let c0_9 : Index := 0#32
  let arg1 : BitVec 32 := BitVec.ofNat 32 (i 1).val
  let c512_i32_8 : BitVec 32 := 512#32
  let v22 : BitVec 32 := Scalar.muli arg1 c512_i32_8
  let v23 : Index := Scalar.indexCast v22
  let c1024 : Index := 1024#32
  ![0, v23.toNat, 1024]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x2048x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x1x2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x2048 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x1024 : Shape := ⟨3, ![4, 4096, 1024]⟩
abbrev S2048 : Shape := ⟨1, ![2048]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩
abbrev S4x1024x2048 : Shape := ⟨3, ![4, 1024, 2048]⟩
abbrev S4x2048x2048 : Shape := ⟨3, ![4, 2048, 2048]⟩
abbrev S1 : Shape := ⟨1, ![1]⟩
abbrev S4x1024 : Shape := ⟨2, ![4, 1024]⟩
abbrev S4x1024x1 : Shape := ⟨3, ![4, 1024, 1]⟩
abbrev S1x1x1 : Shape := ⟨3, ![1, 1, 1]⟩
abbrev S4x1024x1024 : Shape := ⟨3, ![4, 1024, 1024]⟩
abbrev S4 : Shape := ⟨1, ![4]⟩
abbrev S4x1 : Shape := ⟨2, ![4, 1]⟩
abbrev S4x1024x2 : Shape := ⟨3, ![4, 1024, 2]⟩
abbrev S4x3072x1024 : Shape := ⟨3, ![4, 3072, 1024]⟩
abbrev S4x4096 : Shape := ⟨2, ![4, 4096]⟩
abbrev S1024 : Shape := ⟨1, ![1024]⟩
abbrev S1x1024 : Shape := ⟨2, ![1, 1024]⟩
abbrev S1x2048 : Shape := ⟨2, ![1, 2048]⟩
abbrev S4x2048x2 : Shape := ⟨3, ![4, 2048, 2]⟩

abbrev nBuf : Space → Nat
  | .hbm => 242
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S2048, .i32⟩
  | 3 => ⟨S_, .i32⟩
  | 4 => ⟨S2048, .i32⟩
  | 5 => ⟨S2048, .i32⟩
  | 6 => ⟨S_, .i32⟩
  | 7 => ⟨S2048, .i32⟩
  | 8 => ⟨S2048, .i32⟩
  | 9 => ⟨S2048, .i32⟩
  | 10 => ⟨S_, .i32⟩
  | 11 => ⟨S2048, .i32⟩
  | 12 => ⟨S2048, .i32⟩
  | 13 => ⟨S_, .i32⟩
  | 14 => ⟨S2048, .i32⟩
  | 15 => ⟨S2048, .i32⟩
  | 16 => ⟨S4x2048x1024, .f32⟩
  | 17 => ⟨S4x2048x1024, .f32⟩
  | 18 => ⟨S4x2048x1024, .f32⟩
  | 19 => ⟨S_, .f32⟩
  | 20 => ⟨S4x2048, .f32⟩
  | 21 => ⟨S4x2048x1, .f32⟩
  | 22 => ⟨S4x2048x1, .f32⟩
  | 23 => ⟨S_, .f32⟩
  | 24 => ⟨S4x2048x1, .f32⟩
  | 25 => ⟨S4x2048x1, .f32⟩
  | 26 => ⟨S4x2048x1024, .f32⟩
  | 27 => ⟨S4x2048x1024, .f32⟩
  | 28 => ⟨S4x2048x1024, .f32⟩
  | 29 => ⟨S_, .f32⟩
  | 30 => ⟨S4x2048, .f32⟩
  | 31 => ⟨S4x2048x1, .f32⟩
  | 32 => ⟨S4x2048x1, .f32⟩
  | 33 => ⟨S_, .f32⟩
  | 34 => ⟨S4x2048x1, .f32⟩
  | 35 => ⟨S4x2048x1, .f32⟩
  | 36 => ⟨S4x2048x1024, .f32⟩
  | 37 => ⟨S4x2048x1024, .f32⟩
  | 38 => ⟨S4x1024x2048, .f32⟩
  | 39 => ⟨S4x2048x2048, .f32⟩
  | 40 => ⟨S_, .i32⟩
  | 41 => ⟨S1, .i32⟩
  | 42 => ⟨S_, .f32⟩
  | 43 => ⟨S4x2048, .f32⟩
  | 44 => ⟨S4x2048x2048, .f32⟩
  | 45 => ⟨S_, .f32⟩
  | 46 => ⟨S4x2048, .f32⟩
  | 47 => ⟨S4x2048x2048, .i32⟩
  | 48 => ⟨S_, .f32⟩
  | 49 => ⟨S_, .i32⟩
  | 50 => ⟨S4x2048, .f32⟩
  | 51 => ⟨S4x2048, .i32⟩
  | 52 => ⟨S4x2048, .f32⟩
  | 53 => ⟨S4x2048, .i32⟩
  | 54 => ⟨S4x2048, .f32⟩
  | 55 => ⟨S4x2048, .i32⟩
  | 56 => ⟨S4x1024, .i32⟩
  | 57 => ⟨S4x1024, .i32⟩
  | 58 => ⟨S4x1024, .i32⟩
  | 59 => ⟨S_, .i32⟩
  | 60 => ⟨S4x1024, .i32⟩
  | 61 => ⟨S4x1024, .i1⟩
  | 62 => ⟨S_, .i32⟩
  | 63 => ⟨S4x1024, .i32⟩
  | 64 => ⟨S4x1024, .i32⟩
  | 65 => ⟨S4x1024, .i32⟩
  | 66 => ⟨S4x1024x1, .i32⟩
  | 67 => ⟨S1, .i32⟩
  | 68 => ⟨S_, .i32⟩
  | 69 => ⟨S4x1024x1, .i32⟩
  | 70 => ⟨S4x1024x1, .i1⟩
  | 71 => ⟨S1x1x1, .i32⟩
  | 72 => ⟨S4x1024x1, .i32⟩
  | 73 => ⟨S4x1024x1, .i1⟩
  | 74 => ⟨S4x1024x1, .i1⟩
  | 75 => ⟨S_, .i1⟩
  | 76 => ⟨S4x1024, .i1⟩
  | 77 => ⟨S4x1024, .i32⟩
  | 78 => ⟨S_, .i32⟩
  | 79 => ⟨S4x1024, .i32⟩
  | 80 => ⟨S4x1024, .i32⟩
  | 81 => ⟨S_, .i32⟩
  | 82 => ⟨S4x1024, .i32⟩
  | 83 => ⟨S4x1024, .i1⟩
  | 84 => ⟨S_, .i32⟩
  | 85 => ⟨S4x1024, .i32⟩
  | 86 => ⟨S4x1024, .i32⟩
  | 87 => ⟨S4x1024, .i32⟩
  | 88 => ⟨S4x1024x1, .i32⟩
  | 89 => ⟨S4x1024, .i32⟩
  | 90 => ⟨S_, .i32⟩
  | 91 => ⟨S4x1024, .i32⟩
  | 92 => ⟨S4x1024, .i1⟩
  | 93 => ⟨S_, .i32⟩
  | 94 => ⟨S4x1024, .i32⟩
  | 95 => ⟨S4x1024, .i32⟩
  | 96 => ⟨S4x1024, .i32⟩
  | 97 => ⟨S4x1024x1, .i32⟩
  | 98 => ⟨S4x1024, .i32⟩
  | 99 => ⟨S4x2048x1024, .f32⟩
  | 100 => ⟨S4x2048x1024, .f32⟩
  | 101 => ⟨S4x1024x1, .i32⟩
  | 102 => ⟨S_, .i32⟩
  | 103 => ⟨S4x1024x1, .i32⟩
  | 104 => ⟨S4x1024x1, .i1⟩
  | 105 => ⟨S_, .i32⟩
  | 106 => ⟨S4x1024x1, .i32⟩
  | 107 => ⟨S4x1024x1, .i32⟩
  | 108 => ⟨S4x1024x1, .i32⟩
  | 109 => ⟨S1, .i32⟩
  | 110 => ⟨S_, .i32⟩
  | 111 => ⟨S4x1024x1, .i32⟩
  | 112 => ⟨S4x1024x1, .i1⟩
  | 113 => ⟨S1x1x1, .i32⟩
  | 114 => ⟨S4x1024x1, .i32⟩
  | 115 => ⟨S4x1024x1, .i1⟩
  | 116 => ⟨S4x1024x1, .i1⟩
  | 117 => ⟨S_, .i1⟩
  | 118 => ⟨S4x1024, .i1⟩
  | 119 => ⟨S4x1024x1024, .f32⟩
  | 120 => ⟨S4x1024x1024, .i1⟩
  | 121 => ⟨S_, .f32⟩
  | 122 => ⟨S4x1024x1024, .f32⟩
  | 123 => ⟨S4x1024x1024, .f32⟩
  | 124 => ⟨S4x1024x1, .i32⟩
  | 125 => ⟨S_, .i32⟩
  | 126 => ⟨S4x1024x1, .i32⟩
  | 127 => ⟨S4x1024x1, .i1⟩
  | _ => ⟨S4x4096x1024, .f32⟩

abbrev hbmTy0_1 (i : Nat) : BufTy := match i % 128 with
  | 0 => ⟨S_, .i32⟩
  | 1 => ⟨S4x1024x1, .i32⟩
  | 2 => ⟨S4x1024x1, .i32⟩
  | 3 => ⟨S4x1024x1, .i32⟩
  | 4 => ⟨S1, .i32⟩
  | 5 => ⟨S_, .i32⟩
  | 6 => ⟨S4x1024x1, .i32⟩
  | 7 => ⟨S4x1024x1, .i1⟩
  | 8 => ⟨S1x1x1, .i32⟩
  | 9 => ⟨S4x1024x1, .i32⟩
  | 10 => ⟨S4x1024x1, .i1⟩
  | 11 => ⟨S4x1024x1, .i1⟩
  | 12 => ⟨S_, .i1⟩
  | 13 => ⟨S4x1024, .i1⟩
  | 14 => ⟨S4x1024x1024, .f32⟩
  | 15 => ⟨S4x1024x1024, .i1⟩
  | 16 => ⟨S_, .f32⟩
  | 17 => ⟨S4x1024x1024, .f32⟩
  | 18 => ⟨S4x1024x1024, .f32⟩
  | 19 => ⟨S4, .i32⟩
  | 20 => ⟨S4x1, .i32⟩
  | 21 => ⟨S_, .i32⟩
  | 22 => ⟨S4x1, .i32⟩
  | 23 => ⟨S4x1, .i1⟩
  | 24 => ⟨S_, .i32⟩
  | 25 => ⟨S4x1, .i32⟩
  | 26 => ⟨S4x1, .i32⟩
  | 27 => ⟨S4x1, .i32⟩
  | 28 => ⟨S_, .i32⟩
  | 29 => ⟨S4x1024, .i32⟩
  | 30 => ⟨S4x1024, .i1⟩
  | 31 => ⟨S_, .i32⟩
  | 32 => ⟨S4x1024, .i32⟩
  | 33 => ⟨S4x1024, .i32⟩
  | 34 => ⟨S4x1024, .i32⟩
  | 35 => ⟨S4x1024, .i32⟩
  | 36 => ⟨S4x1024x1, .i32⟩
  | 37 => ⟨S4x1024x1, .i32⟩
  | 38 => ⟨S4x1024x2, .i32⟩
  | 39 => ⟨S4x2048x1024, .f32⟩
  | 40 => ⟨S4x3072x1024, .f32⟩
  | 41 => ⟨S_, .i32⟩
  | 42 => ⟨S4x4096, .i32⟩
  | 43 => ⟨S1024, .i32⟩
  | 44 => ⟨S1x1024, .i32⟩
  | 45 => ⟨S4x1024, .i32⟩
  | 46 => ⟨S_, .i32⟩
  | 47 => ⟨S4x1, .i32⟩
  | 48 => ⟨S4x1, .i1⟩
  | 49 => ⟨S_, .i32⟩
  | 50 => ⟨S4x1, .i32⟩
  | 51 => ⟨S4x1, .i32⟩
  | 52 => ⟨S4x1, .i32⟩
  | 53 => ⟨S_, .i32⟩
  | 54 => ⟨S4x1024, .i32⟩
  | 55 => ⟨S4x1024, .i1⟩
  | 56 => ⟨S_, .i32⟩
  | 57 => ⟨S4x1024, .i32⟩
  | 58 => ⟨S4x1024, .i32⟩
  | 59 => ⟨S4x1024, .i32⟩
  | 60 => ⟨S4x1024, .i32⟩
  | 61 => ⟨S4x1024x1, .i32⟩
  | 62 => ⟨S4x1024x1, .i32⟩
  | 63 => ⟨S4x1024x2, .i32⟩
  | 64 => ⟨S4x4096, .i32⟩
  | 65 => ⟨S2048, .i32⟩
  | 66 => ⟨S1x2048, .i32⟩
  | 67 => ⟨S_, .i32⟩
  | 68 => ⟨S1x2048, .i32⟩
  | 69 => ⟨S1x2048, .i32⟩
  | 70 => ⟨S4x2048, .i32⟩
  | 71 => ⟨S1x2048, .i32⟩
  | 72 => ⟨S4x2048, .i32⟩
  | 73 => ⟨S_, .i32⟩
  | 74 => ⟨S4x1, .i32⟩
  | 75 => ⟨S4x1, .i1⟩
  | 76 => ⟨S_, .i32⟩
  | 77 => ⟨S4x1, .i32⟩
  | 78 => ⟨S4x1, .i32⟩
  | 79 => ⟨S4x1, .i32⟩
  | 80 => ⟨S_, .i32⟩
  | 81 => ⟨S4x2048, .i32⟩
  | 82 => ⟨S4x2048, .i1⟩
  | 83 => ⟨S_, .i32⟩
  | 84 => ⟨S4x2048, .i32⟩
  | 85 => ⟨S4x2048, .i32⟩
  | 86 => ⟨S4x2048, .i32⟩
  | 87 => ⟨S4x2048, .i32⟩
  | 88 => ⟨S4x2048x1, .i32⟩
  | 89 => ⟨S4x2048x1, .i32⟩
  | 90 => ⟨S4x2048x2, .i32⟩
  | 91 => ⟨S4x4096, .i32⟩
  | 92 => ⟨S_, .i32⟩
  | 93 => ⟨S4x1024, .i32⟩
  | 94 => ⟨S4x1024, .i32⟩
  | 95 => ⟨S_, .i32⟩
  | 96 => ⟨S4x1, .i32⟩
  | 97 => ⟨S4x1, .i1⟩
  | 98 => ⟨S_, .i32⟩
  | 99 => ⟨S4x1, .i32⟩
  | 100 => ⟨S4x1, .i32⟩
  | 101 => ⟨S4x1, .i32⟩
  | 102 => ⟨S_, .i32⟩
  | 103 => ⟨S4x1024, .i32⟩
  | 104 => ⟨S4x1024, .i1⟩
  | 105 => ⟨S_, .i32⟩
  | 106 => ⟨S4x1024, .i32⟩
  | 107 => ⟨S4x1024, .i32⟩
  | 108 => ⟨S4x1024, .i32⟩
  | 109 => ⟨S4x1024, .i32⟩
  | 110 => ⟨S4x1024x1, .i32⟩
  | 111 => ⟨S4x1024x1, .i32⟩
  | 112 => ⟨S4x1024x2, .i32⟩
  | 113 => ⟨S4x4096, .i32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_call2_v0 : Ref sig .tc := ⟨.hbm, 47, rfl⟩
abbrev main_call2_cst : Ref sig .tc := ⟨.hbm, 48, rfl⟩
abbrev main_call2_c : Ref sig .tc := ⟨.hbm, 49, rfl⟩
abbrev main_call2_v1_0 : Ref sig .tc := ⟨.hbm, 50, rfl⟩
abbrev main_v28 : Ref sig .tc := ⟨.hbm, 51, rfl⟩
abbrev main_v29 : Ref sig .tc := ⟨.hbm, 52, rfl⟩
abbrev main_call3_v0 : Ref sig .tc := ⟨.hbm, 53, rfl⟩
abbrev main_call3_v1_0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call5_c : Ref sig .tc := ⟨.hbm, 59, rfl⟩
abbrev main_call5_v0 : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_v5 : Ref sig .tc := ⟨.hbm, 66, rfl⟩
abbrev main_call5_c_1 : Ref sig .tc := ⟨.hbm, 67, rfl⟩
abbrev main_call5_c_2 : Ref sig .tc := ⟨.hbm, 68, rfl⟩
abbrev main_call5_v6 : Ref sig .tc := ⟨.hbm, 69, rfl⟩
abbrev main_call5_v7 : Ref sig .tc := ⟨.hbm, 70, rfl⟩
abbrev main_call5_v8 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_c_3 : Ref sig .tc := ⟨.hbm, 75, rfl⟩
abbrev main_call5_v12 : Ref sig .tc := ⟨.hbm, 76, rfl⟩
abbrev main_call5_v13 : Ref sig .tc := ⟨.hbm, 77, rfl⟩
abbrev main_call5_c_4 : Ref sig .tc := ⟨.hbm, 78, rfl⟩
abbrev main_call5_v14 : Ref sig .tc := ⟨.hbm, 79, rfl⟩
abbrev main_v34 : Ref sig .tc := ⟨.hbm, 80, rfl⟩
abbrev main_c_7 : Ref sig .tc := ⟨.hbm, 81, rfl⟩
abbrev main_v35 : Ref sig .tc := ⟨.hbm, 82, rfl⟩
abbrev main_v36 : Ref sig .tc := ⟨.hbm, 83, rfl⟩
abbrev main_c_8 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_c_9 : Ref sig .tc := ⟨.hbm, 90, rfl⟩
abbrev main_v42 : Ref sig .tc := ⟨.hbm, 91, rfl⟩
abbrev main_v43 : Ref sig .tc := ⟨.hbm, 92, rfl⟩
abbrev main_c_10 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_call6_c : Ref sig .tc := ⟨.hbm, 102, rfl⟩
abbrev main_call6_v0 : Ref sig .tc := ⟨.hbm, 103, rfl⟩
abbrev main_call6_v1 : Ref sig .tc := ⟨.hbm, 104, rfl⟩
abbrev main_call6_c_0 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_call6_c_1 : Ref sig .tc := ⟨.hbm, 109, rfl⟩
abbrev main_call6_c_2 : Ref sig .tc := ⟨.hbm, 110, rfl⟩
abbrev main_call6_v5 : Ref sig .tc := ⟨.hbm, 111, rfl⟩
abbrev main_call6_v6 : Ref sig .tc := ⟨.hbm, 112, rfl⟩
abbrev main_call6_v7 : Ref sig .tc := ⟨.hbm, 113, rfl⟩
abbrev main_call6_v8 : Ref sig .tc := ⟨.hbm, 114, rfl⟩
abbrev main_call6_v9 : Ref sig .tc := ⟨.hbm, 115, rfl⟩
abbrev main_call6_v10 : Ref sig .tc := ⟨.hbm, 116, rfl⟩
abbrev main_call6_c_3 : Ref sig .tc := ⟨.hbm, 117, rfl⟩
abbrev main_call6_v11 : Ref sig .tc := ⟨.hbm, 118, rfl⟩
abbrev main_call6_v12 : Ref sig .tc := ⟨.hbm, 119, rfl⟩
abbrev main_call6_v13 : Ref sig .tc := ⟨.hbm, 120, rfl⟩
abbrev main_call6_cst : Ref sig .tc := ⟨.hbm, 121, rfl⟩
abbrev main_call6_v14 : Ref sig .tc := ⟨.hbm, 122, rfl⟩
abbrev main_v52 : Ref sig .tc := ⟨.hbm, 123, rfl⟩
abbrev main_v53 : Ref sig .tc := ⟨.hbm, 124, rfl⟩
abbrev main_call7_c : Ref sig .tc := ⟨.hbm, 125, rfl⟩
abbrev main_call7_v0 : Ref sig .tc := ⟨.hbm, 126, rfl⟩
abbrev main_call7_v1 : Ref sig .tc := ⟨.hbm, 127, rfl⟩
abbrev main_call7_c_0 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_call7_c_1 : Ref sig .tc := ⟨.hbm, 132, rfl⟩
abbrev main_call7_c_2 : Ref sig .tc := ⟨.hbm, 133, rfl⟩
abbrev main_call7_v5 : Ref sig .tc := ⟨.hbm, 134, rfl⟩
abbrev main_call7_v6 : Ref sig .tc := ⟨.hbm, 135, rfl⟩
abbrev main_call7_v7 : Ref sig .tc := ⟨.hbm, 136, rfl⟩
abbrev main_call7_v8 : Ref sig .tc := ⟨.hbm, 137, rfl⟩
abbrev main_call7_v9 : Ref sig .tc := ⟨.hbm, 138, rfl⟩
abbrev main_call7_v10 : Ref sig .tc := ⟨.hbm, 139, rfl⟩
abbrev main_call7_c_3 : Ref sig .tc := ⟨.hbm, 140, rfl⟩
abbrev main_call7_v11 : Ref sig .tc := ⟨.hbm, 141, rfl⟩
abbrev main_call7_v12 : Ref sig .tc := ⟨.hbm, 142, rfl⟩
abbrev main_call7_v13 : Ref sig .tc := ⟨.hbm, 143, rfl⟩
abbrev main_call7_cst : Ref sig .tc := ⟨.hbm, 144, rfl⟩
abbrev main_call7_v14 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_c_11 : Ref sig .tc := ⟨.hbm, 149, rfl⟩
abbrev main_v57 : Ref sig .tc := ⟨.hbm, 150, rfl⟩
abbrev main_v58 : Ref sig .tc := ⟨.hbm, 151, rfl⟩
abbrev main_c_12 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_c_13 : Ref sig .tc := ⟨.hbm, 156, rfl⟩
abbrev main_v62 : Ref sig .tc := ⟨.hbm, 157, rfl⟩
abbrev main_v63 : Ref sig .tc := ⟨.hbm, 158, rfl⟩
abbrev main_c_14 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_c_15 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_c_16 : Ref sig .tc := ⟨.hbm, 174, rfl⟩
abbrev main_v77 : Ref sig .tc := ⟨.hbm, 175, rfl⟩
abbrev main_v78 : Ref sig .tc := ⟨.hbm, 176, rfl⟩
abbrev main_c_17 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_c_18 : Ref sig .tc := ⟨.hbm, 181, rfl⟩
abbrev main_v82 : Ref sig .tc := ⟨.hbm, 182, rfl⟩
abbrev main_v83 : Ref sig .tc := ⟨.hbm, 183, rfl⟩
abbrev main_c_19 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_c_20 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_c_21 : Ref sig .tc := ⟨.hbm, 201, rfl⟩
abbrev main_v99 : Ref sig .tc := ⟨.hbm, 202, rfl⟩
abbrev main_v100 : Ref sig .tc := ⟨.hbm, 203, rfl⟩
abbrev main_c_22 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_c_23 : Ref sig .tc := ⟨.hbm, 208, rfl⟩
abbrev main_v104 : Ref sig .tc := ⟨.hbm, 209, rfl⟩
abbrev main_v105 : Ref sig .tc := ⟨.hbm, 210, rfl⟩
abbrev main_c_24 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_c_25 : Ref sig .tc := ⟨.hbm, 220, rfl⟩
abbrev main_v114 : Ref sig .tc := ⟨.hbm, 221, rfl⟩
abbrev main_v115 : Ref sig .tc := ⟨.hbm, 222, rfl⟩
abbrev main_c_26 : Ref sig .tc := ⟨.hbm, 223, rfl⟩
abbrev main_v116 : Ref sig .tc := ⟨.hbm, 224, rfl⟩
abbrev main_v117 : Ref sig .tc := ⟨.hbm, 225, rfl⟩
abbrev main_c_27 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_c_28 : Ref sig .tc := ⟨.hbm, 230, rfl⟩
abbrev main_v121 : Ref sig .tc := ⟨.hbm, 231, rfl⟩
abbrev main_v122 : Ref sig .tc := ⟨.hbm, 232, rfl⟩
abbrev main_c_29 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩

abbrev nD : Nat := 1
abbrev τ : Topo := Topo.v7x

variable {F : FTy → Type} [FloatOps F]
-- ==== Proof.Setup.lean ====
/-
  The program as the launch theorem reads it, the ghost state of the run (the SparseCore handshakes, the
  pipelines' rounds, the transfers' counters), the places of the three arrays the SparseCore call touches, and
  what that call computes of them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Pointwise
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UPipe : Type := UR sig nD τ
abbrev UU : Type := UH × (UPipe × Counters)

local notation "𝕄" => MT nD τ sig (HIx 1) (Elt F) ℕ UU ℕ

abbrev EH : Emb UH (MT nD τ sig (HIx 1) (Elt F) ℕ UU ℕ) := embL

def EP : Emb UPipe (MT nD τ sig (HIx 1) (Elt F) ℕ UU ℕ) := (Emb.inl : Emb UPipe (UPipe × Counters)).trans embR

instance EP_landsIn : (EP (F := F)).LandsIn (upEmb : UEmb _ (MT nD τ sig (HIx 1) (Elt F) ℕ UU ℕ)) := by
  unfold EP; infer_instance

end Cert.Proof.Run

end
-- ==== Proof.Bodies.lean ====
module

public import proofs.«01_k».proof.Proof.Setup
public import Idealize.ShloMosaic.Lib.WritesUnit

/-! # The kernel bodies of the three TensorCore calls, run

Each body is run once, over arbitrary whole windows and arbitrary contents; the values it leaves are named as functions
of the contents it found. -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

/-! ## Reading and writing one rectangle -/

/-- The contents of the rectangle at `off` of the given sizes. -/
def part {α : Type} {s : Shape} (off size : Fin s.rank → ℕ) (inb : ∀ a, off a + size a ≤ s.size a) (X : s.Idx → α) :
    (Rect.unit off size inb).shape.Idx → α := fun x => X ((Rect.unit off size inb).emb x)

section Rects

variable {Val : EltTy → Type} {κ : Kind} {sp : Space} {s : Shape} {e : EltTy}

theorem readAt_part (v : View sig κ sp s e) (off size : Fin s.rank → ℕ) (inb : ∀ a, off a + size a ≤ s.size a)
    (f : v.ty.Contents Val) :
    v.readAt Val (Rect.unit off size inb).toLoadRect f = part off size inb (v.read Val f) := rfl

/-- A store over the whole block leaves its payload. -/
theorem read_full (v : View sig κ sp s e) (f : v.ty.Contents Val) (off : Fin s.rank → ℕ) (hoff : off = fun _ => 0)
    (inb : ∀ a, off a + s.size a ≤ s.size a) (w : s.Idx → Val e) :
    v.read Val (v.writes Val f [(⟨Rect.unit off s.size inb, w⟩ : View.Piece Val s e)]) = w := by
  funext y
  exact View.read_writes_cons_unit_of_mem v f inb w [] y y hoff fun a => (Nat.zero_add _).symm

end Rects

theorem off3_zero : (![0, 0, 0] : Fin 3 → ℕ) = fun _ => 0 := by
  funext a; fin_cases a <;> rfl

variable [FloatOps F]

/-! ## Scores -/

section Score

variable (i : grid0.Coords)

/-- The even rows of the block of rows. -/
abbrev evenHalf (X0 : S1x1024x2048.Idx → Elt F .f32) : Vec F S1x1024x1024 .f32 :=
  part (s := S1x1024x2048) ![0, 0, 0] S1x1024x1024.size inb_S1x1024x2048_S1x1024x1024_0_0_0 X0

/-- The odd rows of the block of columns. -/
abbrev oddHalf (X1 : S1x512x2048.Idx → Elt F .f32) : Vec F S1x512x1024 .f32 :=
  part (s := S1x512x2048) ![0, 0, 1024] S1x512x1024.size inb_S1x512x2048_S1x512x1024_0_0_1024 X1

/-- The running maximum after a point. -/
def scoreM (X0 : S1x1024x2048.Idx → Elt F .f32) (X1 : S1x512x2048.Idx → Elt F .f32) (X2 : S1x1x1024.Idx → Elt F .f32) :
    S1x1x1024.Idx → Elt F .f32 :=
  if k0_cond1 i = 1#1 then k0_pay2 (k0_pay9 i (evenHalf X0) (oddHalf X1))
  else k0_pay6 (k0_pay9 i (evenHalf X0) (oddHalf X1))
    (part (s := S1x1x1024) ![0, 0, 0] S1x1x1024.size inb_S1x1x1024_S1x1x1024_0_0_0 X2)

/-- The running position of the maximum after a point. -/
def scoreI (X0 : S1x1024x2048.Idx → Elt F .f32) (X1 : S1x512x2048.Idx → Elt F .f32) (X2 : S1x1x1024.Idx → Elt F .f32)
    (X3 : S1x1x1024.Idx → Elt F .i32) : S1x1x1024.Idx → Elt F .i32 :=
  if k0_cond1 i = 1#1 then k0_pay3 (k0_pay10 i (evenHalf X0) (oddHalf X1))
  else k0_pay7 (k0_pay9 i (evenHalf X0) (oddHalf X1)) (k0_pay10 i (evenHalf X0) (oddHalf X1))
    (part (s := S1x1x1024) ![0, 0, 0] S1x1x1024.size inb_S1x1x1024_S1x1x1024_0_0_0 X2)
    (part (s := S1x1x1024) ![0, 0, 0] S1x1x1024.size inb_S1x1x1024_S1x1x1024_0_0_0 X3)

/-- A point is either the first of its row block or a later one. -/
theorem cond_cases : (k0_cond1 i = 1#1 ∧ ¬ k0_cond2 i = 1#1) ∨ (¬ k0_cond1 i = 1#1 ∧ k0_cond2 i = 1#1) := by
  have h : ∀ j : Fin 4, (Scalar.cmpi .ne (Scalar.extui (Scalar.cmpi .eq (BitVec.ofNat 32 j.val) 0#32) : BitVec 32) 0#32 = 1#1
      ∧ ¬ Scalar.cmpi .ne (Scalar.extui (Scalar.cmpi .sgt (BitVec.ofNat 32 j.val) 0#32) : BitVec 32) 0#32 = 1#1)
      ∨ (¬ Scalar.cmpi .ne (Scalar.extui (Scalar.cmpi .eq (BitVec.ofNat 32 j.val) 0#32) : BitVec 32) 0#32 = 1#1
      ∧ Scalar.cmpi .ne (Scalar.extui (Scalar.cmpi .sgt (BitVec.ofNat 32 j.val) 0#32) : BitVec 32) 0#32 = 1#1) := by
    decide
  exact h (i 2)

set_option maxRecDepth 8000 in
set_option maxHeartbeats 600000 in
theorem score_run (c : Dev nD)
  (M0 : Memref sig .tc .vmem S1x1024x2048 .f32) (h0 : M0.IsWhole) (M1 : Memref sig .tc .vmem S1x512x2048 .f32) (h1 : M1.IsWhole)
  (M2 : Memref sig .tc .vmem S1x1x1024 .f32) (h2 : M2.IsWhole) (M3 : Memref sig .tc .vmem S1x1x1024 .i32) (h3 : M3.IsWhole)
    (X0 : S1x1024x2048.Idx → Elt F .f32) (X1 : S1x512x2048.Idx → Elt F .f32) (X2 : S1x1x1024.Idx → Elt F .f32) (X3 : S1x1x1024.Idx → Elt F .i32)
    (Q : PUnit → sProp 𝕄) :
    iprop(owns c.tc M0 fullShare X0 ∗ owns c.tc M1 fullShare X1 ∗ owns c.tc M2 fullShare X2 ∗ owns c.tc M3 fullShare X3
        ∗ (owns c.tc M0 fullShare X0 ∗ owns c.tc M1 fullShare X1 ∗ owns c.tc M2 fullShare (scoreM i X0 X1 X2)
          ∗ owns c.tc M3 fullShare (scoreI i X0 X1 X2 X3) -∗ Q ⟨⟩))
      ⊢ wp frame (wpE (defs₀ (F := F)) 𝒱₀ (c.tc) none) Set.univ (cc0__score_kernel i M0 h0 M1 h1 M2 h2 M3 h3) Q := by
  simp only [cc0__score_kernel_eq_skeleton]; unfold cc0__score_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, Hk⟩
  rcases cond_cases i with ⟨hc1, hc2⟩ | ⟨hc1, hc2⟩
  all_goals
    sl_exec
    sl_step
    iapply Hk
    isplitl [H0]
    · iexists _; isplitr
      · ipureintro; exact hf0
      · iexact H0
    isplitl [H1]
    · iexists _; isplitr
      · ipureintro; exact hf1
      · iexact H1
    isplitl [H2]
    · iexists _; isplitr [H2]
      swap
      · iexact H2
      · ipureintro
        refine (read_full M2.view f2 ![0, 0, 0] off3_zero inb_S1x1x1024_S1x1x1024_0_0_0 _).trans ?_
        unfold scoreM
        first | rw [if_pos hc1] | rw [if_neg hc1]
        subst hf0; subst hf1; subst hf2; simp only [readAt_part]; try rfl
    · iexists _; isplitr [H3]
      swap
      · iexact H3
      · ipureintro
        refine (read_full M3.view f3 ![0, 0, 0] off3_zero inb_S1x1x1024_S1x1x1024_0_0_0 _).trans ?_
        unfold scoreI
        first | rw [if_pos hc1] | rw [if_neg hc1]
        subst hf0; subst hf1; subst hf2; subst hf3; simp only [readAt_part]; try rfl

end Score

/-! ## Selection -/

section Select

variable (A : S1x1x2048.Idx → Elt F .f32) (C : S1x2048x1.Idx → Elt F .f32) (N : S1x1x2048.Idx → Elt F .i32)

abbrev selRow : FVec F S1x2048 .f32 := k1_pay2 (part (s := S1x1x2048) ![0, 0, 0] S1x1x2048.size inb_S1x1x2048_S1x1x2048_0_0_0 A)
abbrev selIota : IVec S1x2048 32 := iota .tc S1x2048 32 [1] iota_S1x2048_d1_w32

/-- The count of better rows among the first three quarters of the column. -/
def selCount6 : IVec S1x2048 32 :=
  k1_pay8 (selRow A) selIota
    (k1_pay6 (selRow A) selIota
      (k1_pay4 (part (s := S1x1x2048) ![0, 0, 0] S1x1x2048.size inb_S1x1x2048_S1x1x2048_0_0_0 A)
        (part (s := S1x2048x1) ![0, 0, 0] S1x256x1.size inb_S1x2048x1_S1x256x1_0_0_0 C))
      (k1_pay5 (part (s := S1x1x2048) ![0, 0, 0] S1x1x2048.size inb_S1x1x2048_S1x1x2048_0_0_0 A)
        (part (s := S1x2048x1) ![0, 256, 0] S1x256x1.size inb_S1x2048x1_S1x256x1_0_256_0 C))
      (part (s := S1x2048x1) ![0, 512, 0] S1x256x1.size inb_S1x2048x1_S1x256x1_0_512_0 C)
      (part (s := S1x2048x1) ![0, 768, 0] S1x256x1.size inb_S1x2048x1_S1x256x1_0_768_0 C))
    (k1_pay7 (part (s := S1x2048x1) ![0, 1024, 0] S1x256x1.size inb_S1x2048x1_S1x256x1_0_1024_0 C))
    (iota .tc S256x1 32 [0] iota_S256x1_d0_w32)
    (part (s := S1x2048x1) ![0, 1280, 0] S1x256x1.size inb_S1x2048x1_S1x256x1_0_1280_0 C)

/-- Which tokens stay unmerged. -/
def selUnm : IVec S1x2048 1 :=
  k1_pay13 (selRow A) selIota (selCount6 A C)
    (k1_pay10 (selRow A) (part (s := S1x2048x1) ![0, 1536, 0] S1x256x1.size inb_S1x2048x1_S1x256x1_0_1536_0 C))
    (k1_pay11 (selRow A) (part (s := S1x2048x1) ![0, 1536, 0] S1x256x1.size inb_S1x2048x1_S1x256x1_0_1536_0 C)) k1_pay12
    (part (s := S1x2048x1) ![0, 1792, 0] S1x256x1.size inb_S1x2048x1_S1x256x1_0_1792_0 C)

/-- The flags as words. -/
def selFlag : IVec S1x2048 32 :=
  k1_pay14 (selRow A) selIota (selCount6 A C)
    (k1_pay10 (selRow A) (part (s := S1x2048x1) ![0, 1536, 0] S1x256x1.size inb_S1x2048x1_S1x256x1_0_1536_0 C))
    (k1_pay11 (selRow A) (part (s := S1x2048x1) ![0, 1536, 0] S1x256x1.size inb_S1x2048x1_S1x256x1_0_1536_0 C)) k1_pay12
    (part (s := S1x2048x1) ![0, 1792, 0] S1x256x1.size inb_S1x2048x1_S1x256x1_0_1792_0 C)

/-- The prefix sums of the flags over windows of two, then of four. -/
def selPre2 : IVec S1x2048 32 :=
  k1_pay15 (selRow A) selIota (selCount6 A C)
    (k1_pay10 (selRow A) (part (s := S1x2048x1) ![0, 1536, 0] S1x256x1.size inb_S1x2048x1_S1x256x1_0_1536_0 C))
    (k1_pay11 (selRow A) (part (s := S1x2048x1) ![0, 1536, 0] S1x256x1.size inb_S1x2048x1_S1x256x1_0_1536_0 C)) k1_pay12
    (part (s := S1x2048x1) ![0, 1792, 0] S1x256x1.size inb_S1x2048x1_S1x256x1_0_1792_0 C)

/-- The prefix sums over windows of five hundred and twelve. -/
def selPre9 : IVec S1x2048 32 := k1_pay17 selIota (selPre2 A C) (k1_pay16 selIota) 4#32

/-- The exclusive prefix count. -/
def selPos : IVec S1x2048 32 := k1_pay18 selIota (selFlag A C) (selPre9 A C) 512#32

/-- The positions of the even tokens in the merged sequence. -/
def selEvens : S1x1x2048.Idx → Elt F .i32 :=
  k1_pay19 (k1_pay3 (part (s := S1x1x2048) ![0, 0, 0] S1x1x2048.size inb_S1x1x2048_S1x1x2048_0_0_0 N)) selIota (selUnm A C) (selFlag A C)
    (selPre9 A C) 512#32

/-- The gather rows, chunk by chunk. -/
def selGather (i : grid1.Coords) : S1x1024x1.Idx → Elt F .i32 := fun y =>
  if h0 : (y 1).val < 256 then
    k1_pay21 (BitVec.ofNat 32 (i 0).val) selIota (selUnm A C) (selFlag A C) (selPre9 A C) 512#32
      (ix3 ⟨0, by decide⟩ ⟨(y 1).val, h0⟩ ⟨0, by decide⟩ : S1x256x1.Idx)
  else if h1 : (y 1).val < 512 then
    k1_pay22 (selUnm A C) (selPos A C) (k1_pay20 (BitVec.ofNat 32 (i 0).val) selIota)
      (ix3 ⟨0, by decide⟩ ⟨(y 1).val - 256, by omega⟩ ⟨0, by decide⟩ : S1x256x1.Idx)
  else if h2 : (y 1).val < 768 then
    k1_pay23 (selUnm A C) (selPos A C) (k1_pay20 (BitVec.ofNat 32 (i 0).val) selIota)
      (ix3 ⟨0, by decide⟩ ⟨(y 1).val - 512, by omega⟩ ⟨0, by decide⟩ : S1x256x1.Idx)
  else
    k1_pay1 (k1_pay24 (selUnm A C) (selPos A C)) 0#32 (k1_pay25 (k1_pay20 (BitVec.ofNat 32 (i 0).val) selIota))
      (ix3 ⟨0, by decide⟩ ⟨(y 1).val - 768, by have h : (y 1).val < 1024 := (y 1).isLt; omega⟩ ⟨0, by decide⟩ : S1x256x1.Idx)

set_option maxRecDepth 8000 in
set_option maxHeartbeats 600000 in
theorem select_run (c : Dev nD) (i : grid1.Coords)
  (M0 : Memref sig .tc .vmem S1x1x2048 .f32) (h0 : M0.IsWhole) (M1 : Memref sig .tc .vmem S1x2048x1 .f32) (h1 : M1.IsWhole)
  (M2 : Memref sig .tc .vmem S1x1x2048 .i32) (h2 : M2.IsWhole) (M3 : Memref sig .tc .vmem S1x1x2048 .i32) (h3 : M3.IsWhole)
  (M4 : Memref sig .tc .vmem S1x1024x1 .i32) (h4 : M4.IsWhole)
    (X3 : S1x1x2048.Idx → Elt F .i32) (X4 : S1x1024x1.Idx → Elt F .i32)
    (Q : PUnit → sProp 𝕄) :
    iprop(owns c.tc M0 fullShare A ∗ owns c.tc M1 fullShare C ∗ owns c.tc M2 fullShare N ∗ owns c.tc M3 fullShare X3
        ∗ owns c.tc M4 fullShare X4
        ∗ (owns c.tc M0 fullShare A ∗ owns c.tc M1 fullShare C ∗ owns c.tc M2 fullShare N
          ∗ owns c.tc M3 fullShare (selEvens A C N) ∗ owns c.tc M4 fullShare (selGather A C i) -∗ Q ⟨⟩))
      ⊢ wp frame (wpE (defs₀ (F := F)) 𝒱₀ (c.tc) none) Set.univ (cc1__select_kernel i M0 h0 M1 h1 M2 h2 M3 h3 M4 h4) Q := by
  simp only [cc1__select_kernel_eq_skeleton]; unfold cc1__select_kernel_skel
  simp only [k1_part1_eq_skeleton, k1_part2_eq_skeleton, k1_part3_eq_skeleton, k1_part4_eq_skeleton, k1_part5_eq_skeleton,
    k1_part6_eq_skeleton, k1_part7_eq_skeleton]
  unfold k1_part1_skel k1_part2_skel k1_part3_skel k1_part4_skel k1_part5_skel k1_part6_skel k1_part7_skel
  unfold owns
  iintro ⟨⟨%f0, %hf0, H0⟩, ⟨%f1, %hf1, H1⟩, ⟨%f2, %hf2, H2⟩, ⟨%f3, %hf3, H3⟩, ⟨%f4, %hf4, H4⟩, Hk⟩
  sl_exec
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr [H3]
    swap
    · iexact H3
    · ipureintro
      refine (read_full M3.view f3 ![0, 0, 0] off3_zero inb_S1x1x2048_S1x1x2048_0_0_0 _).trans ?_
      subst hf0; subst hf1; subst hf2; simp only [readAt_part]; try rfl
  · iexists _; isplitr [H4]
    swap
    · iexact H4
    · ipureintro
      subst hf0; subst hf1
      funext y
      have hy : (y 1).val < 1024 := (y 1).isLt
      have hy0 : (y 0).val = 0 := by have h : (y 0).val < 1 := (y 0).isLt; omega
      have hy2 : (y 2).val = 0 := by have h : (y 2).val < 1 := (y 2).isLt; omega
      unfold selGather
      by_cases k0 : (y 1).val < 256
      · rw [dif_pos k0]
        refine (View.read_writes_cons_unit_of_not_mem M4.view f4 _ _ _ y rfl (1 : Fin 3) (.inl (show (y 1).val < 768 by omega))).trans ?_
        refine (View.read_writes_cons_unit_of_not_mem M4.view f4 _ _ _ y rfl (1 : Fin 3) (.inl (show (y 1).val < 512 by omega))).trans ?_
        refine (View.read_writes_cons_unit_of_not_mem M4.view f4 _ _ _ y rfl (1 : Fin 3) (.inl (show (y 1).val < 256 by omega))).trans ?_
        exact (View.read_writes_cons_unit_of_mem M4.view f4 _ _ _ y (ix3 ⟨0, by decide⟩ ⟨(y 1).val, k0⟩ ⟨0, by decide⟩ : S1x256x1.Idx) rfl (fun a => by
          fin_cases a
          · exact hy0
          · exact (Nat.zero_add _).symm
          · exact hy2)).trans (by simp only [readAt_part]; rfl)
      rw [dif_neg k0]
      by_cases k1 : (y 1).val < 512
      · rw [dif_pos k1]
        refine (View.read_writes_cons_unit_of_not_mem M4.view f4 _ _ _ y rfl (1 : Fin 3) (.inl (show (y 1).val < 768 by omega))).trans ?_
        refine (View.read_writes_cons_unit_of_not_mem M4.view f4 _ _ _ y rfl (1 : Fin 3) (.inl (show (y 1).val < 512 by omega))).trans ?_
        exact (View.read_writes_cons_unit_of_mem M4.view f4 _ _ _ y (ix3 ⟨0, by decide⟩ ⟨(y 1).val - 256, by omega⟩ ⟨0, by decide⟩ : S1x256x1.Idx) rfl (fun a => by
          fin_cases a
          · exact hy0
          · show (y 1).val = 256 + ((y 1).val - 256); omega
          · exact hy2)).trans (by simp only [readAt_part]; rfl)
      rw [dif_neg k1]
      by_cases k2 : (y 1).val < 768
      · rw [dif_pos k2]
        refine (View.read_writes_cons_unit_of_not_mem M4.view f4 _ _ _ y rfl (1 : Fin 3) (.inl (show (y 1).val < 768 by omega))).trans ?_
        exact (View.read_writes_cons_unit_of_mem M4.view f4 _ _ _ y (ix3 ⟨0, by decide⟩ ⟨(y 1).val - 512, by omega⟩ ⟨0, by decide⟩ : S1x256x1.Idx) rfl (fun a => by
          fin_cases a
          · exact hy0
          · show (y 1).val = 512 + ((y 1).val - 512); omega
          · exact hy2)).trans (by simp only [readAt_part]; rfl)
      rw [dif_neg k2]
      exact (View.read_writes_cons_unit_of_mem M4.view f4 _ _ _ y (ix3 ⟨0, by decide⟩ ⟨(y 1).val - 768, by omega⟩ ⟨0, by decide⟩ : S1x256x1.Idx) rfl (fun a => by
          fin_cases a
          · exact hy0
          · show (y 1).val = 768 + ((y 1).val - 768); omega
          · exact hy2)).trans (by simp only [readAt_part]; rfl)

end Select

/-! ## Destinations -/

section Dst

set_option maxRecDepth 8000 in
set_option maxHeartbeats 600000 in
theorem dst_run (c : Dev nD) (i : grid3.Coords)
  (M0 : Memref sig .tc .vmem S1x2048x2048 .f32) (h0 : M0.IsWhole) (M1 : Memref sig .tc .vmem S1x1x2048 .i32) (h1 : M1.IsWhole)
  (M2 : Memref sig .tc .vmem S1x1x2048 .i32) (h2 : M2.IsWhole) (M3 : Memref sig .tc .vmem S1x512x1024 .f32) (h3 : M3.IsWhole)
    (X : S1x2048x2048.Idx → Elt F .f32) (N E : S1x1x2048.Idx → Elt F .i32) (X3 : S1x512x1024.Idx → Elt F .f32)
    (Q : PUnit → sProp 𝕄) :
    iprop(owns c.tc M0 fullShare X ∗ owns c.tc M1 fullShare N ∗ owns c.tc M2 fullShare E ∗ owns c.tc M3 fullShare X3
        ∗ (owns c.tc M0 fullShare X ∗ owns c.tc M1 fullShare N ∗ owns c.tc M2 fullShare E
          ∗ owns c.tc M3 fullShare (k3_pay1 i (part (s := S1x1x2048) ![0, 0, 0] S1x1x2048.size inb_S1x1x2048_S1x1x2048_0_0_0 N)
              (part (s := S1x1x2048) ![0, 0, 0] S1x1x2048.size inb_S1x1x2048_S1x1x2048_0_0_0 E)
              (part (s := S1x2048x2048) ![0, 0, 0] S1x2048x1024.size inb_S1x2048x2048_S1x2048x1024_0_0_0 X)
              (part (s := S1x2048x2048) (k3_off1 i) S1x512x1024.size (k3_off1_inb i) X)) -∗ Q ⟨⟩))
      ⊢ wp frame (wpE (defs₀ (F := F)) 𝒱₀ (c.tc) none) Set.univ (cc3__dst_kernel i M0 h0 M1 h1 M2 h2 M3 h3) Q := by
  simp only [cc3__dst_kernel_eq_skeleton]; unfold cc3__dst_kernel_skel
  unfold owns
  iintro ⟨⟨%f0, %hf0, H0⟩, ⟨%f1, %hf1, H1⟩, ⟨%f2, %hf2, H2⟩, ⟨%f3, %hf3, H3⟩, Hk⟩
  sl_exec
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  · iexists _; isplitr [H3]
    swap
    · iexact H3
    · ipureintro
      refine (read_full M3.view f3 ![0, 0, 0] off3_zero inb_S1x512x1024_S1x512x1024_0_0_0 _).trans ?_
      subst hf0; subst hf1; subst hf2; simp only [readAt_part]; try rfl

end Dst

end Cert.Proof.Run

end
-- ==== Proof.Regions.lean ====
module

public import proofs.«01_k».proof.Proof.Bodies
public import Idealize.ShloMosaic.Lib.Pipeline.Frame
public import Idealize.ShloMosaic.Lib.Pipeline.FrameBody

/-! # The three pipelined calls: their data and their bodies

Each call's data are a function of the valuation it is entered at. -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F]

/-- The valuations a device runs through. -/
abbrev Vals (F : FTy → Type) : Type := Dev nD → Valuation τ sig (Elt F)

/-- The wait pairs at or below the level of call `n`. -/
def lowPairs (c : Dev nD) (n : ℕ) : Set (SemLoc sig × HIx 1) :=
  {p | (K (F := F)).lev (SparseCore.T c, p.1) p.2 ≤ 8 * n}

variable (W : Vals F)

/-! ## Scores -/

section Scores

variable (c : Dev nD)

abbrev sBlk0 (t : Fin cfg0.N) : S1x1024x2048.Idx → Elt F .f32 := ((cfg0.win 0).blk t).view.read (Elt F) (W c main_v0)
abbrev sBlk1 (t : Fin cfg0.N) : S1x512x2048.Idx → Elt F .f32 := ((cfg0.win 1).blk t).view.read (Elt F) (W c main_v0)

/-- The running maximum and its position after point `n`. -/
def sAcc : (n : ℕ) → n < cfg0.N → (S1x1x1024.Idx → Elt F .f32) × (S1x1x1024.Idx → Elt F .i32)
  | 0, h =>
    (k0_pay2 (k0_pay9 (grid0.coords ⟨0, h⟩) (evenHalf (sBlk0 W c ⟨0, h⟩)) (oddHalf (sBlk1 W c ⟨0, h⟩))),
      k0_pay3 (k0_pay10 (grid0.coords ⟨0, h⟩) (evenHalf (sBlk0 W c ⟨0, h⟩)) (oddHalf (sBlk1 W c ⟨0, h⟩))))
  | n + 1, h =>
    (scoreM (grid0.coords ⟨n + 1, h⟩) (sBlk0 W c ⟨n + 1, h⟩) (sBlk1 W c ⟨n + 1, h⟩) (sAcc n (Nat.lt_of_succ_lt h)).1,
      scoreI (grid0.coords ⟨n + 1, h⟩) (sBlk0 W c ⟨n + 1, h⟩) (sBlk1 W c ⟨n + 1, h⟩) (sAcc n (Nat.lt_of_succ_lt h)).1
        (sAcc n (Nat.lt_of_succ_lt h)).2)

/-- The first call's data. -/
def dat0 : Pipeline.Dat τ (Elt F) (HIx 1) ℕ UU ℕ cfg0 c where
  A w := (fun b : Ref sig .tc => (W c b : Buf (Elt F) ((c.tc : Thread nD τ).loc b))) (Pipeline.arrRef cfg0.spec w)
  after w t := match w with
    | ⟨0, _⟩ => sBlk0 W c t
    | ⟨1, _⟩ => sBlk1 W c t
    | ⟨2, _⟩ => (sAcc W c t.val t.isLt).1
    | ⟨3, _⟩ => (sAcc W c t.val t.isLt).2
  Φ _ := Pipeline.scopedRest (Ix := HIx 1) (Name := ℕ) (U := UU) (Lvl := ℕ) (Val := Elt F) spec0 c
  q w := Pipeline.shareOf cfg0.spec w
  owed _ := (K (F := F)).Otc c 0
  recorded _ := lowPairs (F := F) c 0

theorem idle0_false (w : Fin 4) (i : grid0.Coords) : cfg0.idle w i = false := by
  have h := cond_cases i
  fin_cases w
  · rfl
  · rfl
  all_goals
    show (!(k0_cond1 i == 1#1) && !(k0_cond2 i == 1#1)) = false
    rcases h with ⟨h, -⟩ | ⟨-, h⟩ <;> simp [h]

/-- The reset points are those of the first column block. -/
theorem cond1_iff (t : Fin cfg0.N) : k0_cond1 (grid0.coords t) = 1#1 ↔ t.val % 4 = 0 := by
  have h : ∀ t : Fin grid0.N, k0_cond1 (grid0.coords t) = 1#1 ↔ t.val % 4 = 0 := by decide
  exact h t

theorem sBefore0 (t : Fin cfg0.N) (d) : (dat0 W c).before 0 t d = sBlk0 W c t :=
  ((dat0 W c).before_in_eq_fetched 0 rfl (idle0_false 0) (fun _ _ _ => rfl) (fun _ => rfl) t d).trans rfl

theorem sBefore1 (t : Fin cfg0.N) (d) : (dat0 W c).before 1 t d = sBlk1 W c t :=
  ((dat0 W c).before_in_eq_fetched 1 rfl (idle0_false 1) (fun _ _ _ => rfl) (fun _ => rfl) t d).trans rfl

theorem not_flush2 (t : Fin cfg0.N) (h0 : ¬ t.val % 4 = 0) :
    (cfg0.win 2).flush ⟨t.val - 1, Nat.lt_of_le_of_lt (Nat.sub_le _ _) t.isLt⟩ = false := by
  rw [Bool.eq_false_iff]; intro h
  have := (flush0_2 _).mp h
  dsimp only at this; omega

theorem not_flush3 (t : Fin cfg0.N) (h0 : ¬ t.val % 4 = 0) :
    (cfg0.win 3).flush ⟨t.val - 1, Nat.lt_of_le_of_lt (Nat.sub_le _ _) t.isLt⟩ = false := by
  rw [Bool.eq_false_iff]; intro h
  have := (flush0_3 _).mp h
  dsimp only at this; omega

theorem sBefore2 (t : Fin cfg0.N) (h0 : ¬ t.val % 4 = 0) (d) :
    (dat0 W c).before 2 t d = (sAcc W c (t.val - 1) (Nat.lt_of_le_of_lt (Nat.sub_le _ _) t.isLt)).1 :=
  (dat0 W c).before_out_kept 2 rfl t (by rintro h; rw [h] at h0; exact h0 rfl) (not_flush2 t h0) (idle0_false 2) (fun _ _ => rfl) d

theorem sBefore3 (t : Fin cfg0.N) (h0 : ¬ t.val % 4 = 0) (d) :
    (dat0 W c).before 3 t d = (sAcc W c (t.val - 1) (Nat.lt_of_le_of_lt (Nat.sub_le _ _) t.isLt)).2 :=
  (dat0 W c).before_out_kept 3 rfl t (by rintro h; rw [h] at h0; exact h0 rfl) (not_flush3 t h0) (idle0_false 3) (fun _ _ => rfl) d

/-- One step of the running maximum, whatever the block held at a reset point. -/
theorem sAcc_step (t : Fin cfg0.N) (X2 : S1x1x1024.Idx → Elt F .f32) (X3 : S1x1x1024.Idx → Elt F .i32)
    (h2 : ¬ t.val % 4 = 0 → X2 = (sAcc W c (t.val - 1) (Nat.lt_of_le_of_lt (Nat.sub_le _ _) t.isLt)).1)
    (h3 : ¬ t.val % 4 = 0 → X3 = (sAcc W c (t.val - 1) (Nat.lt_of_le_of_lt (Nat.sub_le _ _) t.isLt)).2) :
    scoreM (grid0.coords t) (sBlk0 W c t) (sBlk1 W c t) X2 = (sAcc W c t.val t.isLt).1
      ∧ scoreI (grid0.coords t) (sBlk0 W c t) (sBlk1 W c t) X2 X3 = (sAcc W c t.val t.isLt).2 := by
  by_cases h0 : t.val % 4 = 0
  · have hc := (cond1_iff t).mpr h0
    obtain ⟨n, hn⟩ := t
    cases n with
    | zero =>
      dsimp only [sAcc]
      unfold scoreM scoreI
      rw [if_pos hc, if_pos hc]
      exact ⟨rfl, rfl⟩
    | succ n =>
      dsimp only [sAcc]
      unfold scoreM scoreI
      rw [if_pos hc, if_pos hc, if_pos hc, if_pos hc]
      exact ⟨rfl, rfl⟩
  · rw [h2 h0, h3 h0]
    obtain ⟨n, hn⟩ := t
    cases n with
    | zero => exact absurd rfl h0
    | succ n => dsimp only [sAcc, Nat.add_sub_cancel]; exact ⟨rfl, rfl⟩

set_option maxHeartbeats 1000000 in
theorem scores_body : Pipeline.BodyObligation (dat0 (F := F) W c) (defs₀ (F := F)) 𝒱₀ none Set.univ := fun t => by
  rw [bigSep_W0, bigSep_W0, show (dat0 W c).owesAt none t.castSucc = (dat0 W c).owesAt none t.succ from rfl,
    show (dat0 W c).Φ t.castSucc = (dat0 W c).Φ t.succ from rfl]
  have hi2 : idle0 2 (grid0.coords t) = false := idle0_false 2 _
  have hi3 : idle0 3 (grid0.coords t) = false := idle0_false 3 _
  simp only [hi2, hi3]
  iintro ⟨HΦ, HO, ⟨%d0, H0⟩, ⟨%d1, H1⟩, ⟨%d2, H2⟩, ⟨%d3, H3⟩⟩
  have e0 := sBefore0 W c t d0
  have e1 := sBefore1 W c t d1
  obtain ⟨eM, eI⟩ := sAcc_step W c t ((dat0 W c).before 2 t d2) ((dat0 W c).before 3 t d3)
    (fun h => sBefore2 W c t h d2) (fun h => sBefore3 W c t h d3)
  rw [e0, e1]
  iapply (score_run (grid0.coords t) c (st0_0 t) _ (st0_1 t) _ (st0_2 t) _ (st0_3 t) _ (sBlk0 W c t) (sBlk1 W c t)
    ((dat0 W c).before 2 t d2) ((dat0 W c).before 3 t d3))
  isplitl [H0]; · iexact H0
  isplitl [H1]; · iexact H1
  isplitl [H2]; · iexact H2
  isplitl [H3]; · iexact H3
  rw [eM, eI]
  iintro ⟨H0, H1, H2, H3⟩
  isplitl [HΦ]; · iexact HΦ
  isplitl [HO]; · iexact HO
  isplitl [H0]; · iexact H0
  isplitl [H1]; · iexact H1
  isplitl [H2]; · iexact H2
  iexact H3

end Scores

section Select

variable (c : Dev nD)

abbrev lBlk0 (t : Fin cfg1.N) : S1x1x2048.Idx → Elt F .f32 := ((cfg1.win 0).blk t).view.read (Elt F) (W c main_v3_0)
abbrev lBlk1 (t : Fin cfg1.N) : S1x2048x1.Idx → Elt F .f32 := ((cfg1.win 1).blk t).view.read (Elt F) (W c main_v4)
abbrev lBlk2 (t : Fin cfg1.N) : S1x1x2048.Idx → Elt F .i32 := ((cfg1.win 2).blk t).view.read (Elt F) (W c main_v3_1)

/-- The second call's data. -/
def dat1 : Pipeline.Dat τ (Elt F) (HIx 1) ℕ UU ℕ cfg1 c where
  A w := (fun b : Ref sig .tc => (W c b : Buf (Elt F) ((c.tc : Thread nD τ).loc b))) (Pipeline.arrRef cfg1.spec w)
  after w t := match w with
    | ⟨0, _⟩ => lBlk0 W c t
    | ⟨1, _⟩ => lBlk1 W c t
    | ⟨2, _⟩ => lBlk2 W c t
    | ⟨3, _⟩ => selEvens (lBlk0 W c t) (lBlk1 W c t) (lBlk2 W c t)
    | ⟨4, _⟩ => selGather (lBlk0 W c t) (lBlk1 W c t) (grid1.coords t)
  Φ _ := Pipeline.scopedRest (Ix := HIx 1) (Name := ℕ) (U := UU) (Lvl := ℕ) (Val := Elt F) spec1 c
  q w := Pipeline.shareOf cfg1.spec w
  owed _ := (K (F := F)).Otc c 0
  recorded _ := lowPairs (F := F) c 0

theorem lBefore0 (t : Fin cfg1.N) (d) : (dat1 W c).before 0 t d = lBlk0 W c t :=
  ((dat1 W c).before_in_eq_fetched 0 rfl (fun _ => rfl) (fun _ _ _ => rfl) (fun _ => rfl) t d).trans rfl

theorem lBefore1 (t : Fin cfg1.N) (d) : (dat1 W c).before 1 t d = lBlk1 W c t :=
  ((dat1 W c).before_in_eq_fetched 1 rfl (fun _ => rfl) (fun _ _ _ => rfl) (fun _ => rfl) t d).trans rfl

theorem lBefore2 (t : Fin cfg1.N) (d) : (dat1 W c).before 2 t d = lBlk2 W c t :=
  ((dat1 W c).before_in_eq_fetched 2 rfl (fun _ => rfl) (fun _ _ _ => rfl) (fun _ => rfl) t d).trans rfl

theorem after1_4 (t : Fin cfg1.N) :
    (dat1 (F := F) W c).after 4 t = selGather (lBlk0 W c t) (lBlk1 W c t) (grid1.coords t) := by
  dsimp only [dat1]

theorem after1_3 (t : Fin cfg1.N) :
    (dat1 (F := F) W c).after 3 t = selEvens (lBlk0 W c t) (lBlk1 W c t) (lBlk2 W c t) := by
  dsimp only [dat1]

set_option maxHeartbeats 1000000 in
theorem select_body : Pipeline.BodyObligation (dat1 (F := F) W c) (defs₀ (F := F)) 𝒱₀ none Set.univ := fun t => by
  rw [bigSep_W1, bigSep_W1, show (dat1 W c).owesAt none t.castSucc = (dat1 W c).owesAt none t.succ from rfl,
    show (dat1 W c).Φ t.castSucc = (dat1 W c).Φ t.succ from rfl,
    after1_3 W c t, after1_4 W c t]
  iintro ⟨HΦ, HO, ⟨%d0, H0⟩, ⟨%d1, H1⟩, ⟨%d2, H2⟩, ⟨%d3, H3⟩, ⟨%d4, H4⟩⟩
  have e0 := lBefore0 W c t d0
  have e1 := lBefore1 W c t d1
  have e2 := lBefore2 W c t d2
  rw [e0, e1, e2]
  iapply (select_run (lBlk0 W c t) (lBlk1 W c t) (lBlk2 W c t) c (grid1.coords t) (st1_0 t) _ (st1_1 t) _ (st1_2 t) _ (st1_3 t) _
    (st1_4 t) _ ((dat1 W c).before 3 t d3) ((dat1 W c).before 4 t d4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

end Select

section Scatter

variable (c : Dev nD)

abbrev dBlk0 (t : Fin cfg3.N) : S1x2048x2048.Idx → Elt F .f32 := ((cfg3.win 0).blk t).view.read (Elt F) (W c main_v1)
abbrev dBlk1 (t : Fin cfg3.N) : S1x1x2048.Idx → Elt F .i32 := ((cfg3.win 1).blk t).view.read (Elt F) (W c main_v3_1)
abbrev dBlk2 (t : Fin cfg3.N) : S1x1x2048.Idx → Elt F .i32 := ((cfg3.win 2).blk t).view.read (Elt F) (W c main_v5_0)

/-- What the third call's body stores at a point. -/
def dstBlock (t : Fin cfg3.N) : S1x512x1024.Idx → Elt F .f32 :=
  k3_pay1 (grid3.coords t) (part (s := S1x1x2048) ![0, 0, 0] S1x1x2048.size inb_S1x1x2048_S1x1x2048_0_0_0 (dBlk1 W c t))
    (part (s := S1x1x2048) ![0, 0, 0] S1x1x2048.size inb_S1x1x2048_S1x1x2048_0_0_0 (dBlk2 W c t))
    (part (s := S1x2048x2048) ![0, 0, 0] S1x2048x1024.size inb_S1x2048x2048_S1x2048x1024_0_0_0 (dBlk0 W c t))
    (part (s := S1x2048x2048) (k3_off1 (grid3.coords t)) S1x512x1024.size (k3_off1_inb (grid3.coords t)) (dBlk0 W c t))

/-- The third call's data. -/
def dat3 : Pipeline.Dat τ (Elt F) (HIx 1) ℕ UU ℕ cfg3 c where
  A w := (fun b : Ref sig .tc => (W c b : Buf (Elt F) ((c.tc : Thread nD τ).loc b))) (Pipeline.arrRef cfg3.spec w)
  after w t := match w with
    | ⟨0, _⟩ => dBlk0 W c t
    | ⟨1, _⟩ => dBlk1 W c t
    | ⟨2, _⟩ => dBlk2 W c t
    | ⟨3, _⟩ => dstBlock W c t
  Φ _ := Pipeline.scopedRest (Ix := HIx 1) (Name := ℕ) (U := UU) (Lvl := ℕ) (Val := Elt F) spec3 c
  q w := Pipeline.shareOf cfg3.spec w
  owed _ := (K (F := F)).Otc c 1
  recorded _ := lowPairs (F := F) c 1

theorem dBefore0 (t : Fin cfg3.N) (d) : (dat3 W c).before 0 t d = dBlk0 W c t :=
  ((dat3 W c).before_in_eq_fetched 0 rfl (fun _ => rfl) (fun _ _ _ => rfl) (fun _ => rfl) t d).trans rfl

theorem dBefore1 (t : Fin cfg3.N) (d) : (dat3 W c).before 1 t d = dBlk1 W c t :=
  ((dat3 W c).before_in_eq_fetched 1 rfl (fun _ => rfl) (fun _ _ _ => rfl) (fun _ => rfl) t d).trans rfl

theorem dBefore2 (t : Fin cfg3.N) (d) : (dat3 W c).before 2 t d = dBlk2 W c t :=
  ((dat3 W c).before_in_eq_fetched 2 rfl (fun _ => rfl) (fun _ _ _ => rfl) (fun _ => rfl) t d).trans rfl

set_option maxHeartbeats 1000000 in
theorem scatter_body : Pipeline.BodyObligation (dat3 (F := F) W c) (defs₀ (F := F)) 𝒱₀ none Set.univ := fun t => by
  rw [bigSep_W3, bigSep_W3, show (dat3 W c).owesAt none t.castSucc = (dat3 W c).owesAt none t.succ from rfl,
    show (dat3 W c).Φ t.castSucc = (dat3 W c).Φ t.succ from rfl]
  iintro ⟨HΦ, HO, ⟨%d0, H0⟩, ⟨%d1, H1⟩, ⟨%d2, H2⟩, ⟨%d3, H3⟩⟩
  have e0 := dBefore0 W c t d0
  have e1 := dBefore1 W c t d1
  have e2 := dBefore2 W c t d2
  rw [e0, e1, e2]
  iapply (dst_run c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) (st3_3 t) (hstage3_3 ((cfg3.slots t 3).cast nbuf3_3))
    (dBlk0 W c t) (dBlk1 W c t) (dBlk2 W c t) ((dat3 W c).before 3 t d3))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

end Scatter

end Cert.Proof.Run

end
-- ==== Proof.Tile.lean ====
/-
  One task of the SparseCore call, at a symbolic (SparseCore, vector subcore): the fetch of its two rows of row
  numbers, and twice the gather of 64 rows of the table in eight strips of 128 columns and the write-out of those
  rows. It leaves, in its two blocks of the output, the rows the numbers name.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays, and what the call computes -/

abbrev xLoc (d : Dev nD) : Loc nD τ sig := (SparseCore.T d).loc main_v2
abbrev gLoc (d : Dev nD) : Loc nD τ sig := (SparseCore.T d).loc main_v6
abbrev oLoc (d : Dev nD) : Loc nD τ sig := (SparseCore.T d).loc main_v7

local notation "xV" => (Memref.whole Cert.KernelIdeal.main_v2_scv : Memref Cert.KernelIdeal.sig Kind.scVector Space.hbm Cert.KernelIdeal.S16384x1024 EltTy.f32)
local notation "gV" => (Memref.whole Cert.KernelIdeal.main_v6_scv : Memref Cert.KernelIdeal.sig Kind.scVector Space.hbm Cert.KernelIdeal.S64x64 EltTy.i32)
local notation "oV" => (Memref.whole Cert.KernelIdeal.main_v7_scv : Memref Cert.KernelIdeal.sig Kind.scVector Space.hbm Cert.KernelIdeal.S4096x1024 EltTy.f32)
local notation "sV" => (Memref.whole Cert.KernelIdeal.cc2_scratch0 : Memref Cert.KernelIdeal.sig Kind.scVector Space.vmem Cert.KernelIdeal.S2x64 EltTy.i32)
local notation "rV" => (Memref.whole Cert.KernelIdeal.cc2_scratch1 : Memref Cert.KernelIdeal.sig Kind.scVector Space.vmem Cert.KernelIdeal.S64x1024 EltTy.f32)

/-- A row number, as a row of the table. -/
def rowNo (w : BitVec 32) : Fin 16384 := ⟨w.toNat % 16384, Nat.mod_lt _ (by decide)⟩

/-- The rows a list of 64 numbers names. -/
def rowsAt (X : S16384x1024.Idx → Elt F .f32) (w : Fin 64 → BitVec 32) : S64x1024.Idx → Elt F .f32 :=
  fun j => X (ix2 (rowNo (w (j 0))) (j 1))

/-- What the call computes: row `64 a + b` is the table's row number `(a, b)`. -/
def gathered (X : S16384x1024.Idx → Elt F .f32) (G : S64x64.Idx → BitVec 32) : S4096x1024.Idx → Elt F .f32 :=
  fun j => X (ix2 (rowNo (G (ix2 (n0 := 64) (n1 := 64)
    ⟨(j 0).val / 64, by have : (j 0).val < 4096 := (j 0).isLt; omega⟩ ⟨(j 0).val % 64, Nat.mod_lt _ (by decide)⟩))) (j 1))

/-! ## One strip of a gather -/

section Strip

variable (d : Dev nD) (c : Fin τ.nSC) (s : Fin τ.nSub)

/-- The strip of the table, of the row buffer, and the list of numbers, at any offsets. -/
abbrev xStrip (off : Fin 2 → ℕ) (inb : ∀ a, off a + S16384x128.size a ≤ S16384x1024.size a) :
    Memref sig .scVector .hbm S16384x128 .f32 := (xV).slice (Rect.unit (s := S16384x1024) off S16384x128.size inb) (fun _ => rfl)
abbrev rStrip (off : Fin 2 → ℕ) (inb : ∀ a, off a + S64x128.size a ≤ S64x1024.size a) :
    Memref sig .scVector .vmem S64x128 .f32 := (rV).slice (Rect.unit (s := S64x1024) off S64x128.size inb) (fun _ => rfl)
abbrev sRow (off : Fin 2 → ℕ) (inb : ∀ a, off a + S1x64.size a ≤ S2x64.size a) :
    Memref sig .scVector .vmem S64 .i32 :=
  ((sV).slice (Rect.unit (s := S2x64) off S1x64.size inb) (fun _ => rfl)).squeeze S64 squeezes_S1x64_S64

theorem sRow_read (off : Fin 2 → ℕ) (inb : ∀ a, off a + S1x64.size a ≤ S2x64.size a) (r : Fin 2) (hoff : off = ![r.val, 0])
    (fo : S2x64.Idx → BitVec 32) (x : S64.Idx) : (sRow off inb).view.read (Elt F) fo x = fo (ix2 r (x 0)) := by
  subst hoff
  refine (View.read_apply _ _).trans ((cast_eq _ _).trans (congrArg fo ?_))
  show (Rect.unit (s := S2x64) ![r.val, 0] S1x64.size inb).emb (Shape.reshapeEquiv _ x) = _
  rw [show Shape.reshapeEquiv squeezes_S1x64_S64.numel_eq x = ix2 (n0 := 1) (n1 := 64) 0 (x 0) from
    Shape.reshapeEquiv_eq_of_rowMajor _ (by
      rw [Shape.rowMajor_val_one, Shape.rowMajor_val_two]; simp)]
  funext a
  refine Fin.ext ?_
  rw [Rect.emb_apply]
  match a with
  | 0 => simp
  | 1 => simp

theorem strip_value (X : S16384x1024.Idx → Elt F .f32) (fo : S2x64.Idx → BitVec 32) (hfo : ∀ j, (fo j).toNat < 16384)
    (f : S64x1024.Idx → Elt F .f32) (r : Fin 2) (k : ℕ)
    (offx : Fin 2 → ℕ) (inbx : ∀ a, offx a + S16384x128.size a ≤ S16384x1024.size a) (hx : offx = ![0, 128 * k])
    (offr : Fin 2 → ℕ) (inbr : ∀ a, offr a + S64x128.size a ≤ S64x1024.size a) (hr : offr = ![0, 128 * k])
    (offs : Fin 2 → ℕ) (inbs : ∀ a, offs a + S1x64.size a ≤ S2x64.size a) (hs : offs = ![r.val, 0])
    (hin : ∀ x, ((sRow offs inbs).view.read (Elt F) fo x).toNat < S16384x128.size gathers_S16384x128_S64x128.axis)
    (hf : ∀ j : S64x1024.Idx, (j 1).val < 128 * k → f j = rowsAt X (fun b => fo (ix2 r b)) j)
    (j : S64x1024.Idx) (hj : (j 1).val < 128 * (k + 1)) :
    (rStrip offr inbr).view.write (Elt F) f
        (SparseCore.gatherPayload gathers_S16384x128_S64x128 ((xStrip offx inbx).view.read (Elt F) X)
          (SparseCore.rows ((sRow offs inbs).view.read (Elt F) fo) rfl hin)) Finset.univ j
      = rowsAt X (fun b => fo (ix2 r b)) j := by
  by_cases hlt : (j 1).val < 128 * k
  · rw [View.write_of_not_mem]
    · exact hf j hlt
    · intro hm
      have h1 : j ∈ (Rect.unit (s := S64x1024) offr S64x128.size inbr).set :=
        (View.set_slice_whole (cc2_scratch1 : Ref sig .scVector) _) ▸ (show j ∈ (rStrip offr inbr).view.set from hm)
      have h2 := (Rect.mem_set_unit.mp h1) 1
      subst hr
      simp at h2
      omega
  · subst hr hx
    let y : S64x128.Idx := ix2 (n0 := 64) (n1 := 128) (j 0) ⟨(j 1).val - 128 * k, by omega⟩
    have hy : (rStrip _ inbr).view.emb y = j := by
      funext a
      refine Fin.ext ?_
      show ((Rect.unit (s := S64x1024) _ S64x128.size inbr).emb y a).val = _
      rw [Rect.emb_apply]
      match a with
      | 0 => simp [y]
      | 1 => simp [y]; omega
    rw [← hy, View.write_emb_of_mem _ _ (Finset.mem_univ _)]
    refine (cast_eq _ _).trans ?_
    rw [hy]
    refine (View.read_apply _ _).trans ((cast_eq _ _).trans (congrArg X ?_))
    funext a
    refine Fin.ext ?_
    show ((Rect.unit (s := S16384x1024) _ S16384x128.size inbx).emb _ a).val = _
    rw [Rect.emb_apply]
    match a with
    | 0 =>
      rw [show (gathers_S16384x128_S64x128.idx (SparseCore.rows ((sRow offs inbs).view.read (Elt F) fo) rfl hin) y 0)
        = _ from Shape.Gathers.idx_axis gathers_S16384x128_S64x128 _ y]
      show 0 + 1 * ((sRow offs inbs).view.read (Elt F) fo (S64.rowMajor.symm _)).toNat = (fo (ix2 r (j 0))).toNat % 16384
      rw [sRow_read offs inbs r hs, Nat.mod_eq_of_lt (hfo _), Nat.one_mul, Nat.zero_add]
      refine congrArg (fun b => (fo (ix2 (n0 := 2) (n1 := 64) r b)).toNat) (Fin.ext ?_)
      rw [← Shape.rowMajor_val_one (d := ![64])]
      exact congrArg Fin.val (Equiv.apply_symm_apply (S64.rowMajor) _)
    | 1 =>
      have e := Shape.Gathers.idx_of_ne gathers_S16384x128_S64x128
        (SparseCore.rows ((sRow offs inbs).view.read (Elt F) fo) rfl hin) y (1 : Fin 2) (by decide)
      show 128 * k + 1 * (gathers_S16384x128_S64x128.idx _ y 1).val = (j 1).val
      rw [e]
      show 128 * k + 1 * ((j 1).val - 128 * k) = (j 1).val
      omega

end Strip

/-! ## The task -/

section Tile

variable [FloatOps F] (d : Dev nD) (L : grid2.Coords)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

abbrev gcell (d : Dev nD) (L : grid2.Coords) : GSem nD τ sig := (thr d L, .dma cc2_scratch2.sem)
abbrev acell (d : Dev nD) (L : grid2.Coords) : GSem nD τ sig := (thr d L, .dma cc2_scoped0.sem)
abbrev bcell (d : Dev nD) (L : grid2.Coords) : GSem nD τ sig := (thr d L, .dma cc2_scoped1.sem)
abbrev ccell (d : Dev nD) (L : grid2.Coords) : GSem nD τ sig := (thr d L, .dma cc2_scoped2.sem)

/-- What a gather's loop holds before strip `k`: the table's share, the list, the row buffer with its first `128 k`
    columns the rows the list names, the semaphore at zero, and the waits recorded. -/
def gInv (q : PosShare TreeShare) (X : S16384x1024.Idx → Elt F .f32) (fo : S2x64.Idx → BitVec 32) (r : Fin 2)
    (O : CellTallies nD τ sig (HIx 1)) (W : Waits sig (HIx 1)) (k : ℕ) (_ : Unit) : sProp 𝕄 :=
  iprop(Transfers.MayWaits (thr d L) (none : HIx 1) O
    ∗ ((xV).view.loc (thr d L) ↦{q} X)
    ∗ ((sV).view.loc (thr d L) ↦{fullShare} fo)
    ∗ (∃ f : S64x1024.Idx → Elt F .f32, ⌜∀ j : S64x1024.Idx, (j 1).val < 128 * k → f j = rowsAt X (fun b => fo (ix2 r b)) j⌝
        ∗ ((rV).view.loc (thr d L) ↦{fullShare} f))
    ∗ semVal (gcell d L) 0
    ∗ ∃ W', ⌜∀ p ∈ W', p ∈ W ∨ p.2 = none⌝ ∗ owes (thr d L) O W')

/-- One strip, at any offsets that are the strip's. -/
theorem strip_run (q : PosShare TreeShare) (X : S16384x1024.Idx → Elt F .f32) (fo : S2x64.Idx → BitVec 32)
    (hfo : ∀ j, (fo j).toNat < 16384) (r : Fin 2) (O : CellTallies nD τ sig (HIx 1)) (W : Waits sig (HIx 1)) (k : ℕ)
    (offx : Fin 2 → ℕ) (inbx : ∀ a, offx a + S16384x128.size a ≤ S16384x1024.size a) (hx : offx = ![0, 128 * k])
    (offr : Fin 2 → ℕ) (inbr : ∀ a, offr a + S64x128.size a ≤ S64x1024.size a) (hr : offr = ![0, 128 * k])
    (offs : Fin 2 → ℕ) (inbs : ∀ a, offs a + S1x64.size a ≤ S2x64.size a) (hs : offs = ![r.val, 0]) (a : Unit) :
    gInv (F := F) d L q X fo r O W k a
      ⊢ wp frame (wpE (defs₀ (F := F)) 𝒱₀ (thr d L) none) Set.univ
          (do SparseCore.enqueueIndirectGather rfl (xStrip offx inbx) (rStrip offr inbr) gathers_S16384x128_S64x128 (sRow offs inbs) rfl
                cc2_scratch2.sem (View.wordExact_bits rfl) rfl (Or.inl rfl)
              SparseCore.waitIndirectGather cc2_scratch2.sem (xStrip offx inbx) (rStrip offr inbr) (View.wordExact_bits rfl) (View.wordExact_bits rfl)
              pure ⟨⟩ : Prog (TpuEff nD τ sig (Elt F) Λ₀ (.scVector (cV L) (jV L))) Unit)
          fun _ => gInv (F := F) d L q X fo r O W (k + 1) a := by
  unfold gInv
  iintro ⟨#Hmw, Hx, Hs, ⟨%f, %hf, Hr⟩, Hv, %W', %hW', HO⟩
  have hin : ∀ x, ((sRow offs inbs).view.read (Elt F) fo x).toNat < S16384x128.size gathers_S16384x128_S64x128.axis := fun x => by
    rw [sRow_read offs inbs r hs]; exact hfo _
  have hN : ∑ j, ((rStrip offr inbr).slice (S64x128.rowRect gathers_S16384x128_S64x128.axis' j)
      (S64x128.stride_rowRect gathers_S16384x128_S64x128.axis' j)).view.dmaCredit = (rStrip offr inbr).view.dmaCredit := by
    change ∑ _j : Fin 64, sig.dmaCredit .scVector (Kind.scVector.table .vmem) (rV).view.buf (S64x128.rowShape 0) .f32
      = sig.dmaCredit .scVector (Kind.scVector.table .vmem) (rV).view.buf S64x128 .f32
    decide
  iapply (SparseCore.wp_gatherFromWhole countersEmb 𝒱₀ (thr d L) none (hg := gathers_S16384x128_S64x128) (default : HIx 1)
      (rStrip offr inbr).view.dmaCredit hN (by decide) hin) $$ [Hx Hr Hs Hv]
  · isplitl [Hx]; · iexact Hx
    isplitl [Hr]; · iexact Hr
    isplitl [Hs]; · iexact Hs
    iexact Hv
  iintro Hfl
  sl_exec
  iapply (Transfers.wp_waitLocalO countersEmb 𝒱₀ (thr d L) none (default : HIx 1) (rfl : (rStrip offr inbr).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr, Hx, Hs⟩, Hv, HO⟩
  sl_step
  sl_step
  isplitr; · iexact Hmw
  isplitl [Hx]; · iexact Hx
  isplitl [Hs]; · iexact Hs
  isplitl [Hr]
  · iexists _
    isplitr
    swap; · iexact Hr
    ipureintro
    exact fun j hj => strip_value X fo hfo f r k offx inbx hx offr inbr hr offs inbs hs hin hf j hj
  isplitl [Hv]; · iexact Hv
  iexists _
  isplitr
  swap; · iexact HO
  ipureintro; intro p hp
  rcases Finset.mem_insert.mp hp with hp | hp; · exact .inr (hp ▸ rfl)
  exact hW' p hp

abbrev wid (L : grid2.Coords) : ℕ := 2 * (L 1).val + (L 0).val
theorem wid_lt : wid L < 32 := by
  have h0 : (L 0).val < 2 := (L 0).isLt
  have h1 : (L 1).val < 16 := (L 1).isLt
  show 2 * (L 1).val + (L 0).val < 32
  omega

/-- The two rows of numbers worker `w` reads, and the block of 64 output rows number `u`. -/
def gSet (w : Fin 32) : Finset S64x64.Idx := Finset.univ.filter fun j => (j 0).val / 2 = w.val
def oSet (u : Fin 64) : Finset S4096x1024.Idx := Finset.univ.filter fun j => (j 0).val / 64 = u.val

abbrev gRows (L : grid2.Coords) : Memref sig .scVector .hbm S2x64 .i32 :=
  (gV).slice (Rect.unit (s := S64x64) (k2_off1 L) S2x64.size (k2_off1_inb L)) (fun _ => rfl)
abbrev oRows0 (L : grid2.Coords) : Memref sig .scVector .hbm S64x1024 .f32 :=
  (oV).slice (Rect.unit (s := S4096x1024) (k2_off4 L 0#32) S64x1024.size (k2_off4_inb L 0)) (fun _ => rfl)
abbrev oRows1 (L : grid2.Coords) : Memref sig .scVector .hbm S64x1024 .f32 :=
  (oV).slice (Rect.unit (s := S4096x1024) (k2_off4 L 64#32) S64x1024.size (k2_off4_inb L 1)) (fun _ => rfl)

abbrev wk (L : grid2.Coords) : Fin 32 := ⟨wid L, wid_lt L⟩
abbrev blk (L : grid2.Coords) (k : Fin 2) : Fin 64 := ⟨2 * wid L + k.val, by have := wid_lt L; omega⟩

omit [FloatOps F] in
theorem set_gRows : (gRows L).view.set = gSet (wk L) := by
  refine (View.set_slice_whole (main_v6_scv : Ref sig .scVector) _).trans ?_
  ext j
  rw [Rect.mem_set_unit, gSet, Finset.mem_filter, k2_off1_eq]
  have h1 : (j 1).val < 64 := (j 1).isLt
  constructor
  · intro h
    have := h 0
    simp at this
    refine ⟨Finset.mem_univ _, ?_⟩
    show (j 0).val / 2 = 2 * (L 1).val + (L 0).val
    omega
  · rintro ⟨-, h⟩
    replace h : (j 0).val / 2 = 2 * (L 1).val + (L 0).val := h
    intro a
    match a with
    | 0 => simp; omega
    | 1 => simp; exact h1

omit [FloatOps F] in
theorem set_oRows (off : Fin 2 → ℕ) (inb : ∀ a, off a + S64x1024.size a ≤ S4096x1024.size a) (k : Fin 2)
    (hoff : off = ![256 * (L 1).val + 128 * (L 0).val + 64 * k.val, 0]) :
    ((oV).slice (Rect.unit (s := S4096x1024) off S64x1024.size inb) (fun _ => rfl)).view.set = oSet (blk L k) := by
  refine (View.set_slice_whole (main_v7_scv : Ref sig .scVector) _).trans ?_
  ext j
  rw [Rect.mem_set_unit, oSet, Finset.mem_filter, hoff]
  have h1 : (j 1).val < 1024 := (j 1).isLt
  constructor
  · intro h
    have := h 0
    simp at this
    refine ⟨Finset.mem_univ _, ?_⟩
    show (j 0).val / 64 = 2 * (2 * (L 1).val + (L 0).val) + k.val
    omega
  · rintro ⟨-, h⟩
    replace h : (j 0).val / 64 = 2 * (2 * (L 1).val + (L 0).val) + k.val := h
    intro a
    match a with
    | 0 => simp; omega
    | 1 => simp; exact h1

omit [FloatOps F] in
theorem set_oRows0 : (oRows0 L).view.set = oSet (blk L 0) := set_oRows L _ (k2_off4_inb L 0) 0 (k2_off4_eq L 0)
omit [FloatOps F] in
theorem set_oRows1 : (oRows1 L).view.set = oSet (blk L 1) := set_oRows L _ (k2_off4_inb L 1) 1 (k2_off4_eq L 1)

omit [FloatOps F] in
theorem ownSems0_thr :
    (ownSems0 (thr d L) : sProp 𝕄)
      = iprop(semVal (gcell d L) 0 ∗ semVal (acell d L) 0 ∗ semVal (bcell d L) 0 ∗ semVal (ccell d L) 0
          ∗ bigSep (((((ownCells (thr d L)).erase (gcell d L)).erase (acell d L)).erase (bcell d L)).erase (ccell d L)) fun g => semVal g 0) := by
  unfold SparseCore.Cfg.ownSems0
  rw [SparseCore.bigSep_erase' ((mem_ownCells (g := gcell d L)).mpr ⟨rfl, by
      show (SemLoc.dma cc2_scratch2.sem : SemLoc sig).isScoped .scVector = true; decide⟩),
    SparseCore.bigSep_erase' (Finset.mem_erase.mpr ⟨by simp [acell, gcell]; decide, (mem_ownCells (g := acell d L)).mpr ⟨rfl, by
      show (SemLoc.dma cc2_scoped0.sem : SemLoc sig).isScoped .scVector = true; decide⟩⟩),
    SparseCore.bigSep_erase' (Finset.mem_erase.mpr ⟨by simp [acell, bcell]; decide, Finset.mem_erase.mpr ⟨by simp [bcell, gcell]; decide,
      (mem_ownCells (g := bcell d L)).mpr ⟨rfl, by show (SemLoc.dma cc2_scoped1.sem : SemLoc sig).isScoped .scVector = true; decide⟩⟩⟩),
    SparseCore.bigSep_erase' (Finset.mem_erase.mpr ⟨by simp [bcell, ccell]; decide, Finset.mem_erase.mpr ⟨by simp [acell, ccell]; decide,
      Finset.mem_erase.mpr ⟨by simp [ccell, gcell]; decide,
      (mem_ownCells (g := ccell d L)).mpr ⟨rfl, by show (SemLoc.dma cc2_scoped2.sem : SemLoc sig).isScoped .scVector = true; decide⟩⟩⟩⟩)]

omit [FloatOps F] in
/-- The two scratch buffers are among the subcore's own. -/
theorem ownBufs_thr :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- The two rows of numbers a worker fetches, as its scratch holds them. -/
def fetched (G : S64x64.Idx → BitVec 32) (L : grid2.Coords) : S2x64.Idx → BitVec 32 :=
  fun j => G (ix2 (n0 := 64) (n1 := 64) ⟨2 * wid L + (j 0).val, by have := wid_lt L; have : (j 0).val < 2 := (j 0).isLt; omega⟩ (j 1))

theorem fetched_read (G : S64x64.Idx → BitVec 32) : (gRows L).view.read (Elt F) G = fetched G L := by
  funext j
  refine (View.read_apply _ _).trans ((cast_eq _ _).trans (congrArg G ?_))
  funext a
  refine Fin.ext ?_
  show ((Rect.unit (s := S64x64) (k2_off1 L) S2x64.size (k2_off1_inb L)).emb j a).val = _
  rw [Rect.emb_apply]
  show k2_off1 L a + 1 * (j a).val = _
  rw [congrFun (k2_off1_eq L) a]
  match a with
  | 0 => simp [wid]; omega
  | 1 => simp

/-- What a block of the output holds after its write-out: the call's rows. -/
theorem block_value (X : S16384x1024.Idx → Elt F .f32) (G : S64x64.Idx → BitVec 32) (k : Fin 2)
    (f : S64x1024.Idx → Elt F .f32) (hf : ∀ j : S64x1024.Idx, (j 1).val < 1024 → f j = rowsAt X (fun b => fetched G L (ix2 k b)) j)
    (off : Fin 2 → ℕ) (inb : ∀ a, off a + S64x1024.size a ≤ S4096x1024.size a)
    (hoff : off = ![256 * (L 1).val + 128 * (L 0).val + 64 * k.val, 0])
    (h : S4096x1024.Idx → Elt F .f32)
    (hh : ∀ y, ((oV).slice (Rect.unit (s := S4096x1024) off S64x1024.size inb) (fun _ => rfl)).view.read (Elt F) h y = f y)
    (i : S4096x1024.Idx) (hi : i ∈ oSet (blk L k)) : h i = gathered X G i := by
  have hi' : (i 0).val / 64 = 2 * (2 * (L 1).val + (L 0).val) + k.val := (Finset.mem_filter.mp hi).2
  let y : S64x1024.Idx := ix2 (n0 := 64) (n1 := 1024) ⟨(i 0).val % 64, Nat.mod_lt _ (by decide)⟩ (i 1)
  have hy : ((oV).slice (Rect.unit (s := S4096x1024) off S64x1024.size inb) (fun _ => rfl)).view.emb y = i := by
    subst hoff
    funext a
    refine Fin.ext ?_
    show ((Rect.unit (s := S4096x1024) _ S64x1024.size inb).emb y a).val = _
    rw [Rect.emb_apply]
    match a with
    | 0 => simp [y]; omega
    | 1 => simp [y]
  have e0 : h i = f y := by
    rw [← hh y]
    refine (congrArg h hy).symm.trans ?_
    exact ((View.read_apply (Val := Elt F) (v := ((oV).slice (Rect.unit (s := S4096x1024) off S64x1024.size inb) (fun _ => rfl)).view) h y).trans
      (cast_eq _ _)).symm
  rw [e0, hf y (i 1).isLt]
  unfold rowsAt gathered fetched
  refine congrArg X ?_
  have e : (i 0).val / 64 = 2 * wid L + k.val := hi'
  simp only [e]
  rfl

end Tile

end Cert.Proof.Run

end
-- ==== Proof.Task.lean ====
module

public import proofs.«01_k».proof.Proof.Tile

/-! # The task of the SparseCore call

The body once, at a symbolic worker: fetch two rows of numbers, gather 64 rows by the first and write them out, then
64 by the second. Its outputs are the call's values on the worker's two blocks. -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v2_scv : Memref Cert.KernelIdeal.sig Kind.scVector Space.hbm Cert.KernelIdeal.S16384x1024 EltTy.f32)
local notation "gV" => (Memref.whole Cert.KernelIdeal.main_v6_scv : Memref Cert.KernelIdeal.sig Kind.scVector Space.hbm Cert.KernelIdeal.S64x64 EltTy.i32)
local notation "oV" => (Memref.whole Cert.KernelIdeal.main_v7_scv : Memref Cert.KernelIdeal.sig Kind.scVector Space.hbm Cert.KernelIdeal.S4096x1024 EltTy.f32)
local notation "sV" => (Memref.whole Cert.KernelIdeal.cc2_scratch0 : Memref Cert.KernelIdeal.sig Kind.scVector Space.vmem Cert.KernelIdeal.S2x64 EltTy.i32)
local notation "rV" => (Memref.whole Cert.KernelIdeal.cc2_scratch1 : Memref Cert.KernelIdeal.sig Kind.scVector Space.vmem Cert.KernelIdeal.S64x1024 EltTy.f32)

section Task

/-- The loops make eight trips. -/
theorem trips1 : k2_t1_loop.trips = 8 := by decide
theorem trips2 : k2_t2_loop.trips = 8 := by decide

variable [FloatOps F] (d : Dev nD) (L : grid2.Coords)

omit [FloatOps F] in
/-- After a write of a whole block it reads as what was written. -/
theorem read_whole_write (v : View sig .scVector .hbm S64x1024 .f32) (g : v.ty.Contents (Elt F)) (w : S64x1024.Idx → Elt F .f32) (y : S64x1024.Idx) :
    v.read (Elt F) (v.writes (Elt F) g [⟨Rect.whole S64x1024, w⟩]) y = w y := by
  have h := v.read_writes_cons_emb (Val := Elt F) (f := g) (Rect.whole S64x1024) w [] y
  rwa [show (Rect.whole S64x1024).emb y = y from by funext a; exact Fin.ext (by rw [Rect.emb_apply]; show 0 + 1 * (y a).val = _; omega)] at h

/-- A worker's part of the table, at its share, of the numbers, and of the output at contents `O`. -/
abbrev taskIn (q : PosShare TreeShare) (X : S16384x1024.Idx → Elt F .f32) (G : S64x64.Idx → BitVec 32)
    (O : S4096x1024.Idx → Elt F .f32) (d : Dev nD) (w : Fin 32) (u0 u1 : Fin 64) : sProp 𝕄 :=
  iprop((xLoc d ↦{q} X) ∗ (gLoc d ↦[gSet w]{fullShare} G) ∗ (oLoc d ↦[oSet u0]{fullShare} O) ∗ (oLoc d ↦[oSet u1]{fullShare} O))

set_option maxHeartbeats 600000 in
/-- The task, with its values. -/
theorem tile_body (hF : (K (F := F)).Facts) (q : PosShare TreeShare) (X : S16384x1024.Idx → Elt F .f32)
    (G : S64x64.Idx → BitVec 32) (hG : ∀ j, (G j).toNat < 16384) (o : S4096x1024.Idx → Elt F .f32)
    (O : CellTallies nD τ sig (HIx 1)) (W : Waits sig (HIx 1)) (hO : ∀ g, O g none = 0) :
    iprop(levAts (K (F := F)).L (K (F := F)).lev ∗ emp ∗ taskIn q X G o d (wk L) (blk L 0) (blk L 1)
        ∗ scopedBufs (thr d L) ∗ scopedSems0 (thr d L) ∗ owes (thr d L) O W)
      ⊢ wp frame (wpE (defs₀ (F := F)) 𝒱₀ (thr d L) none) Set.univ
          (cc2__sc_body L xV (Memref.isWhole_whole _) gV (Memref.isWhole_whole _) oV (Memref.isWhole_whole _)
            sV (Memref.isWhole_whole _) rV (Memref.isWhole_whole _) cc2_scratch2 cc2_scoped0 cc2_scoped1 cc2_scoped2)
          fun _ => iprop(taskIn q X G (gathered X G) d (wk L) (blk L 0) (blk L 1)
            ∗ scopedBufs (thr d L) ∗ scopedSems0 (thr d L)
            ∗ ∃ W', ⌜∀ p ∈ W', p ∈ W ∨ p.2 = none⌝ ∗ owes (thr d L) O W') := by
  simp only [cc2__sc_body_eq_skeleton]; unfold cc2__sc_body_skel
  rw [(K (F := F)).scopedBufs_V hF d (cV L) (jV L), SparseCore.Cfg.scopedSems0_V (Val := Elt F) d (cV L) (jV L), ownSems0_thr, ownBufs_thr]
  iintro ⟨#Hlv, -, ⟨Hx, Hg, Ho0, Ho1⟩, ⟨⟨%fs, Hs⟩, ⟨%fr, Hr⟩, Hbufs⟩, ⟨Hsem, HsemA, HsemB, HsemC, Hsems⟩, HO⟩
  ihave #Hmw := (show levAts (K (F := F)).L (K (F := F)).lev ⊢ Transfers.MayWaits (thr d L) (default : HIx 1) O from
    (K (F := F)).mayWaits_none (thr := thr d L) hO) $$ Hlv
  ihave Hg' := (Entails.of_eq (show (gLoc d ↦[gSet (wk L)]{fullShare} G : sProp 𝕄)
    = (gRows L).view.loc (thr d L) ↦[(gRows L).view.set]{fullShare} G by rw [set_gRows])) $$ Hg
  ihave Ho0' := (Entails.of_eq (show (oLoc d ↦[oSet (blk L 0)]{fullShare} o : sProp 𝕄)
    = (oRows0 L).view.loc (thr d L) ↦[(oRows0 L).view.set]{fullShare} o by rw [set_oRows0])) $$ Ho0
  ihave Ho1' := (Entails.of_eq (show (oLoc d ↦[oSet (blk L 1)]{fullShare} o : sProp 𝕄)
    = (oRows1 L).view.loc (thr d L) ↦[(oRows1 L).view.set]{fullShare} o by rw [set_oRows1])) $$ Ho1
  ihave Hx' := (show (xLoc d ↦{q} X : sProp 𝕄) ⊢ (xV).view.loc (thr d L) ↦{q} X from Entails.rfl) $$ Hx
  ihave Hs' := (show ((thr d L).loc cc2_scratch0 ↦{fullShare} fs : sProp 𝕄) ⊢ (sV).view.loc (thr d L) ↦{fullShare} fs from Entails.rfl) $$ Hs
  ihave Hr' := (show ((thr d L).loc cc2_scratch1 ↦{fullShare} fr : sProp 𝕄) ⊢ (rV).view.loc (thr d L) ↦{fullShare} fr from Entails.rfl) $$ Hr
  sl_exec
  ihave Hs2 := (Entails.of_eq (show ((sV).view.loc (thr d L) ↦{fullShare} View.write (Elt F) (sV).view fs (tile_body.sl.dma0 L G) Finset.univ : sProp 𝕄)
    = (sV).view.loc (thr d L) ↦{fullShare} fetched G L by
      rw [View.write_whole_univ]
      exact congrArg (fun f => ((sV).view.loc (thr d L) ↦{fullShare} f : sProp 𝕄)) (fetched_read L G))) $$ Hs'
  sl_for (gInv d L q X (fetched G L) 0 O W) $$ [Hmw Hx' Hs2 Hr' Hsem HO]
  case region =>
    intro k _
    exact strip_run d L q X (fetched G L) (fun j => hG _) 0 O W k.val _ _ (k2_off3_eq k) _ _ (k2_off2_eq k) _ _ rfl _
  · unfold gInv
    isplitr; · iexact Hmw
    isplitl [Hx']; · iexact Hx'
    isplitl [Hs2]; · iexact Hs2
    isplitl [Hr']
    · iexists fr
      isplitr
      · ipureintro; intro j hj; exact absurd hj (by omega)
      · iexact Hr'
    isplitl [Hsem]; · iexact Hsem
    iexists _
    isplitr
    swap; · iexact HO
    ipureintro; intro p hp
    rcases Finset.mem_insert.mp hp with hp | hp
    · exact .inr (hp ▸ rfl)
    · exact .inl hp
  iintro %_ HI
  unfold gInv
  icases HI with ⟨-, Hx, Hs, ⟨%f0, %hf0, Hr⟩, Hsem, %W1, %hW1, HO⟩
  sl_exec
  ihave Ho0 := (Entails.of_eq ((pointsTo_congr (ℓ := oLoc d) (q := fullShare) (I := (oRows0 L).view.set)
      (f := (oRows0 L).view.writes (Elt F) (oRows0 L).view.junk [⟨Rect.whole S64x1024, tile_body.sl.dma0_1 f0⟩]) (g := gathered X G)
      (fun i hi => block_value L X G 0 f0 (fun j hj => hf0 j (lt_of_lt_of_eq hj (congrArg (128 * ·) trips1).symm)) (k2_off4 L 0#32)
        (k2_off4_inb L 0) (k2_off4_eq L 0) _ (fun y => (read_whole_write (oRows0 L).view _ _ y).trans (congrFun (show tile_body.sl.dma0_1 f0 = f0 from rfl) y)) i
        (by rwa [set_oRows0] at hi))).trans (by rw [set_oRows0]))) $$ Ho0'
  sl_for (gInv d L q X (fetched G L) 1 O W) $$ [Hmw Hx Hs Hr Hsem HO]
  case region =>
    intro k _
    exact strip_run d L q X (fetched G L) (fun j => hG _) 1 O W k.val _ _ (k2_off6_eq k) _ _ (k2_off5_eq k) _ _ rfl _
  · unfold gInv
    isplitr; · iexact Hmw
    isplitl [Hx]; · iexact Hx
    isplitl [Hs]; · iexact Hs
    isplitl [Hr]
    · iexists f0
      isplitr
      · ipureintro; intro j hj; exact absurd hj (by omega)
      · iexact Hr
    isplitl [Hsem]; · iexact Hsem
    iexists _
    isplitr
    swap; · iexact HO
    ipureintro; intro p hp
    rcases Finset.mem_insert.mp hp with hp | hp
    · exact .inr (hp ▸ rfl)
    · exact hW1 p hp
  iintro %_ HI
  unfold gInv
  icases HI with ⟨-, Hx, Hs, ⟨%f1, %hf1, Hr⟩, Hsem, %W2, %hW2, HO⟩
  sl_exec
  ihave Ho1 := (Entails.of_eq ((pointsTo_congr (ℓ := oLoc d) (q := fullShare) (I := (oRows1 L).view.set)
      (f := (oRows1 L).view.writes (Elt F) o [⟨Rect.whole S64x1024, tile_body.sl.dma0_2 f1⟩]) (g := gathered X G)
      (fun i hi => block_value L X G 1 f1 (fun j hj => hf1 j (lt_of_lt_of_eq hj (congrArg (128 * ·) trips2).symm)) (k2_off4 L 64#32)
        (k2_off4_inb L 1) (k2_off4_eq L 1) _ (fun y => (read_whole_write (oRows1 L).view _ _ y).trans (congrFun (show tile_body.sl.dma0_2 f1 = f1 from rfl) y)) i
        (by rwa [set_oRows1] at hi))).trans (by rw [set_oRows1]))) $$ Ho1'
  sl_step
  isplitl [Hx Hg' Ho0 Ho1]
  · isplitl [Hx]; · iexact Hx
    isplitl [Hg']
    · iapply (Entails.of_eq (show (gLoc d ↦[gSet (wk L)]{fullShare} G : sProp 𝕄)
        = (gRows L).view.loc (thr d L) ↦[(gRows L).view.set]{fullShare} G by rw [set_gRows]).symm) $$ Hg'
    isplitl [Ho0] <;> iassumption
  isplitl [Hs Hr Hbufs]
  · isplitl [Hs]; · iexists _; iexact Hs
    isplitl [Hr]; · iexists _; iexact Hr
    iexact Hbufs
  isplitl [Hsem HsemA HsemB HsemC Hsems]
  · isplitl [Hsem]; · iexact Hsem
    isplitl [HsemA]; · iexact HsemA
    isplitl [HsemB]; · iexact HsemB
    isplitl [HsemC]; · iexact HsemC
    iexact Hsems
  iexists _
  isplitr
  swap; · iexact HO
  ipureintro; intro p hp
  rcases Finset.mem_insert.mp hp with hp | hp
  · exact .inr (hp ▸ rfl)
  · exact hW2 p hp

end Task

end Cert.Proof.Run

end
-- ==== Proof.Call.lean ====
module

public import proofs.«01_k».proof.Proof.Task
public import Idealize.ShloMosaic.Lib.ShareLeaves

/-! # The SparseCore call: what its handshakes carry

Each worker takes a share of the table, two rows of numbers and two blocks of the output, and brings back the blocks at
the call's values. Over the 32 workers the pieces are the three arrays whole. -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v2_scv : Memref Cert.KernelIdeal.sig Kind.scVector Space.hbm Cert.KernelIdeal.S16384x1024 EltTy.f32)
local notation "gV" => (Memref.whole Cert.KernelIdeal.main_v6_scv : Memref Cert.KernelIdeal.sig Kind.scVector Space.hbm Cert.KernelIdeal.S64x64 EltTy.i32)
local notation "oV" => (Memref.whole Cert.KernelIdeal.main_v7_scv : Memref Cert.KernelIdeal.sig Kind.scVector Space.hbm Cert.KernelIdeal.S4096x1024 EltTy.f32)
local notation "sV" => (Memref.whole Cert.KernelIdeal.cc2_scratch0 : Memref Cert.KernelIdeal.sig Kind.scVector Space.vmem Cert.KernelIdeal.S2x64 EltTy.i32)
local notation "rV" => (Memref.whole Cert.KernelIdeal.cc2_scratch1 : Memref Cert.KernelIdeal.sig Kind.scVector Space.vmem Cert.KernelIdeal.S64x1024 EltTy.f32)

open Idealize.ShloMosaic.ShareLeaves

/-- Worker `2 s + c`. -/
abbrev wOf (c : Fin 2) (s : Fin 16) : Fin 32 := ⟨2 * s.val + c.val, by omega⟩
abbrev blkOf (w : Fin 32) (k : Fin 2) : Fin 64 := ⟨2 * w.val + k.val, by omega⟩
abbrev xq (w : Fin 32) : PosShare TreeShare := leaf 5 fullShare w

/-- The contents the call meets: the table and the numbers on each device, and the output array before. -/
structure Ins (F : FTy → Type) where
  X : Dev nD → S16384x1024.Idx → Elt F .f32
  G : Dev nD → S64x64.Idx → BitVec 32
  O : Dev nD → S4096x1024.Idx → Elt F .f32

variable [FloatOps F] (A : Ins F)

abbrev goP (d : Dev nD) (w : Fin 32) : sProp 𝕄 := taskIn (xq w) (A.X d) (A.G d) (A.O d) d w (blkOf w 0) (blkOf w 1)
abbrev tdP (d : Dev nD) (w : Fin 32) : sProp 𝕄 := taskIn (xq w) (A.X d) (A.G d) (gathered (A.X d) (A.G d)) d w (blkOf w 0) (blkOf w 1)

def P : (K (F := F)).Pay (nD := nD) (Val := Elt F) (Name := ℕ) (U := UU) where
  st := fun q d c => match q with | 0 => bigSep Finset.univ fun i : Fin 16 => goP A d (wOf (Fin.cast nCore_zero c) i)
  dn := fun q d c => match q with | 0 => bigSep Finset.univ fun i : Fin 16 => tdP A d (wOf (Fin.cast nCore_zero c) i)
  go := fun q d c i => match q with | 0 => goP A d (wOf (Fin.cast nCore_zero c) (Fin.cast nSub_zero i))
  td := fun q d c i => match q with | 0 => tdP A d (wOf (Fin.cast nCore_zero c) (Fin.cast nSub_zero i))
  x := fun _ _ => iprop(emp)

instance P_storable : (P (F := F) A).IsStorable where
  st q d c := match q with
    | 0 => (inferInstance : BI.Storable (upEmb : UEmb _ 𝕄) (bigSep Finset.univ fun i : Fin 16 => goP A d (wOf (Fin.cast nCore_zero c) i)))
  dn q d c := match q with
    | 0 => (inferInstance : BI.Storable (upEmb : UEmb _ 𝕄) (bigSep Finset.univ fun i : Fin 16 => tdP A d (wOf (Fin.cast nCore_zero c) i)))
  go q d c i := match q with
    | 0 => (inferInstance : BI.Storable (upEmb : UEmb _ 𝕄) (goP A d (wOf (Fin.cast nCore_zero c) (Fin.cast nSub_zero i))))
  td q d c i := match q with
    | 0 => (inferInstance : BI.Storable (upEmb : UEmb _ 𝕄) (tdP A d (wOf (Fin.cast nCore_zero c) (Fin.cast nSub_zero i))))

theorem vecSplit : (K (F := F)).VecSplit' (P A) 0 := by
  intro d c
  show (bigSep Finset.univ fun i : Fin 16 => goP A d (wOf (Fin.cast nCore_zero c) i)) ⊢ |={Set.univ}=> iprop(
    (bigSep Finset.univ fun i : Fin 16 => goP A d (wOf (Fin.cast nCore_zero c) i))
    ∗ ((bigSep Finset.univ fun i : Fin 16 => tdP A d (wOf (Fin.cast nCore_zero c) i))
      -∗ bigSep Finset.univ fun i : Fin 16 => tdP A d (wOf (Fin.cast nCore_zero c) i)))
  iintro H; imodintro
  isplitl [H]; · iexact H
  iintro H; iexact H

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_body (coordsV c s)
          xV (Memref.isWhole_whole _) gV (Memref.isWhole_whole _) oV (Memref.isWhole_whole _)
          sV (Memref.isWhole_whole _) rV (Memref.isWhole_whole _) cc2_scratch2 cc2_scoped0 cc2_scoped1 cc2_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hG : ∀ d j, (A.G d j).toNat < 16384) : (K (F := F)).TileObl (D (F := F)) 𝒱 (P A) v₀ 0 := by
  intro d c i O W hO _ _
  simp only [show (P A).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (xq (wOf (Fin.cast nCore_zero c) (Fin.cast nSub_zero i)))
    (A.X d) (A.G d) (hG d) (A.O d) O W hO).trans (wp_mono frame _ _ fun _ => obl_post)

/-! ## The pieces are the arrays -/

/-- Workers, by SparseCore and subcore. -/
def wEquiv : Fin 32 ≃ Fin 2 × Fin 16 where
  toFun w := (⟨w.val % 2, by omega⟩, ⟨w.val / 2, by omega⟩)
  invFun p := wOf p.1 p.2
  left_inv w := Fin.ext (show 2 * (w.val / 2) + w.val % 2 = w.val by omega)
  right_inv p := Prod.ext (Fin.ext (show (2 * p.2.val + p.1.val) % 2 = p.1.val by omega)) (Fin.ext (show (2 * p.2.val + p.1.val) / 2 = p.2.val by omega))

/-- Blocks, by worker and half. -/
def uEquiv : Fin 32 × Fin 2 ≃ Fin 64 where
  toFun p := blkOf p.1 p.2
  invFun u := (⟨u.val / 2, by omega⟩, ⟨u.val % 2, by omega⟩)
  left_inv p := Prod.ext (Fin.ext (show (2 * p.1.val + p.2.val) / 2 = p.1.val by omega)) (Fin.ext (show (2 * p.1.val + p.2.val) % 2 = p.2.val by omega))
  right_inv u := Fin.ext (show 2 * (u.val / 2) + u.val % 2 = u.val by omega)

omit [FloatOps F] in
theorem workers (Φ : Fin 32 → sProp 𝕄) :
    (bigSep Finset.univ fun c : Fin 2 => bigSep Finset.univ fun s : Fin 16 => Φ (wOf c s)) = bigSep Finset.univ Φ := by
  rw [bigSep_univ_equiv wEquiv.symm Φ, bigSep_univ_prod]
  rfl

omit [FloatOps F] in
theorem g_rows (d : Dev nD) (G : S64x64.Idx → BitVec 32) :
    (gLoc d ↦{fullShare} G : sProp 𝕄) = bigSep Finset.univ fun w : Fin 32 => gLoc d ↦[gSet w]{fullShare} G := by
  rw [← pointsTo_biUnion Finset.univ (ℓ := gLoc d) gSet fun w _ w' _ h => Finset.disjoint_left.mpr fun j hj hj' =>
    h (Fin.ext ((Finset.mem_filter.mp hj).2.symm.trans (Finset.mem_filter.mp hj').2))]
  refine congrArg (fun S => (gLoc d ↦[S]{fullShare} G : sProp 𝕄)) (Finset.ext fun j => ⟨fun _ => ?_, fun _ => Finset.mem_univ _⟩)
  have h0 : (j 0).val < 64 := (j 0).isLt
  exact Finset.mem_biUnion.mpr ⟨⟨(j 0).val / 2, by omega⟩, Finset.mem_univ _, Finset.mem_filter.mpr ⟨Finset.mem_univ _, rfl⟩⟩

omit [FloatOps F] in
theorem o_blocks (d : Dev nD) (O : S4096x1024.Idx → Elt F .f32) :
    (oLoc d ↦{fullShare} O : sProp 𝕄)
      = bigSep Finset.univ fun w : Fin 32 => iprop((oLoc d ↦[oSet (blkOf w 0)]{fullShare} O) ∗ (oLoc d ↦[oSet (blkOf w 1)]{fullShare} O)) := by
  have e : (oLoc d ↦{fullShare} O : sProp 𝕄) = bigSep Finset.univ fun u : Fin 64 => oLoc d ↦[oSet u]{fullShare} O := by
    rw [← pointsTo_biUnion Finset.univ (ℓ := oLoc d) oSet fun w _ w' _ h => Finset.disjoint_left.mpr fun j hj hj' =>
      h (Fin.ext ((Finset.mem_filter.mp hj).2.symm.trans (Finset.mem_filter.mp hj').2))]
    refine congrArg (fun S => (oLoc d ↦[S]{fullShare} O : sProp 𝕄)) (Finset.ext fun j => ⟨fun _ => ?_, fun _ => Finset.mem_univ _⟩)
    have h0 : (j 0).val < 4096 := (j 0).isLt
    exact Finset.mem_biUnion.mpr ⟨⟨(j 0).val / 64, by omega⟩, Finset.mem_univ _, Finset.mem_filter.mpr ⟨Finset.mem_univ _, rfl⟩⟩
  rw [e, bigSep_univ_equiv uEquiv, bigSep_univ_prod]
  exact bigSep_congr fun w _ => BI.bigSep_fin_two _

/-- The workers' pieces at output contents `O` are the three arrays whole. -/
theorem pieces (d : Dev nD) (X : S16384x1024.Idx → Elt F .f32) (G : S64x64.Idx → BitVec 32) (O : S4096x1024.Idx → Elt F .f32) :
    (bigSep Finset.univ fun c : Fin 2 => bigSep Finset.univ fun s : Fin 16 =>
        (taskIn (xq (wOf c s)) X G O d (wOf c s) (blkOf (wOf c s) 0) (blkOf (wOf c s) 1) : sProp 𝕄))
      = iprop((xLoc d ↦{fullShare} X) ∗ (gLoc d ↦{fullShare} G) ∗ (oLoc d ↦{fullShare} O)) := by
  rw [workers (F := F) (fun w => taskIn (xq w) X G O d w (blkOf w 0) (blkOf w 1))]
  unfold taskIn
  rw [bigSep_sep', bigSep_sep', ← g_rows, ← o_blocks]
  exact congrArg (fun H : sProp 𝕄 => iprop(H ∗ (gLoc d ↦{fullShare} G) ∗ (oLoc d ↦{fullShare} O))) (pointsTo_leaves (ℓ := xLoc d) Finset.univ X 5 fullShare).symm

theorem st0_eq (d : Dev nD) : (bigSep Finset.univ fun c : Fin ((K (F := F)).nCore 0) => (P A).st 0 d c)
    = iprop((xLoc d ↦{fullShare} A.X d) ∗ (gLoc d ↦{fullShare} A.G d) ∗ (oLoc d ↦{fullShare} A.O d)) :=
  pieces d _ _ _
theorem dn0_eq (d : Dev nD) : (bigSep Finset.univ fun c : Fin ((K (F := F)).nCore 0) => (P A).dn 0 d c)
    = iprop((xLoc d ↦{fullShare} A.X d) ∗ (gLoc d ↦{fullShare} A.G d) ∗ (oLoc d ↦{fullShare} gathered (A.X d) (A.G d))) :=
  pieces d _ _ _

end Cert.Proof.Run

end
-- ==== Proof.States.lean ====
module

public import proofs.«01_k».proof.Proof.Regions
public import proofs.«01_k».proof.Proof.Call
public import Idealize.ShloMosaic.Lib.Pipeline.Regions
public import Idealize.ShloMosaic.Lib.Pipeline.RegionsLoop
public import Idealize.ShloMosaic.Lib.Pipeline.RegionArrays

/-! # The states of the device, and @main as segments around the gather call

Every state is a function of the memory at launch. -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F]

/-! ## The host lines -/

/-- The three reshapes of the operands. -/
def opsA : List (HloOp τ sig (Elt F)) :=
  [StableHlo.reshape main_arg1 main_v0 (rfl : (.f32 : EltTy) = .f32) shapeCasts_S4x4096x1024_S4x2048x2048,
    StableHlo.reshape main_arg0 main_v1 (rfl : (.f32 : EltTy) = .f32) shapeCasts_S4x4096x1024_S4x2048x2048,
    StableHlo.reshape main_arg0 main_v2 (rfl : (.f32 : EltTy) = .f32) shapeCasts_S4x4096x1024_S16384x1024]
/-- The maxima as a column. -/
def opsB : List (HloOp τ sig (Elt F)) :=
  [StableHlo.reshape main_v3_0 main_v4 (rfl : (.f32 : EltTy) = .f32) shapeCasts_S4x1x2048_S4x2048x1]
/-- The row numbers as the gather reads them. -/
def opsC : List (HloOp τ sig (Elt F)) :=
  [StableHlo.reshape main_v5_1 main_v6 (rfl : (.i32 : EltTy) = .i32) shapeCasts_S4x1024x1_S64x64]
/-- The gathered rows by batch. -/
def opsD : List (HloOp τ sig (Elt F)) :=
  [StableHlo.reshape main_v7 main_v8 (rfl : (.f32 : EltTy) = .f32) shapeCasts_S4096x1024_S4x1024x1024]
/-- The two results put together. -/
def opsE : List (HloOp τ sig (Elt F)) :=
  [StableHlo.binary main_v8 main_v9 main_v10 ((fun a b => concatenate S4x3072x1024 1 [⟨S4x1024x1024, a⟩, ⟨S4x2048x1024, b⟩] concatenates_S4x1024x1024_S4x2048x1024_S4x3072x1024_d1) : (⟨S4x1024x1024, .f32⟩ : BufTy).Contents (Elt F) → (⟨S4x2048x1024, .f32⟩ : BufTy).Contents (Elt F) → (⟨S4x3072x1024, .f32⟩ : BufTy).Contents (Elt F)),
    StableHlo.nullary main_v11 (iotaInDim S2048 32 0),
    StableHlo.unary main_v11 main_v12 (broadcastInDim S1x2048 ![1] bcast_S2048_S1x2048_1 : (⟨S2048, .i32⟩ : BufTy).Contents (Elt F) → (⟨S1x2048, .i32⟩ : BufTy).Contents (Elt F)),
    StableHlo.nullary main_c (constantI S_ 32 1024#32),
    StableHlo.unary main_c main_v13 (broadcastInDim S1x2048 ![] bcast_S_S1x2048 : (⟨S_, .i32⟩ : BufTy).Contents (Elt F) → (⟨S1x2048, .i32⟩ : BufTy).Contents (Elt F)),
    StableHlo.binary main_v13 main_v12 main_v14 (addi : (⟨S1x2048, .i32⟩ : BufTy).Contents (Elt F) → (⟨S1x2048, .i32⟩ : BufTy).Contents (Elt F) → (⟨S1x2048, .i32⟩ : BufTy).Contents (Elt F)),
    StableHlo.unary main_v14 main_v15 (broadcastInDim S4x2048 ![0, 1] bcast_S1x2048_S4x2048_0_1 : (⟨S1x2048, .i32⟩ : BufTy).Contents (Elt F) → (⟨S4x2048, .i32⟩ : BufTy).Contents (Elt F)),
    StableHlo.reshape main_v5_0 main_v16 (rfl : (.i32 : EltTy) = .i32) shapeCasts_S4x1x2048_S4x2048,
    StableHlo.unary main_v16 main_v17 (broadcastInDim S4x2048x1 ![0, 1] bcast_S4x2048_S4x2048x1_0_1 : (⟨S4x2048, .i32⟩ : BufTy).Contents (Elt F) → (⟨S4x2048x1, .i32⟩ : BufTy).Contents (Elt F)),
    StableHlo.unary main_v15 main_v18 (broadcastInDim S4x2048x1 ![0, 1] bcast_S4x2048_S4x2048x1_0_1 : (⟨S4x2048, .i32⟩ : BufTy).Contents (Elt F) → (⟨S4x2048x1, .i32⟩ : BufTy).Contents (Elt F)),
    StableHlo.binary main_v17 main_v18 main_v19 ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F)),
    StableHlo.reshape main_v19 main_v20 (rfl : (.i32 : EltTy) = .i32) shapeCasts_S4x2048x2_S4x4096]

/-! ## The states -/

variable (m : (ℓ : Loc nD τ sig) → Buf (Elt F) ℓ)

abbrev V0 : Vals F := fun c b => m (c, b)
def V1 : Vals F := fun c => StableHlo.after opsA (V0 m c)
def R1 : Vals F := fun c => Function.update (Function.update (V1 m c)
  (Proc.devRef .tc main_v3_0) ((dat0 (V1 m) c).arrAt 2 cfg0.N)) (Proc.devRef .tc main_v3_1) ((dat0 (V1 m) c).arrAt 3 cfg0.N)
def V2 : Vals F := fun c => StableHlo.after opsB (R1 m c)
def R2 : Vals F := fun c => Function.update (Function.update (V2 m c)
  (Proc.devRef .tc main_v5_0) ((dat1 (V2 m) c).arrAt 3 cfg1.N)) (Proc.devRef .tc main_v5_1) ((dat1 (V2 m) c).arrAt 4 cfg1.N)
def V3 : Vals F := fun c => StableHlo.after opsC (R2 m c)
/-- What the gather call meets. -/
def ins : Ins F where
  X c := V3 m c main_v2
  G c := V3 m c main_v6
  O c := V3 m c main_v7
def V4 : Vals F := fun c => Function.update (V3 m c) (Proc.devRef .tc main_v7) (gathered ((ins m).X c) ((ins m).G c))
def V5 : Vals F := fun c => StableHlo.after opsD (V4 m c)
def R5 : Vals F := fun c => Function.update (V5 m c) (Proc.devRef .tc main_v9) ((dat3 (V5 m) c).arrAt 3 cfg3.N)
def V6 : Vals F := fun c => StableHlo.after opsE (R5 m c)

/-! ## The regions -/

abbrev adm : (p : Fin 3) → (pcfgs (F := F) p).Adm := fun p => (cfgs p).toPCfg_adm

def pdats : (p : Fin 3) → (c : Dev nD) → Pipeline.Dat τ (Elt F) (HIx 1) ℕ UU ℕ (Pipeline.pin (pcfgs (F := F)) adm p) c
  | 0 => fun c => dat0 (V1 m) c
  | 1 => fun c => dat1 (V2 m) c
  | 2 => fun c => dat3 (V5 m) c

/-- The TensorCore's debts before call `n`. -/
abbrev debts (n : ℕ) (c : Dev nD) : sProp 𝕄 :=
  iprop(∃ Wd, ⌜(K (F := F)).WBelow (SparseCore.T c) Wd (8 * n)⌝ ∗ owes (SparseCore.T c) ((K (F := F)).Otc c n) Wd)

/-- The device's unscoped buffers at a valuation, with those debts. -/
abbrev stAt (n : ℕ) (W : Vals F) (c : Dev nD) : sProp 𝕄 :=
  iprop(StableHlo.held (c.tc : Thread nD τ) (Pipeline.ucRefs τ sig) (W c) ∗ debts n c)

omit [FloatOps F] in
theorem Otc_none (c : Dev nD) (n : ℕ) (g : GSem nD τ sig) : ((K (F := F)).Otc (nD := nD) c n) g none = 0 := by
  by_contra h
  have := (K (F := F)).lev_of_Otc_pos (Nat.pos_of_ne_zero h)
  simp [SparseCore.Cfg.lev] at this

/-- A pipelined call as a segment between two states. -/
def region (p : Fin 3) (n : ℕ) (kit : Pipeline.LaunchFacts₀ (nD := nD) (τ := τ) cfgs p)
    (hbody : ∀ c, Pipeline.BodyObligation (pdats m p c) (defs₀ (F := F)) 𝒱₀ none Set.univ)
    (howed : ∀ c t, (pdats m p c).owed t = (K (F := F)).Otc c n)
    (hrec : ∀ c t, (pdats m p c).recorded t = lowPairs (F := F) c n)
    (hΦ : ∀ c t, (pdats m p c).Φ t = Pipeline.scopedRest (cfgs p).spec c)
    (hq : ∀ c w, (pdats m p c).q w = Pipeline.shareOf (cfgs p).spec w)
    (Win Wout : Vals F)
    (hA : ∀ c w, (pdats m p c).A w = (fun b : Ref sig .tc => (Win c b : Buf (Elt F) ((c.tc : Thread nD τ).loc b))) (Pipeline.arrRef (cfgs p).spec w))
    (hfinal : ∀ c w, (pdats m p c).arrAt w (cfgs p).N
      = (fun b : Ref sig .tc => (Wout c b : Buf (Elt F) ((c.tc : Thread nD τ).loc b))) (Pipeline.arrRef (cfgs p).spec w))
    (hoff : ∀ c (b : Ref sig .tc), b ∉ Finset.univ.image (Pipeline.arrRef (cfgs p).spec) → Wout c b = Win c b) :
    Pipeline.RegionSeg (pcfgs (F := F)) adm (pdats m) none (defs₀ (F := F)) 𝒱₀ (K (F := F)).L (K (F := F)).lev p where
  win := kit.win
  block_pos := kit.block_pos
  stage_whole := kit.stage_whole
  K := PEmpty
  osem k := k.elim
  ho := Pipeline.OwnSemFacts.none _
  hbody c := (hbody c).loose
  hwaits c := Pipeline.cellsWaits_intro _ _ _ _ _ fun w s t => by
    rw [howed]; exact (K (F := F)).mayWait_none _ (Otc_none c n)
  pre := stAt n Win
  post := stAt n Wout
  X _ := iprop(emp)
  Y _ := iprop(emp)
  Z c := Pipeline.unscopedRest (Ix := HIx 1) (Name := ℕ) (U := UU) (Lvl := ℕ) (cfgs p).spec c
    (fun b : Ref sig .tc => (Win c b : Buf (Elt F) ((c.tc : Thread nD τ).loc b)))
  hentry c := by
    rw [Pipeline.ownSems0_none, Pipeline.prefHeld_of_none _ rfl]
    have hsplit := Pipeline.arrays_of_unscopedBufs_shared (pcfgs (F := F)) adm (pdats m) kit.win kit.sharedIn kit.arr_whole c
      (fun w _ => hq c w) (fun b : Ref sig .tc => (Win c b : Buf (Elt F) ((c.tc : Thread nD τ).loc b))) (hA c)
    unfold stAt
    rw [← Pipeline.unscopedBufs_held]
    iintro ⟨⟨Hub, ⟨%Wd, %hWd, HO⟩⟩, -, -⟩
    ihave H := hsplit $$ Hub
    icases H with ⟨Ha, Hr⟩
    imodintro
    isplitl [Ha]; · iexact Ha
    isplitr; · iempintro
    isplitl [HO]
    · unfold Pipeline.Dat.owesAt Pipeline.owesWithin Pipeline.Dat.bound
      rw [howed c 0, hrec c 0]
      iexists Wd; isplitr; · ipureintro; exact fun q hq => Or.inl (hWd q hq)
      iexact HO
    isplitr; · iempintro
    iexact Hr
  hin c := by
    rw [hΦ c 0]
    iintro ⟨-, -, Hr⟩; iexact Hr
  hout c := by
    rw [Pipeline.ownSems0_none, hΦ c]
    iintro Hr
    isplitr; · iempintro
    isplitr; · iempintro
    iexact Hr
  hexit c := by
    have hjoin := Pipeline.unscopedBufs_of_arrays_shared (pcfgs (F := F)) adm kit.win kit.sharedIn kit.arr_whole c (pdats m)
      (fun w _ => hq c w) (fun b : Ref sig .tc => (Win c b : Buf (Elt F) ((c.tc : Thread nD τ).loc b)))
      (fun b : Ref sig .tc => (Wout c b : Buf (Elt F) ((c.tc : Thread nD τ).loc b))) _ (hfinal c) (hoff c)
    unfold stAt
    rw [← Pipeline.unscopedBufs_held]
    iintro ⟨Ha, HO, -, Hr⟩
    ihave H := hjoin $$ [Ha Hr]
    · isplitl [Ha]; · iexact Ha
      iexact Hr
    imodintro
    isplitl [H]; · iexact H
    unfold Pipeline.Dat.owesAt Pipeline.owesWithin Pipeline.Dat.bound
    rw [howed c, hrec c]
    icases HO with ⟨%Wd, %hWd, HO⟩
    iexists Wd; isplitr
    · ipureintro
      intro q hq
      rcases hWd hq with h | h
      · exact h
      · obtain ⟨w, s, rfl⟩ := h
        exact Nat.zero_le _
    iexact HO

end Cert.Proof.Run

end
-- ==== Proof.Launch.lean ====
module

public import proofs.«01_k».proof.Proof.States

/-! # The program's run

From any launch memory whose numbers the gather reads are rows of its table, the program runs to the memory the states
of `States` name, every semaphore back at zero. -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F] (m : (ℓ : Loc nD τ sig) → Buf (Elt F) ℓ) (ρ : Dev nD → PrngReg)

/-! ## The three regions -/

theorem devRef_ne {a b : Ref sig .tc} (h : a ≠ b) : (Proc.devRef .tc a : DevRef τ sig) ≠ Proc.devRef .tc b :=
  fun e => h (Proc.devRef_injective _ e)

theorem R1_val (c : Dev nD) : R1 m c main_v3_0 = (dat0 (V1 m) c).arrAt 2 cfg0.N :=
  (Function.update_of_ne (devRef_ne (show main_v3_0 ≠ main_v3_1 by decide)) _ _).trans (Function.update_self _ _ _)
theorem R1_idx (c : Dev nD) : R1 m c main_v3_1 = (dat0 (V1 m) c).arrAt 3 cfg0.N := Function.update_self _ _ _
theorem R1_of_ne (c : Dev nD) {b : Ref sig .tc} (h0 : b ≠ main_v3_0) (h1 : b ≠ main_v3_1) : R1 m c b = V1 m c b :=
  (Function.update_of_ne (devRef_ne h1) _ _).trans (Function.update_of_ne (devRef_ne h0) _ _)

theorem R2_src (c : Dev nD) : R2 m c main_v5_0 = (dat1 (V2 m) c).arrAt 3 cfg1.N :=
  (Function.update_of_ne (devRef_ne (show main_v5_0 ≠ main_v5_1 by decide)) _ _).trans (Function.update_self _ _ _)
theorem R2_num (c : Dev nD) : R2 m c main_v5_1 = (dat1 (V2 m) c).arrAt 4 cfg1.N := Function.update_self _ _ _
theorem R2_of_ne (c : Dev nD) {b : Ref sig .tc} (h0 : b ≠ main_v5_0) (h1 : b ≠ main_v5_1) : R2 m c b = V2 m c b :=
  (Function.update_of_ne (devRef_ne h1) _ _).trans (Function.update_of_ne (devRef_ne h0) _ _)

theorem V4_rows (c : Dev nD) : V4 m c main_v7 = gathered ((ins m).X c) ((ins m).G c) := Function.update_self _ _ _
theorem V4_of_ne (c : Dev nD) {b : Ref sig .tc} (h : b ≠ main_v7) : V4 m c b = V3 m c b := Function.update_of_ne (devRef_ne h) _ _

theorem R5_dst (c : Dev nD) : R5 m c main_v9 = (dat3 (V5 m) c).arrAt 3 cfg3.N := Function.update_self _ _ _
theorem R5_of_ne (c : Dev nD) {b : Ref sig .tc} (h : b ≠ main_v9) : R5 m c b = V5 m c b := Function.update_of_ne (devRef_ne h) _ _

theorem arr0_final (c : Dev nD) : ∀ w : Fin 4, (dat0 (V1 m) c).arrAt w cfg0.N
    = (fun b : Ref sig .tc => (R1 m c b : Buf (Elt F) ((c.tc : Thread nD τ).loc b))) (Pipeline.arrRef cfg0.spec w)
  | 0 => ((dat0 (V1 m) c).arrAt_in 0 rfl _).trans (R1_of_ne m c (b := main_v0) (by decide) (by decide)).symm
  | 1 => ((dat0 (V1 m) c).arrAt_in 1 rfl _).trans (R1_of_ne m c (b := main_v0) (by decide) (by decide)).symm
  | 2 => (R1_val m c).symm
  | 3 => (R1_idx m c).symm

theorem arr1_final (c : Dev nD) : ∀ w : Fin 5, (dat1 (V2 m) c).arrAt w cfg1.N
    = (fun b : Ref sig .tc => (R2 m c b : Buf (Elt F) ((c.tc : Thread nD τ).loc b))) (Pipeline.arrRef cfg1.spec w)
  | 0 => ((dat1 (V2 m) c).arrAt_in 0 rfl _).trans (R2_of_ne m c (b := main_v3_0) (by decide) (by decide)).symm
  | 1 => ((dat1 (V2 m) c).arrAt_in 1 rfl _).trans (R2_of_ne m c (b := main_v4) (by decide) (by decide)).symm
  | 2 => ((dat1 (V2 m) c).arrAt_in 2 rfl _).trans (R2_of_ne m c (b := main_v3_1) (by decide) (by decide)).symm
  | 3 => (R2_src m c).symm
  | 4 => (R2_num m c).symm

theorem arr3_final (c : Dev nD) : ∀ w : Fin 4, (dat3 (V5 m) c).arrAt w cfg3.N
    = (fun b : Ref sig .tc => (R5 m c b : Buf (Elt F) ((c.tc : Thread nD τ).loc b))) (Pipeline.arrRef cfg3.spec w)
  | 0 => ((dat3 (V5 m) c).arrAt_in 0 rfl _).trans (R5_of_ne m c (b := main_v1) (by decide)).symm
  | 1 => ((dat3 (V5 m) c).arrAt_in 1 rfl _).trans (R5_of_ne m c (b := main_v3_1) (by decide)).symm
  | 2 => ((dat3 (V5 m) c).arrAt_in 2 rfl _).trans (R5_of_ne m c (b := main_v5_0) (by decide)).symm
  | 3 => (R5_dst m c).symm

omit [FloatOps F] in
/-- A buffer off the arrays is none of them. -/
theorem ne_of_off {W g : ℕ} {win : Fin W → Pipeline.WinSpec sig g} {b : Ref sig .tc}
    (hb : b ∉ Finset.univ.image (Pipeline.arrRef win)) (w : Fin W) : b ≠ Pipeline.arrRef win w :=
  fun e => hb (Finset.mem_image.mpr ⟨w, Finset.mem_univ _, e.symm⟩)

def reg0 : Pipeline.RegionSeg (pcfgs (F := F)) adm (pdats m) none (defs₀ (F := F)) 𝒱₀ (K (F := F)).L (K (F := F)).lev 0 :=
  region m 0 0 launch₀0 (fun c => scores_body (V1 m) c) (fun _ _ => rfl) (fun _ _ => rfl) (fun _ _ => rfl) (fun _ _ => rfl)
    (V1 m) (R1 m) (fun _ _ => rfl) (arr0_final m)
    (fun c _ hb => R1_of_ne m c (ne_of_off (win := cfg0.spec) hb 2) (ne_of_off (win := cfg0.spec) hb 3))

def reg1 : Pipeline.RegionSeg (pcfgs (F := F)) adm (pdats m) none (defs₀ (F := F)) 𝒱₀ (K (F := F)).L (K (F := F)).lev 1 :=
  region m 1 0 launch1.to₀ (fun c => select_body (V2 m) c) (fun _ _ => rfl) (fun _ _ => rfl) (fun _ _ => rfl) (fun _ _ => rfl)
    (V2 m) (R2 m) (fun _ _ => rfl) (arr1_final m)
    (fun c _ hb => R2_of_ne m c (ne_of_off (win := cfg1.spec) hb 3) (ne_of_off (win := cfg1.spec) hb 4))

def reg2 : Pipeline.RegionSeg (pcfgs (F := F)) adm (pdats m) none (defs₀ (F := F)) 𝒱₀ (K (F := F)).L (K (F := F)).lev 2 :=
  region m 2 1 launch3.to₀ (fun c => scatter_body (V5 m) c) (fun _ _ => rfl) (fun _ _ => rfl) (fun _ _ => rfl) (fun _ _ => rfl)
    (V5 m) (R5 m) (fun _ _ => rfl) (arr3_final m)
    (fun c _ hb => R5_of_ne m c (ne_of_off (win := cfg3.spec) hb 3))

/-! ## The host lines as segments -/

abbrev lineSeg (ops : List (HloOp τ sig (Elt F))) (n : ℕ) (hS : ∀ op ∈ ops, op.bufs ⊆ StableHlo.tcRefs τ sig) (hf : ∀ op ∈ ops, op.fresh = ∅)
    (W : Vals F) : Pipeline.HostSeg (Name := ℕ) (U := UU) (pcfgs (F := F)) (defs₀ (F := F)) 𝒱₀ (K (F := F)).L (K (F := F)).lev :=
  Pipeline.HostSeg.ofOps _ _ _ _ _ (Pipeline.ucRefs τ sig) ops (fun op h => Pipeline.sub_ucRefs op (hS op h)) hf W (debts n)

theorem subA : ∀ op ∈ opsA (F := F), op.bufs ⊆ StableHlo.tcRefs τ sig := by
  simp only [opsA, List.forall_mem_cons, List.not_mem_nil, false_imp_iff, implies_true, and_true]; simp
theorem freshA : ∀ op ∈ opsA (F := F), op.fresh = ∅ := by
  simp only [opsA, List.forall_mem_cons, List.not_mem_nil, false_imp_iff, implies_true, and_true]; first | rfl | exact ⟨rfl, rfl, rfl⟩ | exact ⟨rfl, rfl, rfl, rfl, rfl, rfl, rfl, rfl, rfl, rfl, rfl, rfl⟩
theorem subB : ∀ op ∈ opsB (F := F), op.bufs ⊆ StableHlo.tcRefs τ sig := by
  simp only [opsB, List.forall_mem_cons, List.not_mem_nil, false_imp_iff, implies_true, and_true]; simp
theorem freshB : ∀ op ∈ opsB (F := F), op.fresh = ∅ := by
  simp only [opsB, List.forall_mem_cons, List.not_mem_nil, false_imp_iff, implies_true, and_true]; first | rfl | exact ⟨rfl, rfl, rfl⟩ | exact ⟨rfl, rfl, rfl, rfl, rfl, rfl, rfl, rfl, rfl, rfl, rfl, rfl⟩
theorem subC : ∀ op ∈ opsC (F := F), op.bufs ⊆ StableHlo.tcRefs τ sig := by
  simp only [opsC, List.forall_mem_cons, List.not_mem_nil, false_imp_iff, implies_true, and_true]; simp
theorem freshC : ∀ op ∈ opsC (F := F), op.fresh = ∅ := by
  simp only [opsC, List.forall_mem_cons, List.not_mem_nil, false_imp_iff, implies_true, and_true]; first | rfl | exact ⟨rfl, rfl, rfl⟩ | exact ⟨rfl, rfl, rfl, rfl, rfl, rfl, rfl, rfl, rfl, rfl, rfl, rfl⟩
theorem subD : ∀ op ∈ opsD (F := F), op.bufs ⊆ StableHlo.tcRefs τ sig := by
  simp only [opsD, List.forall_mem_cons, List.not_mem_nil, false_imp_iff, implies_true, and_true]; simp
theorem freshD : ∀ op ∈ opsD (F := F), op.fresh = ∅ := by
  simp only [opsD, List.forall_mem_cons, List.not_mem_nil, false_imp_iff, implies_true, and_true]; first | rfl | exact ⟨rfl, rfl, rfl⟩ | exact ⟨rfl, rfl, rfl, rfl, rfl, rfl, rfl, rfl, rfl, rfl, rfl, rfl⟩
theorem subE : ∀ op ∈ opsE (F := F), op.bufs ⊆ StableHlo.tcRefs τ sig := by
  simp only [opsE, List.forall_mem_cons, List.not_mem_nil, false_imp_iff, implies_true, and_true]; simp
theorem freshE : ∀ op ∈ opsE (F := F), op.fresh = ∅ := by
  simp only [opsE, List.forall_mem_cons, List.not_mem_nil, false_imp_iff, implies_true, and_true]; first | rfl | exact ⟨rfl, rfl, rfl⟩ | exact ⟨rfl, rfl, rfl, rfl, rfl, rfl, rfl, rfl, rfl, rfl, rfl, rfl⟩

/-- What runs before the gather call, and after it. -/
def segs1 : List (Pipeline.Seg (pcfgs (F := F)) adm (pdats m) none (defs₀ (F := F)) 𝒱₀ (K (F := F)).L (K (F := F)).lev) :=
  [.host (lineSeg opsA 0 subA freshA (V0 m)), .region (reg0 m), .host (lineSeg opsB 0 subB freshB (R1 m)), .region (reg1 m),
    .host (lineSeg opsC 0 subC freshC (R2 m))]
def segs2 : List (Pipeline.Seg (pcfgs (F := F)) adm (pdats m) none (defs₀ (F := F)) 𝒱₀ (K (F := F)).L (K (F := F)).lev) :=
  [.host (lineSeg opsD 1 subD freshD (V4 m)), .region (reg2 m), .host (lineSeg opsE 1 subE freshE (R5 m))]

theorem chains1 : Pipeline.Seg.Chains (stAt 0 (V0 m)) (segs1 m) (stAt 0 (V3 m)) :=
  ⟨fun _ => .rfl, fun _ => .rfl, fun _ => .rfl, fun _ => .rfl, fun _ => .rfl, fun _ => .rfl⟩
theorem chains2 : Pipeline.Seg.Chains (stAt 1 (V4 m)) (segs2 m) (stAt 1 (V6 m)) :=
  ⟨fun _ => .rfl, fun _ => .rfl, fun _ => .rfl, fun _ => .rfl⟩

theorem main_eq (d : Dev nD) : main (F := F) d
    = (SparseCore.liftProg (Pipeline.Seg.run (segs1 m)) >>= fun _ => (K (F := F)).run d 0 >>= fun _ =>
        SparseCore.liftProg (Pipeline.Seg.run (segs2 m))) := rfl

end Cert.Proof.Run

end
-- ==== Proof.Run.lean ====
module

public import proofs.«01_k».proof.Proof.Launch
public import Idealize.ShloMosaic.Lib.Pipeline.FrameTail

/-! # The run of @main and of the whole program -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F] (m : (ℓ : Loc nD τ sig) → Buf (Elt F) ℓ) (ρ : Dev nD → PrngReg)

/-! ## The launch element -/

/-- The ghost state the pipelined calls of one device begin from. -/
abbrev pipeGhost (d : Dev nD) : sProp 𝕄 := Pipeline.ghostOn (pcfgs (F := F)) adm EP Finset.univ d

def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

omit [FloatOps F] in
theorem bigSep_none {I : Type} (s : Finset I) : (bigSep s fun _ => iprop(emp)) = (iprop(emp) : sProp 𝕄) := bigSep_emp_const s

omit [FloatOps F] in
theorem ghost_split (a : UPipe) : (BI.own ((embR : Emb (UPipe × Counters) 𝕄) (a, (1 : Counters))) : sProp 𝕄)
    ⊢ iprop(BI.own (EP (F := F) a) ∗ BI.own (((Emb.inr : Emb Counters (UPipe × Counters)).trans (embR : Emb (UPipe × Counters) 𝕄)) (1 : Counters))) := by
  unfold EP; exact own_pair_emb (M' := 𝕄) (embR : Emb (UPipe × Counters) 𝕄) a (1 : Counters)

theorem hu₀ : (ownU (u₀ (F := F)) : sProp 𝕄)
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (P (ins m)).x q thr) := by
  unfold u₀
  iintro Hu
  ihave H := (ownU_pair (initOf (K (F := F)).hsCells (K (F := F)).hsToks) _) $$ Hu
  icases H with ⟨HH, HR⟩
  ihave H := (ghost_split _) $$ HR
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · unfold pipeGhost Pipeline.ghostOn Pipeline.PerCore.ghostOn
    simp only [bigSep_sep']
    isplitl [Hc]; · iexact Hc
    iexact Ht
  rw [show (bigSep Finset.univ fun thr : Thread nD τ => bigSep Finset.univ fun q : Fin 1 => (P (F := F) (ins m)).x q thr) = bigSep Finset.univ fun _ => iprop(emp) from
    bigSep_congr fun _ _ => bigSep_univ_of_subsingleton (0 : Fin 1), bigSep_none]
  iempintro

/-! ## The three arrays of the gather call among the device's buffers -/

abbrev xRef : DevRef τ sig := Proc.devRef .tc main_v2
abbrev gRef : DevRef τ sig := Proc.devRef .tc main_v6
abbrev oRef : DevRef τ sig := Proc.devRef .tc main_v7

/-- The device's other unscoped buffers. -/
abbrev others (W : Valuation τ sig (Elt F)) (d : Dev nD) : sProp 𝕄 :=
  StableHlo.held (d.tc : Thread nD τ) ((((Pipeline.ucRefs τ sig).erase xRef).erase gRef).erase oRef) W

omit [FloatOps F] in
theorem held_three (W : Valuation τ sig (Elt F)) (d : Dev nD) :
    (StableHlo.held (d.tc : Thread nD τ) (Pipeline.ucRefs τ sig) W : sProp 𝕄)
      = iprop((xLoc d ↦{fullShare} W main_v2) ∗ (gLoc d ↦{fullShare} W main_v6) ∗ (oLoc d ↦{fullShare} W main_v7) ∗ others W d) := by
  unfold others StableHlo.held
  rw [SparseCore.bigSep_erase' (s := Pipeline.ucRefs τ sig) (i := xRef) (Pipeline.devRef_mem_ucRefs rfl),
    SparseCore.bigSep_erase' (s := (Pipeline.ucRefs τ sig).erase xRef) (i := gRef)
      (Finset.mem_erase.mpr ⟨devRef_ne (by decide), Pipeline.devRef_mem_ucRefs rfl⟩),
    SparseCore.bigSep_erase' (s := ((Pipeline.ucRefs τ sig).erase xRef).erase gRef) (i := oRef)
      (Finset.mem_erase.mpr ⟨devRef_ne (by decide), Finset.mem_erase.mpr ⟨devRef_ne (by decide), Pipeline.devRef_mem_ucRefs rfl⟩⟩)]

theorem others_V4 (d : Dev nD) : (others (V4 m d) d : sProp 𝕄) = others (V3 m d) d := by
  unfold others StableHlo.held
  refine bigSep_congr fun b hb => ?_
  rw [show V4 m d b = V3 m d b from Function.update_of_ne (Finset.ne_of_mem_erase hb) _ _]

/-! ## @main -/

/-- What @main leaves on a device. -/
abbrev FIN (d : Dev nD) : sProp 𝕄 := StableHlo.held (d.tc : Thread nD τ) (Pipeline.ucRefs τ sig) (V6 m d)

set_option maxHeartbeats 1000000 in
theorem hmain (κ : GSem nD τ sig → ℕ) (d : Dev nD) :
    iprop((K (F := F)).ctx EH (P (ins m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq m d, wp_bind]
  simp only [wp_bind]
  have hub : (unscopedBufs d (fun b => m ((SparseCore.T d).loc b)) : sProp 𝕄)
      = StableHlo.held (d.tc : Thread nD τ) (Pipeline.ucRefs τ sig) (V0 m d) := Pipeline.unscopedBufs_held d (V0 m d)
  rw [hub]
  have hg : (pipeGhost (F := F) d : sProp 𝕄)
      = iprop(Pipeline.ghostOn (pcfgs (F := F)) adm EP (Finset.Ici 2) d ∗ Pipeline.ghostOn (pcfgs (F := F)) adm EP {0, 1} d) := by
    unfold pipeGhost Pipeline.ghostOn Pipeline.PerCore.ghostOn
    rw [show (Finset.univ : Finset (Fin 3)) = Finset.Ici 2 ∪ {0, 1} by decide, bigSep_union (by decide)]
    rfl
  rw [hg]
  iintro ⟨#Hctx, Hst, ⟨Hb, Hub, Hts, -⟩, Hg2, Hg1⟩
  ihave #Hlev := (SparseCore.Cfg.ctx_levAts κ) $$ Hctx
  unfold SparseCore.Cfg.tcSt
  icases Hst with ⟨HO, Hrest⟩
  iapply ((K (F := F)).wp_liftProg (D (F := F)) 𝒱 (SparseCore.T d) Set.univ none _ _)
  iapply (Pipeline.wp_segs (pcfgs (F := F)) adm (pdats m) none cellOf_inj EP (defs₀ (F := F)) 𝒱₀ (K (F := F)).L (K (F := F)).lev d
    (segs1 m) {0, 1} (stAt 0 (V0 m)) (stAt 0 (V3 m))
    (by simp only [segs1, Pipeline.Seg.pipes_host, Pipeline.Seg.pipes_region, Pipeline.Seg.pipes_nil]; decide)
    (by simp only [segs1, Pipeline.Seg.pipes_host, Pipeline.Seg.pipes_region, Pipeline.Seg.pipes_nil]; decide) (chains1 m))
  isplitr [Hb Hub HO Hg1]
  swap
  · isplitl [Hb]; · iexact Hb
    isplitl [Hub HO]
    · isplitl [Hub]; · iexact Hub
      iexact HO
    isplitr; · iexact Hlev
    iexact Hg1
  iintro ⟨Hb, Hub, HO⟩
  ihave Hub' := (Entails.of_eq (held_three (V3 m d) d)) $$ Hub
  icases Hub' with ⟨Hx, Hgi, Ho, Hot⟩
  iapply ((K (F := F)).wp_run (D (F := F)) 𝒱 (EH := EH) (P := P (ins m)) κ d 0) $$ [HO Hrest Hx Hgi Ho Hb Hot Hts Hg2]
  isplitr; · iexact Hctx
  isplitl [HO Hrest]
  · unfold SparseCore.Cfg.tcSt
    isplitl [HO]; · iexact HO
    iexact Hrest
  isplitl [Hx Hgi Ho]
  · rw [st0_eq]
    isplitl [Hx]; · iexact Hx
    isplitl [Hgi]; · iexact Hgi
    iexact Ho
  iintro ⟨Hst, Hdn⟩
  ihave Hdn' := (Entails.of_eq (dn0_eq (ins m) d)) $$ Hdn
  icases Hdn' with ⟨Hx, Hgi, Ho⟩
  unfold SparseCore.Cfg.tcSt
  icases Hst with ⟨HO, Hrest⟩
  iapply ((K (F := F)).wp_liftProg (D (F := F)) 𝒱 (SparseCore.T d) Set.univ none _ _)
  iapply (Pipeline.wp_segs (pcfgs (F := F)) adm (pdats m) none cellOf_inj EP (defs₀ (F := F)) 𝒱₀ (K (F := F)).L (K (F := F)).lev d
    (segs2 m) (Finset.Ici 2 : Finset (Fin 3)) (stAt 1 (V4 m)) (stAt 1 (V6 m))
    (by simp only [segs2, Pipeline.Seg.pipes_host, Pipeline.Seg.pipes_region, Pipeline.Seg.pipes_nil]; decide)
    (by simp only [segs2, Pipeline.Seg.pipes_host, Pipeline.Seg.pipes_region, Pipeline.Seg.pipes_nil]; decide) (chains2 m))
  isplitr [Hb Hx Hgi Ho Hot HO Hg2]
  swap
  · isplitl [Hb]; · iexact Hb
    isplitl [Hx Hgi Ho Hot HO]
    · isplitr [HO]
      · rw [held_three, others_V4, V4_rows, V4_of_ne m d (b := main_v2) (by decide), V4_of_ne m d (b := main_v6) (by decide)]
        isplitl [Hx]; · iexact Hx
        isplitl [Hgi]; · iexact Hgi
        isplitl [Ho]; · iexact Ho
        iexact Hot
      · iexact HO
    isplitr; · iexact Hlev
    iexact Hg2
  iintro ⟨Hb, Hub, HO⟩
  isplitl [HO Hrest]
  · isplitl [HO]; · iexact HO
    iexact Hrest
  isplitl [Hub]; · iexact Hub
  isplitl [Hb]; · iexact Hb
  iexact Hts

/-! ## The program -/

/-- The memory at the end: every unscoped buffer of a device at its last state. -/
def fq (d : Dev nD) (s' : Phys nD τ sig (Elt F)) : Prop :=
  ∀ b : Ref sig .tc, b.isScoped = false → s'.mem.mem ((SparseCore.T d).loc b) = V6 m d b

theorem hfin (d : Dev nD) (s' : Phys nD τ sig (Elt F)) : iprop(FIN m d ∗ SI s') ⊢ (⌜fq m d s'⌝ : sProp 𝕄) := by
  refine ((forall_intro fun b => ?_).trans pure_forall.2)
  refine ((forall_intro fun hb => ?_).trans pure_forall.2)
  unfold FIN StableHlo.held
  rw [SparseCore.bigSep_erase' (s := Pipeline.ucRefs τ sig) (i := (Proc.devRef .tc b : DevRef τ sig)) (Pipeline.devRef_mem_ucRefs hb)]
  iintro ⟨⟨Hi, -⟩, HSI⟩
  ihave H := (SI_pointsTo_agree (st := s') (ℓ := (SparseCore.T d).loc b) (I := Finset.univ) (q := fullShare) (f := V6 m d b)) $$ [HSI Hi]
  · isplitl [HSI]; · iexact HSI
    iexact Hi
  icases H with %h
  ipureintro; exact funext fun i => h i (Finset.mem_univ i)

def QC : PUnit × MemSt nD τ sig (Elt F) → Prop := fun r =>
  (∀ d : Dev nD, ∀ b : Ref sig .tc, b.isScoped = false → r.2.mem ((SparseCore.T d).loc b) = V6 m d b) ∧ r.2.sem = fun _ => 0

theorem run_main [∀ e, Nonempty (Elt F e)] (hG : ∀ d j, ((ins m).G d j).toNat < 16384) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) facts v₀
    (fun q hq => match q with | 0 => nomatch hq)
    (fun q _ => match q with | 0 => tileObl (ins m) facts hG)
    (fun q _ => match q with | 0 => SparseCore.Cfg.VecSplit.of_plain (vecSplit (ins m)))
    m ρ main pipeGhost (FIN m) (u₀ (F := F)) (sep_elim_left.trans (hu₀ m)) (hmain m ρ) (fq m) (hfin m) (QC m) (fun _ h hz => ⟨h, hz⟩)

end Cert.Proof.Run

end
-- ==== Proof.Select.lean ====
module

public import proofs.«01_k».proof.Proof.Bodies
public import Idealize.ShloMosaic.Lib.Pointwise
public import Idealize.ShloMosaic.Lib.WordSum
public import Mathlib.Data.Nat.Count
public import Mathlib.Algebra.BigOperators.Intervals

/-! # The selection step, number by number -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F]

variable (A : S1x1x2048.Idx → Elt F .f32) (C : S1x2048x1.Idx → Elt F .f32) (N : S1x1x2048.Idx → Elt F .i32)

/-! ## Positions: a running count -/

/-- One doubling step of a running sum along the row. -/
def stepW (s : BitVec 32) (x : IVec S1x2048 32) : IVec S1x2048 32 :=
  addi x (select (cmpi .sge selIota (broadcast S1x2048 s)) (dynamicRotate 1 s none x rotates_S1x2048_d1) (broadcast S1x2048 0#32))

set_option maxRecDepth 8000 in
theorem selPos_eq : selPos A C = subi (stepW 1024#32 (stepW 512#32 (stepW 256#32 (stepW 128#32 (stepW 64#32 (stepW 32#32
    (stepW 16#32 (stepW 8#32 (stepW 4#32 (stepW 2#32 (stepW 1#32 (selFlag A C)))))))))))) (selFlag A C) := rfl

theorem sge_small {a b : ℕ} (ha : a < 2 ^ 31) (hb : b < 2 ^ 31) :
    IntOp.cmpi .sge (BitVec.ofNat 32 a) (BitVec.ofNat 32 b) = BitVec.ofBool (decide (b ≤ a)) := by
  have h1 : (BitVec.ofNat 32 a).toInt = a := by rw [BitVec.toInt_eq_toNat_of_lt] <;> simp <;> omega
  have h2 : (BitVec.ofNat 32 b).toInt = b := by rw [BitVec.toInt_eq_toNat_of_lt] <;> simp <;> omega
  show BitVec.ofBool (decide ((BitVec.ofNat 32 b).toInt ≤ (BitVec.ofNat 32 a).toInt)) = _
  rw [h1, h2]; simp

theorem slt_small {a b : ℕ} (ha : a < 2 ^ 31) (hb : b < 2 ^ 31) :
    IntOp.cmpi .slt (BitVec.ofNat 32 a) (BitVec.ofNat 32 b) = BitVec.ofBool (decide (a < b)) := by
  have h1 : (BitVec.ofNat 32 a).toInt = a := by rw [BitVec.toInt_eq_toNat_of_lt] <;> simp <;> omega
  have h2 : (BitVec.ofNat 32 b).toInt = b := by rw [BitVec.toInt_eq_toNat_of_lt] <;> simp <;> omega
  show BitVec.ofBool (decide ((BitVec.ofNat 32 a).toInt < (BitVec.ofNat 32 b).toInt)) = _
  rw [h1, h2]; simp

theorem select_ofBool {α : Type} (p : Prop) [Decidable p] (a b : α) :
    Scalar.select (BitVec.ofBool (decide p)) a b = if p then a else b := by
  by_cases h : p <;> simp [h, Scalar.select]

theorem stepW_at (s : ℕ) (hs : 0 < s) (hs' : s ≤ 1024) (x : IVec S1x2048 32) (j : Fin 2048) :
    stepW (BitVec.ofNat 32 s) x (ix2 0 j) =
      x (ix2 0 j) + if h : s ≤ j.val then x (ix2 0 ⟨j.val - s, by omega⟩) else 0 := by
  unfold stepW
  pointwise
  rw [sge_small (by omega) (by omega), select_ofBool]
  show _ + _ = _
  congr 1
  by_cases h : s ≤ j.val
  · rw [if_pos h, dif_pos h]
    congr 2
    apply Fin.ext
    show (j.val + 2048 - (BitVec.ofNat 32 s).toNat % 2048) % 2048 = j.val - s
    rw [BitVec.toNat_ofNat, Nat.mod_eq_of_lt (by omega : s < 2 ^ 32), Nat.mod_eq_of_lt (by omega : s < 2048)]
    omega
  · rw [if_neg h, dif_neg h]; rfl

/-- A row holding windowed sums of width `s`. -/
def Win (f : ℕ → ℕ) (s : ℕ) (x : IVec S1x2048 32) : Prop :=
  ∀ j : Fin 2048, x (ix2 0 j) = BitVec.ofNat 32 (∑ i ∈ Finset.Ico (j.val + 1 - s) (j.val + 1), f i)

theorem Win.step {f : ℕ → ℕ} {s : ℕ} {x : IVec S1x2048 32} (hx : Win f s x) (hs : 0 < s) (hs' : s ≤ 1024) :
    Win f (2 * s) (stepW (BitVec.ofNat 32 s) x) := by
  intro j
  rw [stepW_at s hs hs' x j, hx j]
  by_cases h : s ≤ j.val
  · rw [dif_pos h, hx ⟨j.val - s, by omega⟩, ← BitVec.ofNat_add, add_comm]
    congr 1
    have e : j.val - s + 1 = j.val + 1 - s := by omega
    rw [show (⟨j.val - s, by omega⟩ : Fin 2048).val = j.val - s from rfl, e]
    rw [Finset.sum_Ico_consecutive _ (by omega) (by omega)]
    congr 2; omega
  · rw [dif_neg h]
    have e1 : j.val + 1 - s = 0 := by omega
    have e2 : j.val + 1 - 2 * s = 0 := by omega
    rw [e1, e2]; simp

/-- Whether lane `n` stays unmerged. -/
def Unm (n : ℕ) : Prop := ∃ h : n < 2048, selUnm A C (ix2 0 ⟨n, h⟩) = 1#1

instance : DecidablePred (Unm A C) := fun n => Classical.propDecidable _

theorem selFlag_at (j : Fin 2048) : selFlag A C (ix2 0 j) = BitVec.ofNat 32 (if Unm A C j.val then 1 else 0) := by
  show (selUnm A C (ix2 0 j)).setWidth 32 = _
  by_cases h : selUnm A C (ix2 0 j) = 1#1
  · rw [if_pos (show Unm A C j.val from ⟨j.isLt, h⟩), h]; rfl
  · rw [if_neg (show ¬ Unm A C j.val from fun ⟨_, h'⟩ => h h'), ValueIdx.eq_zero_of_ne_one h]; rfl

theorem selFlag_win : Win (fun n => if Unm A C n then 1 else 0) 1 (selFlag A C) := by
  intro j
  rw [selFlag_at]
  congr 1
  rw [show j.val + 1 - 1 = j.val from rfl, Nat.Ico_succ_singleton, Finset.sum_singleton]

theorem subi_at (x y : IVec S1x2048 32) (j : S1x2048.Idx) : subi x y j = x j - y j := rfl

theorem selPos_at (j : Fin 2048) : selPos A C (ix2 0 j) = BitVec.ofNat 32 (Nat.count (Unm A C) j.val) := by
  have h := (((((((((((selFlag_win A C).step (by decide) (by decide)).step (by decide) (by decide)).step (by decide) (by decide)).step
    (by decide) (by decide)).step (by decide) (by decide)).step (by decide) (by decide)).step (by decide) (by decide)).step (by decide)
    (by decide)).step (by decide) (by decide)).step (by decide) (by decide)).step (by decide) (by decide)
  have hj := h j
  have hf := selFlag_at A C j
  rw [selPos_eq, subi_at, hj, hf]
  have e1 : j.val + 1 - 2 * (2 * (2 * (2 * (2 * (2 * (2 * (2 * (2 * (2 * (2 * 1)))))))))) = 0 := by omega
  rw [e1, Finset.sum_Ico_succ_top (Nat.zero_le _), BitVec.ofNat_add]
  simp only [BitVec.add_sub_cancel]
  refine congrArg (BitVec.ofNat 32) ?_
  rw [Nat.count_eq_card_filter_range, Finset.card_filter, Finset.range_eq_Ico]

theorem part_emb {α : Type} {s : Shape} {off size : Fin s.rank → ℕ} {inb : ∀ a, off a + size a ≤ s.size a} {X : s.Idx → α}
    (x : (Rect.unit off size inb).shape.Idx) (y : s.Idx) (h : ∀ a, (y a).val = off a + (x a).val) : part off size inb X x = X y := by
  unfold part
  congr 1
  funext a
  apply Fin.ext
  rw [h a]
  simp [Rect.emb_apply]

theorem partRow {α : Type} (X : S1x1x2048.Idx → α) :
    part (s := S1x1x2048) ![0, 0, 0] S1x1x2048.size inb_S1x1x2048_S1x1x2048_0_0_0 X = X := by
  funext x
  refine part_emb x x fun a => ?_
  fin_cases a <;> exact (Nat.zero_add _).symm

theorem partCol {α : Type} (X : S1x2048x1.Idx → α) (k : ℕ) (hk : k + 256 ≤ 2048) (inb) (y : Fin 256) :
    part (s := S1x2048x1) ![0, k, 0] S1x256x1.size inb X (ix3 0 y 0) = X (ix3 0 ⟨y.val + k, by omega⟩ 0) := by
  refine part_emb _ _ fun a => ?_
  fin_cases a
  · exact (Nat.zero_add _).symm
  · exact Nat.add_comm _ _
  · exact (Nat.zero_add _).symm

/-! ## Rows to gather -/

variable (i : grid1.Coords)

/-- A fold of word additions is the sum of the words. -/
theorem fold_addi_sum {n : ℕ} (f : Fin n → BitVec 32) : Finset.fold IntOp.addi 0#32 f Finset.univ = ∑ l, f l := rfl

theorem cmpi_eq_ofBool (a b : BitVec 32) : IntOp.cmpi .eq a b = BitVec.ofBool (decide (a = b)) := by
  show BitVec.ofBool (a == b) = _
  rfl

theorem pick_and (p : BitVec 1) (a b : BitVec 32) (x y : BitVec 32) :
    Scalar.select (IntOp.andi p (IntOp.cmpi .eq a b)) x y = if p = 1#1 ∧ a = b then x else y := by
  rw [cmpi_eq_ofBool]
  by_cases hp : p = 1#1
  · by_cases h : a = b <;> simp [hp, h, Scalar.select, IntOp.andi]
  · rw [ValueIdx.eq_zero_of_ne_one hp]
    by_cases h : a = b <;> simp [h, Scalar.select, IntOp.andi]

theorem rowWord (b : ℕ) (l : Fin 2048) : k1_pay20 (BitVec.ofNat 32 b) selIota (ix2 0 l) = BitVec.ofNat 32 (4096 * b + 2 * l.val) := by
  unfold k1_pay20
  pointwise
  show 4096#32 * BitVec.ofNat 32 b + 2#32 * BitVec.ofNat 32 l.val = _
  rw [BitVec.ofNat_add, BitVec.ofNat_mul, BitVec.ofNat_mul]

theorem rowIota (y : ℕ) (k : ℕ) : IntOp.addi (BitVec.ofNat 32 y) (BitVec.ofNat 32 k) = BitVec.ofNat 32 (y + k) :=
  (BitVec.ofNat_add y k).symm

theorem pay22_at (un : IVec S1x2048 1) (p g : IVec S1x2048 32) (y : Fin 256) : k1_pay22 un p g (ix3 0 y 0) =
    ∑ l : Fin 2048, if un (ix2 0 l) = 1#1 ∧ p (ix2 0 l) = BitVec.ofNat 32 (y.val + 256) then g (ix2 0 l) else 0 := by
  unfold k1_pay22
  pointwise
  rw [fold_addi_sum]
  refine Finset.sum_congr rfl fun l _ => ?_
  rw [pick_and, rowIota]; rfl

theorem pay23_at (un : IVec S1x2048 1) (p g : IVec S1x2048 32) (y : Fin 256) : k1_pay23 un p g (ix3 0 y 0) =
    ∑ l : Fin 2048, if un (ix2 0 l) = 1#1 ∧ p (ix2 0 l) = BitVec.ofNat 32 (y.val + 512) then g (ix2 0 l) else 0 := by
  unfold k1_pay23
  pointwise
  rw [fold_addi_sum]
  refine Finset.sum_congr rfl fun l _ => ?_
  rw [pick_and, rowIota]; rfl

theorem pay24_at (un : IVec S1x2048 1) (p g : IVec S1x2048 32) (y : Fin 256) :
    k1_pay1 (k1_pay24 un p) 0#32 (k1_pay25 g) (ix3 0 y 0) =
    ∑ l : Fin 2048, if un (ix2 0 l) = 1#1 ∧ p (ix2 0 l) = BitVec.ofNat 32 (y.val + 768) then g (ix2 0 l) else 0 := by
  unfold k1_pay1 k1_pay24 k1_pay25
  pointwise
  rw [fold_addi_sum]
  refine Finset.sum_congr rfl fun l _ => ?_
  rw [pick_and, rowIota]; rfl

set_option maxRecDepth 8000 in
theorem pay21_eq (a0 : BitVec 32) (v4 : IVec S1x2048 32) (un : IVec S1x2048 1) (v168 v222 : IVec S1x2048 32) (y : Fin 256) :
    k1_pay21 a0 v4 un v168 v222 512#32 (ix3 0 y 0) =
    ∑ l : Fin 2048, if un (ix2 0 l) = 1#1 ∧ k1_pay18 v4 v168 v222 512#32 (ix2 0 l) = BitVec.ofNat 32 (y.val + 0)
      then k1_pay20 a0 v4 (ix2 0 l) else 0 := by
  unfold k1_pay21
  generalize k1_pay18 v4 v168 v222 512#32 = p
  generalize k1_pay20 a0 v4 = g
  pointwise
  rw [fold_addi_sum]
  refine Finset.sum_congr rfl fun l _ => ?_
  rw [pick_and]
  try rw [rowIota]
  rfl

theorem gather_sum (u : Fin 1024) : selGather A C i (ix3 0 u 0) =
    ∑ l : Fin 2048, if selUnm A C (ix2 0 l) = 1#1 ∧ selPos A C (ix2 0 l) = BitVec.ofNat 32 u.val
      then BitVec.ofNat 32 (4096 * (i 0).val + 2 * l.val) else 0 := by
  simp only [← rowWord]
  have hu := u.isLt
  unfold selGather
  show (if h0 : u.val < 256 then _ else _) = _
  by_cases h0 : u.val < 256
  · rw [dif_pos h0]
    exact (pay21_eq _ _ _ _ _ ⟨u.val, h0⟩)
  rw [dif_neg h0]
  show (if h1 : u.val < 512 then _ else _) = _
  by_cases h1 : u.val < 512
  · rw [dif_pos h1]
    refine (pay22_at _ _ _ ⟨u.val - 256, by omega⟩).trans ?_
    rw [show (⟨u.val - 256, by omega⟩ : Fin 256).val + 256 = u.val from Nat.sub_add_cancel (by omega)]
  rw [dif_neg h1]
  show (if h2 : u.val < 768 then _ else _) = _
  by_cases h2 : u.val < 768
  · rw [dif_pos h2]
    refine (pay23_at _ _ _ ⟨u.val - 512, by omega⟩).trans ?_
    rw [show (⟨u.val - 512, by omega⟩ : Fin 256).val + 512 = u.val from Nat.sub_add_cancel (by omega)]
  rw [dif_neg h2]
  refine (pay24_at _ _ _ ⟨u.val - 768, by omega⟩).trans ?_
  rw [show (⟨u.val - 768, by omega⟩ : Fin 256).val + 768 = u.val from Nat.sub_add_cancel (by omega)]

theorem count_lt (l : ℕ) (hl : l < 2048) : Nat.count (Unm A C) l < 2048 :=
  lt_of_le_of_lt (Nat.count_le _) hl

/-- Row `u` gathers the `u`-th unmerged token. -/
theorem gather_of (u : Fin 1024) (l : Fin 2048) (hl : Unm A C l.val) (hc : Nat.count (Unm A C) l.val = u.val) :
    selGather A C i (ix3 0 u 0) = BitVec.ofNat 32 (4096 * (i 0).val + 2 * l.val) := by
  rw [gather_sum, Finset.sum_eq_single l]
  · rw [if_pos]
    exact ⟨hl.2, by rw [selPos_at, hc]⟩
  · intro b _ hb
    rw [if_neg]
    rintro ⟨h1, h2⟩
    rw [selPos_at] at h2
    have h3 : Nat.count (Unm A C) b.val = u.val := by
      have := congrArg BitVec.toNat h2
      have hb2 := count_lt A C b.val b.isLt
      rw [BitVec.toNat_ofNat, BitVec.toNat_ofNat, Nat.mod_eq_of_lt (by omega), Nat.mod_eq_of_lt (by omega)] at this
      exact this
    exact hb (Fin.ext (Nat.count_injective ⟨b.isLt, h1⟩ hl (h3.trans hc.symm)))
  · intro h; exact absurd (Finset.mem_univ _) h

theorem gather_none (u : Fin 1024) (h : ∀ l : Fin 2048, Unm A C l.val → Nat.count (Unm A C) l.val ≠ u.val) :
    selGather A C i (ix3 0 u 0) = 0 := by
  rw [gather_sum]
  refine Finset.sum_eq_zero fun l _ => ?_
  rw [if_neg]
  rintro ⟨h1, h2⟩
  rw [selPos_at] at h2
  refine h l ⟨l.isLt, h1⟩ ?_
  have := congrArg BitVec.toNat h2
  have hb2 := count_lt A C l.val l.isLt
  rw [BitVec.toNat_ofNat, BitVec.toNat_ofNat, Nat.mod_eq_of_lt (by omega), Nat.mod_eq_of_lt (by omega)] at this
  exact this

/-- Every gathered row is a row of the table, whatever the values. -/
theorem gather_lt (y : S1x1024x1.Idx) : (selGather A C i y).toNat < 16384 := by
  obtain ⟨u, rfl⟩ : ∃ u : Fin 1024, y = ix3 0 u 0 := by
    refine ⟨y 1, ?_⟩
    funext a; fin_cases a
    · exact Subsingleton.elim (α := Fin 1) _ _
    · rfl
    · exact Subsingleton.elim (α := Fin 1) _ _
  have hi : (i 0).val < 4 := (i 0).isLt
  by_cases h : ∃ l : Fin 2048, Unm A C l.val ∧ Nat.count (Unm A C) l.val = u.val
  · obtain ⟨l, hl, hc⟩ := h
    rw [gather_of A C i u l hl hc, BitVec.toNat_ofNat]
    have := l.isLt
    omega
  · rw [gather_none A C i u fun l hl hc => h ⟨l, hl, hc⟩]
    exact (by decide : (0 : ℕ) < 16384)

/-! ## Positions of the even tokens -/

theorem evens_at (l : Fin 2048) : selEvens A C N (ix3 0 0 l) =
    if Unm A C l.val then BitVec.ofNat 32 (Nat.count (Unm A C) l.val) else 1024#32 + N (ix3 0 0 l) := by
  have e : selEvens A C N (ix3 0 0 l) = Scalar.select (selUnm A C (ix2 0 l)) (selPos A C (ix2 0 l)) (1024#32 + N (ix3 0 0 l)) := by
    unfold selEvens k1_pay19
    have hp : k1_pay18 selIota (selFlag A C) (selPre9 A C) 512#32 = selPos A C := rfl
    rw [hp]
    generalize selPos A C = p
    generalize selUnm A C = un
    rw [partRow]
    unfold k1_pay3
    pointwise
    rfl
  rw [e, selPos_at]
  by_cases h : selUnm A C (ix2 0 l) = 1#1
  · rw [if_pos (show Unm A C l.val from ⟨l.isLt, h⟩), h]; rfl
  · rw [if_neg (show ¬ Unm A C l.val from fun ⟨_, h'⟩ => h h'), ValueIdx.eq_zero_of_ne_one h]; rfl

end Cert.Proof.Run
-- ==== Proof.Arrays.lean ====
module

public import proofs.«01_k».proof.Proof.Launch
public import proofs.«01_k».proof.Proof.Select
public import Idealize.ShloMosaic.Lib.Pipeline.ValueKit.Geometry

/-! # What the states hold, buffer by buffer -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F]

variable (m : (ℓ : Loc nD τ sig) → Buf (Elt F) ℓ)

set_option maxHeartbeats 400000 in
theorem numbers_lt (c : Dev nD) (i : S4x1024x1.Idx) : BitVec.toNat (w := 32) (R2 m c main_v5_1 i) < 16384 := by
  rw [R2_num]
  refine (dat1 (V2 m) c).arrAt_forall_of_covers 4 (fun _ v => BitVec.toNat (w := 32) v < 16384) (by decide +kernel) (fun t _ y => ?_) i
  blk_simp
  rw [after1_4]
  exact gather_lt _ _ _ _

def wrA : List (Ref sig .tc) := [main_v0, main_v1, main_v2]
def wrE : List (Ref sig .tc) := [main_v10, main_v11, main_v12, main_c, main_v13, main_v14, main_v15, main_v16, main_v17, main_v18, main_v19, main_v20]

theorem offA (V : Valuation τ sig (Elt F)) {r : Ref sig .tc} (h : r ∉ wrA) : StableHlo.after opsA V r = V r :=
  StableHlo.after_of_writes_sub opsA V (StableHlo.forall_writes_sub_of_map (W := wrA) rfl) h
theorem offB (V : Valuation τ sig (Elt F)) {r : Ref sig .tc} (h : r ∉ [main_v4]) : StableHlo.after opsB V r = V r :=
  StableHlo.after_of_writes_sub opsB V (StableHlo.forall_writes_sub_of_map (W := [main_v4]) rfl) h
theorem offC (V : Valuation τ sig (Elt F)) {r : Ref sig .tc} (h : r ∉ [main_v6]) : StableHlo.after opsC V r = V r :=
  StableHlo.after_of_writes_sub opsC V (StableHlo.forall_writes_sub_of_map (W := [main_v6]) rfl) h
theorem offD (V : Valuation τ sig (Elt F)) {r : Ref sig .tc} (h : r ∉ [main_v8]) : StableHlo.after opsD V r = V r :=
  StableHlo.after_of_writes_sub opsD V (StableHlo.forall_writes_sub_of_map (W := [main_v8]) rfl) h
theorem offE (V : Valuation τ sig (Elt F)) {r : Ref sig .tc} (h : r ∉ wrE) : StableHlo.after opsE V r = V r :=
  StableHlo.after_of_writes_sub opsE V (StableHlo.forall_writes_sub_of_map (W := wrE) rfl) h

set_option maxHeartbeats 400000 in
theorem ins_G (c : Dev nD) : (ins m).G c = shapeCast S64x64 (R2 m c main_v5_1) shapeCasts_S4x1024x1_S64x64 := by
  show StableHlo.after opsC (R2 m c) main_v6 = _
  unfold opsC
  after_results_simp
  rfl

theorem ins_lt (c : Dev nD) (j : S64x64.Idx) : BitVec.toNat (w := 32) ((ins m).G c j) < 16384 := by
  rw [ins_G]
  exact numbers_lt m c _

theorem V6_off (c : Dev nD) {r : Ref sig .tc} (hE : r ∉ wrE) (hA : r ∉ wrA) (h : r ∉ [main_v4, main_v6, main_v8, main_v3_0, main_v3_1,
    main_v5_0, main_v5_1, main_v7, main_v9]) : V6 m c r = m (c, r) := by
  simp only [List.mem_cons, List.not_mem_nil, or_false, not_or] at h
  obtain ⟨h4, h6, h8, h30, h31, h50, h51, h7, h9⟩ := h
  refine (offE _ hE).trans ((R5_of_ne m c h9).trans ((offD _ (by simpa using h8)).trans ((V4_of_ne m c h7).trans
    ((offC _ (by simpa using h6)).trans ((R2_of_ne m c h50 h51).trans ((offB _ (by simpa using h4)).trans
      ((R1_of_ne m c h30 h31).trans (offA _ hA))))))))

theorem V6_arg0 (c : Dev nD) : V6 m c main_arg0 = m (c, main_arg0) := V6_off m c (by decide) (by decide) (by decide)

theorem V6_arg1 (c : Dev nD) : V6 m c main_arg1 = m (c, main_arg1) := V6_off m c (by decide) (by decide) (by decide)

end Cert.Proof.Run
-- ==== Proof.Frames.lean ====
module

public import proofs.«01_k».proof.Proof.Run
public import proofs.«01_k».proof.Proof.Arrays
public import proofs.«01_k».proof.Defs
public import proofs.«01_k».proof.Proof.Gen.Kernel

/-! # The frames of the two kernels -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem frame_kernelIdeal : Cert.quiescent_KernelIdeal := fun m ρ _ =>
  (θ_run (Cert.KernelIdeal.defs (F := Ideal)) _ _).mono
    (fun _ h => ⟨fun c => ⟨(h.1 c main_arg0 rfl).trans (V6_arg0 m c), (h.1 c main_arg1 rfl).trans (V6_arg1 m c)⟩, h.2⟩)
    (run_main (F := Ideal) m ρ (ins_lt m))

open Cert.Kernel.Gen in
set_option maxHeartbeats 1000000 in
theorem cc2_eq : @Cert.Kernel.cc2__sc_body Bits _ = @Cert.KernelIdeal.cc2__sc_body Bits _ := by
  funext i a2 h2 a3 h3 a4 h4 a5
  rfl

open Cert.Kernel.Gen in
set_option maxHeartbeats 1000000 in
theorem bodies_eq : Cert.Kernel.defs₀ (F := Bits) = Cert.KernelIdeal.defs₀ (F := Bits) := by
  funext p l a
  match p, l, a with
  | .tc, 0, (t, s) => rfl
  | .tc, 1, (t, s) => rfl
  | .scVector c s, 2, _ =>
    rw [Cert.Kernel.defs₀, Cert.KernelIdeal.defs₀]
    rw [cc2_eq]
    rfl
  | .tc, 3, (t, s) => rfl
  | .tc, 2, _ => rfl
  | .scScalar _, _, _ => rfl
  | .scVector _ _, 0, _ => rfl
  | .scVector _ _, 1, _ => rfl
  | .scVector _ _, 3, _ => rfl

open Cert.Kernel.Gen in
set_option maxHeartbeats 1000000 in
theorem defs_eq : Cert.Kernel.defs (F := Bits) = Cert.KernelIdeal.defs (F := Bits) :=
  congrArg (fun d => Cert.KernelIdeal.sc.defs (Pipeline.defs Cert.KernelIdeal.pcfgs d)) bodies_eq

set_option maxHeartbeats 1000000 in
theorem frame_kernel : Cert.quiescent_Kernel (hKernel := Cert.Kernel.Gen.facts) := by
  intro m ρ _
  rw [defs_eq]
  exact (θ_run (Cert.KernelIdeal.defs (F := Bits)) (Cert.KernelIdeal.threads (F := Bits)) ⟨m, fun _ => 0, ρ⟩).mono
    (fun _ h => ⟨fun c => ⟨(h.1 c main_arg0 rfl).trans (V6_arg0 m c), (h.1 c main_arg1 rfl).trans (V6_arg1 m c)⟩, h.2⟩)
    (run_main (F := Bits) m ρ (ins_lt m))

end Cert.Proof.Run
-- ==== Proof.RefRun.lean ====
module

public import proofs.«01_k».proof.Defs
public import proofs.«01_k».proof.Proof.Gen.ReferenceIdeal
public import Idealize.ShloMosaic.Lib.StableHlo.RunRead
public import Idealize.ShloMosaic.Lib.Quiescent
/-! The reference as one straight line of operations, and the contents every buffer ends at. -/

@[expose] public noncomputable section

namespace Cert.Proof.Ref

open Cert.ReferenceIdeal Cert.ReferenceIdeal.Gen
open Idealize.ShloMosaic Idealize.ShloMosaic.StableHlo
open Idealize.SL Idealize.SL.Sem

variable {F : FTy → Type} [FloatOps F]

/-- Operations of part 0, the functions' bodies written out at their calls. -/
def line0 : List (HloOp τ sig (Elt F)) :=
  [nullary main_v0 (iotaInDim S2048 32 0),
   nullary main_c (constantI S_ 32 2#32),
   unary main_c main_v1 (broadcastInDim S2048 ![] bcast_S_S2048 : (⟨S_, .i32⟩ : BufTy).Contents (Elt F) → (⟨S2048, .i32⟩ : BufTy).Contents (Elt F)),
   binary main_v1 main_v0 main_v2 (muli : (⟨S2048, .i32⟩ : BufTy).Contents (Elt F) → (⟨S2048, .i32⟩ : BufTy).Contents (Elt F) → (⟨S2048, .i32⟩ : BufTy).Contents (Elt F)),
   nullary main_c_0 (constantI S_ 32 0#32),
   unary main_c_0 main_v3 (broadcastInDim S2048 ![] bcast_S_S2048 : (⟨S_, .i32⟩ : BufTy).Contents (Elt F) → (⟨S2048, .i32⟩ : BufTy).Contents (Elt F)),
   binary main_v3 main_v2 main_v4 (addi : (⟨S2048, .i32⟩ : BufTy).Contents (Elt F) → (⟨S2048, .i32⟩ : BufTy).Contents (Elt F) → (⟨S2048, .i32⟩ : BufTy).Contents (Elt F)),
   nullary main_v5 (iotaInDim S2048 32 0),
   nullary main_c_1 (constantI S_ 32 2#32),
   unary main_c_1 main_v6 (broadcastInDim S2048 ![] bcast_S_S2048 : (⟨S_, .i32⟩ : BufTy).Contents (Elt F) → (⟨S2048, .i32⟩ : BufTy).Contents (Elt F)),
   binary main_v6 main_v5 main_v7 (muli : (⟨S2048, .i32⟩ : BufTy).Contents (Elt F) → (⟨S2048, .i32⟩ : BufTy).Contents (Elt F) → (⟨S2048, .i32⟩ : BufTy).Contents (Elt F)),
   nullary main_c_2 (constantI S_ 32 1#32),
   unary main_c_2 main_v8 (broadcastInDim S2048 ![] bcast_S_S2048 : (⟨S_, .i32⟩ : BufTy).Contents (Elt F) → (⟨S2048, .i32⟩ : BufTy).Contents (Elt F)),
   binary main_v8 main_v7 main_v9 (addi : (⟨S2048, .i32⟩ : BufTy).Contents (Elt F) → (⟨S2048, .i32⟩ : BufTy).Contents (Elt F) → (⟨S2048, .i32⟩ : BufTy).Contents (Elt F)),
   unary main_arg1 main_v10 ((Host.slice S4x2048x1024 ![0, 0, 0] ![1, 2, 1] · slicesBy_S4x4096x1024_S4x2048x1024_0s1_0s2_0s1) : (⟨S4x4096x1024, .f32⟩ : BufTy).Contents (Elt F) → (⟨S4x2048x1024, .f32⟩ : BufTy).Contents (Elt F)),
   unary main_arg1 main_v11 ((Host.slice S4x2048x1024 ![0, 1, 0] ![1, 2, 1] · slicesBy_S4x4096x1024_S4x2048x1024_0s1_1s2_0s1) : (⟨S4x4096x1024, .f32⟩ : BufTy).Contents (Elt F) → (⟨S4x2048x1024, .f32⟩ : BufTy).Contents (Elt F)),
   TRef.binary (.of main_v10 : TRef sig ⟨S4x2048x1024, .f32⟩) (.of main_v10 : TRef sig ⟨S4x2048x1024, .f32⟩) main_call0.v0 mulf,
   TRef.nullary main_call0.cst (constant S_ .f32 0x00000000#32),
   TRef.binary main_call0.v0 main_call0.cst main_call0.v1 (fun x v => Host.reduceAdd x v reducesTo_S4x2048x1024_S4x2048_d2 h_S_),
   TRef.unary main_call0.v1 main_call0.v2 (broadcastInDim S4x2048x1 ![0, 1] bcast_S4x2048_S4x2048x1_0_1),
   TRef.unary main_call0.v2 main_call0.v3 Host.sqrt,
   nullary main_cst (constant S_ .f32 0x2B8CBCCC#32),
   unary main_cst main_v13 (broadcastInDim S4x2048x1 ![] bcast_S_S4x2048x1 : (⟨S_, .f32⟩ : BufTy).Contents (Elt F) → (⟨S4x2048x1, .f32⟩ : BufTy).Contents (Elt F)),
   binary main_v12 main_v13 main_v14 (addf : (⟨S4x2048x1, .f32⟩ : BufTy).Contents (Elt F) → (⟨S4x2048x1, .f32⟩ : BufTy).Contents (Elt F) → (⟨S4x2048x1, .f32⟩ : BufTy).Contents (Elt F)),
   unary main_v14 main_v15 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
   binary main_v10 main_v15 main_v16 (Host.divf : (⟨S4x2048x1024, .f32⟩ : BufTy).Contents (Elt F) → (⟨S4x2048x1024, .f32⟩ : BufTy).Contents (Elt F) → (⟨S4x2048x1024, .f32⟩ : BufTy).Contents (Elt F)),
   TRef.binary (.of main_v11 : TRef sig ⟨S4x2048x1024, .f32⟩) (.of main_v11 : TRef sig ⟨S4x2048x1024, .f32⟩) main_call1.v0 mulf,
   TRef.nullary main_call1.cst (constant S_ .f32 0x00000000#32),
   TRef.binary main_call1.v0 main_call1.cst main_call1.v1 (fun x v => Host.reduceAdd x v reducesTo_S4x2048x1024_S4x2048_d2 h_S_),
   TRef.unary main_call1.v1 main_call1.v2 (broadcastInDim S4x2048x1 ![0, 1] bcast_S4x2048_S4x2048x1_0_1),
   TRef.unary main_call1.v2 main_call1.v3 Host.sqrt,
   nullary main_cst_3 (constant S_ .f32 0x2B8CBCCC#32),
   unary main_cst_3 main_v18 (broadcastInDim S4x2048x1 ![] bcast_S_S4x2048x1 : (⟨S_, .f32⟩ : BufTy).Contents (Elt F) → (⟨S4x2048x1, .f32⟩ : BufTy).Contents (Elt F)),
   binary main_v17 main_v18 main_v19 (addf : (⟨S4x2048x1, .f32⟩ : BufTy).Contents (Elt F) → (⟨S4x2048x1, .f32⟩ : BufTy).Contents (Elt F) → (⟨S4x2048x1, .f32⟩ : BufTy).Contents (Elt F)),
   unary main_v19 main_v20 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
   binary main_v11 main_v20 main_v21 (Host.divf : (⟨S4x2048x1024, .f32⟩ : BufTy).Contents (Elt F) → (⟨S4x2048x1024, .f32⟩ : BufTy).Contents (Elt F) → (⟨S4x2048x1024, .f32⟩ : BufTy).Contents (Elt F)),
   unary main_v21 main_v22 ((transpose S4x1024x2048 [0, 2, 1] · transposes_S4x2048x1024_S4x1024x2048_0_2_1) : (⟨S4x2048x1024, .f32⟩ : BufTy).Contents (Elt F) → (⟨S4x1024x2048, .f32⟩ : BufTy).Contents (Elt F)),
   binary main_v16 main_v22 main_v23 ((fun l r => Host.dotGeneral dot_S4x2048x1024_S4x1024x2048_S4x2048x2048_2_1_1_2_0_0 none l r) : (⟨S4x2048x1024, .f32⟩ : BufTy).Contents (Elt F) → (⟨S4x1024x2048, .f32⟩ : BufTy).Contents (Elt F) → (⟨S4x2048x2048, .f32⟩ : BufTy).Contents (Elt F)),
   nullary main_c_4 (constantI S_ 32 0#32),
   unary main_c_4 main_v24 (broadcastInDim S1 ![] bcast_S_S1 : (⟨S_, .i32⟩ : BufTy).Contents (Elt F) → (⟨S1, .i32⟩ : BufTy).Contents (Elt F)),
   nullary main_cst_5 (constant S_ .f32 0xFF800000#32),
   unary main_cst_5 main_v25 (broadcastInDim S4x2048 ![] bcast_S_S4x2048 : (⟨S_, .f32⟩ : BufTy).Contents (Elt F) → (⟨S4x2048, .f32⟩ : BufTy).Contents (Elt F)),
   ternary main_v23 main_v24 main_v25 main_v26 ((fun x i u => Host.scatter scatter_S4x2048x2048_S1_S4x2048_01_1_1_0 (fun _ b => b) x i u) : (⟨S4x2048x2048, .f32⟩ : BufTy).Contents (Elt F) → (⟨S1, .i32⟩ : BufTy).Contents (Elt F) → (⟨S4x2048, .f32⟩ : BufTy).Contents (Elt F) → (⟨S4x2048x2048, .f32⟩ : BufTy).Contents (Elt F)),
   nullary main_cst_6 (constant S_ .f32 0xFF800000#32),
   binary main_v26 main_cst_6 main_v27 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
   TRef.nullary main_call2.v0 (iotaInDim S4x2048x2048 32 2),
   TRef.nullary main_call2.cst (constant S_ .f32 0xFF800000#32),
   TRef.nullary main_call2.c (constantI S_ 32 0#32),
   TRef.quaternary (.of main_v26 : TRef sig ⟨S4x2048x2048, .f32⟩) main_call2.v0 main_call2.cst main_call2.c main_call2.v1_0 (fun x y u v j => (Host.argReduce reducer_argmax_f32_i32 x y u v reducesTo_S4x2048x2048_S4x2048_d2 h_S_ j).1),
   TRef.quaternary (.of main_v26 : TRef sig ⟨S4x2048x2048, .f32⟩) main_call2.v0 main_call2.cst main_call2.c main_call2.v1_1 (fun x y u v j => (Host.argReduce reducer_argmax_f32_i32 x y u v reducesTo_S4x2048x2048_S4x2048_d2 h_S_ j).2),
   unary main_v27 main_v29 (Host.negf : (⟨S4x2048, .f32⟩ : BufTy).Contents (Elt F) → (⟨S4x2048, .f32⟩ : BufTy).Contents (Elt F)),
   TRef.nullary main_call3.v0 (iotaInDim S4x2048 32 1),
   TRef.binary (.of main_v29 : TRef sig ⟨S4x2048, .f32⟩) main_call3.v0 main_call3.v1_0 (fun x y => (Host.sort2 S4x2048 1 comparator_f32_i32_d1 x y).1),
   TRef.binary (.of main_v29 : TRef sig ⟨S4x2048, .f32⟩) main_call3.v0 main_call3.v1_1 (fun x y => (Host.sort2 S4x2048 1 comparator_f32_i32_d1 x y).2),
   unary main_v30 main_v31 ((extractStridedSlice S4x1024 ![0, 0] · slices_S4x2048_S4x1024_0_0) : (⟨S4x2048, .i32⟩ : BufTy).Contents (Elt F) → (⟨S4x1024, .i32⟩ : BufTy).Contents (Elt F)),
   unary main_v30 main_v32 ((extractStridedSlice S4x1024 ![0, 1024] · slices_S4x2048_S4x1024_0_1024) : (⟨S4x2048, .i32⟩ : BufTy).Contents (Elt F) → (⟨S4x1024, .i32⟩ : BufTy).Contents (Elt F)),
   TRef.unary (.of main_v32 : TRef sig ⟨S4x1024, .i32⟩) main_call4.v0 (fun x => Host.sort S4x1024 1 comparator_i32_d1 x),
   TRef.nullary main_call5.c (constantI S_ 32 0#32),
   TRef.unary main_call5.c main_call5.v0 (broadcastInDim S4x1024 ![] bcast_S_S4x1024),
   TRef.binary (.of main_v31 : TRef sig ⟨S4x1024, .i32⟩) main_call5.v0 main_call5.v1 (cmpi .slt),
   TRef.nullary main_call5.c_0 (constantI S_ 32 2048#32),
   TRef.unary main_call5.c_0 main_call5.v2 (broadcastInDim S4x1024 ![] bcast_S_S4x1024),
   TRef.binary (.of main_v31 : TRef sig ⟨S4x1024, .i32⟩) main_call5.v2 main_call5.v3 addi,
   TRef.ternary main_call5.v1 main_call5.v3 (.of main_v31 : TRef sig ⟨S4x1024, .i32⟩) main_call5.v4 select,
   TRef.reshape main_call5.v4 main_call5.v5 (rfl : (.i32 : EltTy) = .i32) shapeCasts_S4x1024_S4x1024x1,
   TRef.nullary main_call5.c_1 (constantI S1 32 2047#32),
   TRef.nullary main_call5.c_2 (constantI S_ 32 0#32),
   TRef.unary main_call5.c_2 main_call5.v6 (broadcastInDim S4x1024x1 ![] bcast_S_S4x1024x1),
   TRef.binary main_call5.v5 main_call5.v6 main_call5.v7 (cmpi .sge),
   TRef.unary main_call5.c_1 main_call5.v8 (broadcastInDim S1x1x1 ![2] bcast_S1_S1x1x1_2),
   TRef.unary main_call5.v8 main_call5.v9 (broadcastInDim S4x1024x1 ![0, 1, 2] bcast_S1x1x1_S4x1024x1_0_1_2),
   TRef.binary main_call5.v5 main_call5.v9 main_call5.v10 (cmpi .sle),
   TRef.binary main_call5.v7 main_call5.v10 main_call5.v11 andi,
   TRef.nullary main_call5.c_3 (constantI S_ 1 1#1),
   TRef.binary main_call5.v11 main_call5.c_3 main_call5.v12 (fun x v => Host.reduce IntOp.andi x v reducesTo_S4x1024x1_S4x1024_d2 h_S_),
   TRef.binary (.of main_v28 : TRef sig ⟨S4x2048, .i32⟩) main_call5.v5 main_call5.v13 (fun x i => Host.gather gather_S4x2048_S4x1024x1_S4x1024_n_1_0_0_1_2_11 x i),
   TRef.nullary main_call5.c_4 (constantI S_ 32 2147483648#32),
   TRef.unary main_call5.c_4 main_call5.v14 (broadcastInDim S4x1024 ![] bcast_S_S4x1024),
   TRef.ternary main_call5.v12 main_call5.v13 main_call5.v14 main_call5.v15 select,
   nullary main_c_7 (constantI S_ 32 0#32),
   unary main_c_7 main_v35 (broadcastInDim S4x1024 ![] bcast_S_S4x1024 : (⟨S_, .i32⟩ : BufTy).Contents (Elt F) → (⟨S4x1024, .i32⟩ : BufTy).Contents (Elt F)),
   binary main_v31 main_v35 main_v36 (cmpi .slt : (⟨S4x1024, .i32⟩ : BufTy).Contents (Elt F) → (⟨S4x1024, .i32⟩ : BufTy).Contents (Elt F) → (⟨S4x1024, .i1⟩ : BufTy).Contents (Elt F)),
   nullary main_c_8 (constantI S_ 32 2048#32),
   unary main_c_8 main_v37 (broadcastInDim S4x1024 ![] bcast_S_S4x1024 : (⟨S_, .i32⟩ : BufTy).Contents (Elt F) → (⟨S4x1024, .i32⟩ : BufTy).Contents (Elt F)),
   binary main_v31 main_v37 main_v38 (addi : (⟨S4x1024, .i32⟩ : BufTy).Contents (Elt F) → (⟨S4x1024, .i32⟩ : BufTy).Contents (Elt F) → (⟨S4x1024, .i32⟩ : BufTy).Contents (Elt F)),
   ternary main_v36 main_v38 main_v31 main_v39 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
   unary main_v39 main_v40 (broadcastInDim S4x1024x1 ![0, 1] bcast_S4x1024_S4x1024x1_0_1 : (⟨S4x1024, .i32⟩ : BufTy).Contents (Elt F) → (⟨S4x1024x1, .i32⟩ : BufTy).Contents (Elt F)),
   binary main_v4 main_v40 main_v41 ((fun x i => Host.gather gather_S2048_S4x1024x1_S4x1024_n_0_n_n_0_2_1 x i) : (⟨S2048, .i32⟩ : BufTy).Contents (Elt F) → (⟨S4x1024x1, .i32⟩ : BufTy).Contents (Elt F) → (⟨S4x1024, .i32⟩ : BufTy).Contents (Elt F)),
   nullary main_c_9 (constantI S_ 32 0#32),
   unary main_c_9 main_v42 (broadcastInDim S4x1024 ![] bcast_S_S4x1024 : (⟨S_, .i32⟩ : BufTy).Contents (Elt F) → (⟨S4x1024, .i32⟩ : BufTy).Contents (Elt F)),
   binary main_v33 main_v42 main_v43 (cmpi .slt : (⟨S4x1024, .i32⟩ : BufTy).Contents (Elt F) → (⟨S4x1024, .i32⟩ : BufTy).Contents (Elt F) → (⟨S4x1024, .i1⟩ : BufTy).Contents (Elt F)),
   nullary main_c_10 (constantI S_ 32 2048#32),
   unary main_c_10 main_v44 (broadcastInDim S4x1024 ![] bcast_S_S4x1024 : (⟨S_, .i32⟩ : BufTy).Contents (Elt F) → (⟨S4x1024, .i32⟩ : BufTy).Contents (Elt F)),
   binary main_v33 main_v44 main_v45 (addi : (⟨S4x1024, .i32⟩ : BufTy).Contents (Elt F) → (⟨S4x1024, .i32⟩ : BufTy).Contents (Elt F) → (⟨S4x1024, .i32⟩ : BufTy).Contents (Elt F)),
   ternary main_v43 main_v45 main_v33 main_v46 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F))]

/-- What part 0 writes, in order. -/
def wrote0 : List (Ref sig .tc) :=
  [main_v0, main_c, main_v1, main_v2, main_c_0, main_v3, main_v4, main_v5, main_c_1, main_v6, main_v7, main_c_2, main_v8, main_v9, main_v10, main_v11, main_call0_v0, main_call0_cst, main_call0_v1, main_call0_v2, main_v12, main_cst, main_v13, main_v14, main_v15, main_v16, main_call1_v0, main_call1_cst, main_call1_v1, main_call1_v2, main_v17, main_cst_3, main_v18, main_v19, main_v20, main_v21, main_v22, main_v23, main_c_4, main_v24, main_cst_5, main_v25, main_v26, main_cst_6, main_v27, main_call2_v0, main_call2_cst, main_call2_c, main_call2_v1_0, main_v28, main_v29, main_call3_v0, main_call3_v1_0, main_v30, main_v31, main_v32, main_v33, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_c_4, main_call5_v14, main_v34, main_c_7, main_v35, main_v36, main_c_8, main_v37, main_v38, main_v39, main_v40, main_v41, main_c_9, main_v42, main_v43, main_c_10, main_v44, main_v45, main_v46]

set_option maxHeartbeats 1000000 in
theorem wrote0_eq : (line0 (F := F)).map HloOp.writes = wrote0.map fun b => {Proc.devRef (τ := τ) .tc b} := rfl

set_option maxRecDepth 4000 in
theorem bufs0 : (line0 (F := F)).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., nullary_bufs_sub .., unary_bufs_sub .., ternary_bufs_sub .., nullary_bufs_sub .., binary_bufs_sub .., nullary_bufs_sub .., nullary_bufs_sub .., nullary_bufs_sub .., quaternary_bufs_sub .., quaternary_bufs_sub .., unary_bufs_sub .., nullary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩

set_option maxHeartbeats 4000000 in
set_option maxRecDepth 4000 in
theorem part0_eq (c : Dev nD) : main_part0 (F := F) c = seq line0 := by
  simp only [main_part0, fn_argmax.body, fn_argsort.body, fn_norm.body, fn_sort.body, fn_take_along_axis.body, fn_take_along_axis_0.body, line0, seq, bind_assoc, pure_bind]
  rfl

/-- Operations of part 1, the functions' bodies written out at their calls. -/
def line1 : List (HloOp τ sig (Elt F)) :=
  [unary main_v46 main_v47 (broadcastInDim S4x1024x1 ![0, 1] bcast_S4x1024_S4x1024x1_0_1 : (⟨S4x1024, .i32⟩ : BufTy).Contents (Elt F) → (⟨S4x1024x1, .i32⟩ : BufTy).Contents (Elt F)),
   binary main_v4 main_v47 main_v48 ((fun x i => Host.gather gather_S2048_S4x1024x1_S4x1024_n_0_n_n_0_2_1 x i) : (⟨S2048, .i32⟩ : BufTy).Contents (Elt F) → (⟨S4x1024x1, .i32⟩ : BufTy).Contents (Elt F) → (⟨S4x1024, .i32⟩ : BufTy).Contents (Elt F)),
   unary main_arg0 main_v49 ((Host.slice S4x2048x1024 ![0, 0, 0] ![1, 2, 1] · slicesBy_S4x4096x1024_S4x2048x1024_0s1_0s2_0s1) : (⟨S4x4096x1024, .f32⟩ : BufTy).Contents (Elt F) → (⟨S4x2048x1024, .f32⟩ : BufTy).Contents (Elt F)),
   unary main_arg0 main_v50 ((Host.slice S4x2048x1024 ![0, 1, 0] ![1, 2, 1] · slicesBy_S4x4096x1024_S4x2048x1024_0s1_1s2_0s1) : (⟨S4x4096x1024, .f32⟩ : BufTy).Contents (Elt F) → (⟨S4x2048x1024, .f32⟩ : BufTy).Contents (Elt F)),
   unary main_v33 main_v51 (broadcastInDim S4x1024x1 ![0, 1] bcast_S4x1024_S4x1024x1_0_1 : (⟨S4x1024, .i32⟩ : BufTy).Contents (Elt F) → (⟨S4x1024x1, .i32⟩ : BufTy).Contents (Elt F)),
   TRef.nullary main_call6.c (constantI S_ 32 0#32),
   TRef.unary main_call6.c main_call6.v0 (broadcastInDim S4x1024x1 ![] bcast_S_S4x1024x1),
   TRef.binary (.of main_v51 : TRef sig ⟨S4x1024x1, .i32⟩) main_call6.v0 main_call6.v1 (cmpi .slt),
   TRef.nullary main_call6.c_0 (constantI S_ 32 2048#32),
   TRef.unary main_call6.c_0 main_call6.v2 (broadcastInDim S4x1024x1 ![] bcast_S_S4x1024x1),
   TRef.binary (.of main_v51 : TRef sig ⟨S4x1024x1, .i32⟩) main_call6.v2 main_call6.v3 addi,
   TRef.ternary main_call6.v1 main_call6.v3 (.of main_v51 : TRef sig ⟨S4x1024x1, .i32⟩) main_call6.v4 select,
   TRef.nullary main_call6.c_1 (constantI S1 32 2047#32),
   TRef.nullary main_call6.c_2 (constantI S_ 32 0#32),
   TRef.unary main_call6.c_2 main_call6.v5 (broadcastInDim S4x1024x1 ![] bcast_S_S4x1024x1),
   TRef.binary main_call6.v4 main_call6.v5 main_call6.v6 (cmpi .sge),
   TRef.unary main_call6.c_1 main_call6.v7 (broadcastInDim S1x1x1 ![2] bcast_S1_S1x1x1_2),
   TRef.unary main_call6.v7 main_call6.v8 (broadcastInDim S4x1024x1 ![0, 1, 2] bcast_S1x1x1_S4x1024x1_0_1_2),
   TRef.binary main_call6.v4 main_call6.v8 main_call6.v9 (cmpi .sle),
   TRef.binary main_call6.v6 main_call6.v9 main_call6.v10 andi,
   TRef.nullary main_call6.c_3 (constantI S_ 1 1#1),
   TRef.binary main_call6.v10 main_call6.c_3 main_call6.v11 (fun x v => Host.reduce IntOp.andi x v reducesTo_S4x1024x1_S4x1024_d2 h_S_),
   TRef.binary (.of main_v49 : TRef sig ⟨S4x2048x1024, .f32⟩) main_call6.v4 main_call6.v12 (fun x i => Host.gather gather_S4x2048x1024_S4x1024x1_S4x1024x1024_2_1_0_0_1_2_111024 x i),
   TRef.unary main_call6.v11 main_call6.v13 (broadcastInDim S4x1024x1024 ![0, 1] bcast_S4x1024_S4x1024x1024_0_1),
   TRef.nullary main_call6.cst (constant S_ .f32 0x7FC00000#32),
   TRef.unary main_call6.cst main_call6.v14 (broadcastInDim S4x1024x1024 ![] bcast_S_S4x1024x1024),
   TRef.ternary main_call6.v13 main_call6.v12 main_call6.v14 main_call6.v15 select,
   unary main_v31 main_v53 (broadcastInDim S4x1024x1 ![0, 1] bcast_S4x1024_S4x1024x1_0_1 : (⟨S4x1024, .i32⟩ : BufTy).Contents (Elt F) → (⟨S4x1024x1, .i32⟩ : BufTy).Contents (Elt F)),
   TRef.nullary main_call7.c (constantI S_ 32 0#32),
   TRef.unary main_call7.c main_call7.v0 (broadcastInDim S4x1024x1 ![] bcast_S_S4x1024x1),
   TRef.binary (.of main_v53 : TRef sig ⟨S4x1024x1, .i32⟩) main_call7.v0 main_call7.v1 (cmpi .slt),
   TRef.nullary main_call7.c_0 (constantI S_ 32 2048#32),
   TRef.unary main_call7.c_0 main_call7.v2 (broadcastInDim S4x1024x1 ![] bcast_S_S4x1024x1),
   TRef.binary (.of main_v53 : TRef sig ⟨S4x1024x1, .i32⟩) main_call7.v2 main_call7.v3 addi,
   TRef.ternary main_call7.v1 main_call7.v3 (.of main_v53 : TRef sig ⟨S4x1024x1, .i32⟩) main_call7.v4 select,
   TRef.nullary main_call7.c_1 (constantI S1 32 2047#32),
   TRef.nullary main_call7.c_2 (constantI S_ 32 0#32),
   TRef.unary main_call7.c_2 main_call7.v5 (broadcastInDim S4x1024x1 ![] bcast_S_S4x1024x1),
   TRef.binary main_call7.v4 main_call7.v5 main_call7.v6 (cmpi .sge),
   TRef.unary main_call7.c_1 main_call7.v7 (broadcastInDim S1x1x1 ![2] bcast_S1_S1x1x1_2),
   TRef.unary main_call7.v7 main_call7.v8 (broadcastInDim S4x1024x1 ![0, 1, 2] bcast_S1x1x1_S4x1024x1_0_1_2),
   TRef.binary main_call7.v4 main_call7.v8 main_call7.v9 (cmpi .sle),
   TRef.binary main_call7.v6 main_call7.v9 main_call7.v10 andi,
   TRef.nullary main_call7.c_3 (constantI S_ 1 1#1),
   TRef.binary main_call7.v10 main_call7.c_3 main_call7.v11 (fun x v => Host.reduce IntOp.andi x v reducesTo_S4x1024x1_S4x1024_d2 h_S_),
   TRef.binary (.of main_v49 : TRef sig ⟨S4x2048x1024, .f32⟩) main_call7.v4 main_call7.v12 (fun x i => Host.gather gather_S4x2048x1024_S4x1024x1_S4x1024x1024_2_1_0_0_1_2_111024 x i),
   TRef.unary main_call7.v11 main_call7.v13 (broadcastInDim S4x1024x1024 ![0, 1] bcast_S4x1024_S4x1024x1024_0_1),
   TRef.nullary main_call7.cst (constant S_ .f32 0x7FC00000#32),
   TRef.unary main_call7.cst main_call7.v14 (broadcastInDim S4x1024x1024 ![] bcast_S_S4x1024x1024),
   TRef.ternary main_call7.v13 main_call7.v12 main_call7.v14 main_call7.v15 select,
   nullary main_v55 (iotaInDim S4 32 0),
   unary main_v55 main_v56 (broadcastInDim S4x1 ![0] bcast_S4_S4x1_0 : (⟨S4, .i32⟩ : BufTy).Contents (Elt F) → (⟨S4x1, .i32⟩ : BufTy).Contents (Elt F)),
   nullary main_c_11 (constantI S_ 32 0#32),
   unary main_c_11 main_v57 (broadcastInDim S4x1 ![] bcast_S_S4x1 : (⟨S_, .i32⟩ : BufTy).Contents (Elt F) → (⟨S4x1, .i32⟩ : BufTy).Contents (Elt F)),
   binary main_v56 main_v57 main_v58 (cmpi .slt : (⟨S4x1, .i32⟩ : BufTy).Contents (Elt F) → (⟨S4x1, .i32⟩ : BufTy).Contents (Elt F) → (⟨S4x1, .i1⟩ : BufTy).Contents (Elt F)),
   nullary main_c_12 (constantI S_ 32 4#32),
   unary main_c_12 main_v59 (broadcastInDim S4x1 ![] bcast_S_S4x1 : (⟨S_, .i32⟩ : BufTy).Contents (Elt F) → (⟨S4x1, .i32⟩ : BufTy).Contents (Elt F)),
   binary main_v56 main_v59 main_v60 (addi : (⟨S4x1, .i32⟩ : BufTy).Contents (Elt F) → (⟨S4x1, .i32⟩ : BufTy).Contents (Elt F) → (⟨S4x1, .i32⟩ : BufTy).Contents (Elt F)),
   ternary main_v58 main_v60 main_v56 main_v61 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
   nullary main_c_13 (constantI S_ 32 0#32),
   unary main_c_13 main_v62 (broadcastInDim S4x1024 ![] bcast_S_S4x1024 : (⟨S_, .i32⟩ : BufTy).Contents (Elt F) → (⟨S4x1024, .i32⟩ : BufTy).Contents (Elt F)),
   binary main_v34 main_v62 main_v63 (cmpi .slt : (⟨S4x1024, .i32⟩ : BufTy).Contents (Elt F) → (⟨S4x1024, .i32⟩ : BufTy).Contents (Elt F) → (⟨S4x1024, .i1⟩ : BufTy).Contents (Elt F)),
   nullary main_c_14 (constantI S_ 32 2048#32),
   unary main_c_14 main_v64 (broadcastInDim S4x1024 ![] bcast_S_S4x1024 : (⟨S_, .i32⟩ : BufTy).Contents (Elt F) → (⟨S4x1024, .i32⟩ : BufTy).Contents (Elt F)),
   binary main_v34 main_v64 main_v65 (addi : (⟨S4x1024, .i32⟩ : BufTy).Contents (Elt F) → (⟨S4x1024, .i32⟩ : BufTy).Contents (Elt F) → (⟨S4x1024, .i32⟩ : BufTy).Contents (Elt F)),
   ternary main_v63 main_v65 main_v34 main_v66 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
   unary main_v61 main_v67 (broadcastInDim S4x1024 ![0, 1] bcast_S4x1_S4x1024_0_1 : (⟨S4x1, .i32⟩ : BufTy).Contents (Elt F) → (⟨S4x1024, .i32⟩ : BufTy).Contents (Elt F)),
   unary main_v67 main_v68 (broadcastInDim S4x1024x1 ![0, 1] bcast_S4x1024_S4x1024x1_0_1 : (⟨S4x1024, .i32⟩ : BufTy).Contents (Elt F) → (⟨S4x1024x1, .i32⟩ : BufTy).Contents (Elt F)),
   unary main_v66 main_v69 (broadcastInDim S4x1024x1 ![0, 1] bcast_S4x1024_S4x1024x1_0_1 : (⟨S4x1024, .i32⟩ : BufTy).Contents (Elt F) → (⟨S4x1024x1, .i32⟩ : BufTy).Contents (Elt F)),
   binary main_v68 main_v69 main_v70 ((fun a b => concatenate S4x1024x2 2 [⟨S4x1024x1, a⟩, ⟨S4x1024x1, b⟩] concatenates_S4x1024x1_S4x1024x1_S4x1024x2_d2) : (⟨S4x1024x1, .i32⟩ : BufTy).Contents (Elt F) → (⟨S4x1024x1, .i32⟩ : BufTy).Contents (Elt F) → (⟨S4x1024x2, .i32⟩ : BufTy).Contents (Elt F)),
   ternary main_v50 main_v70 main_v54 main_v71 ((fun x i u => Host.scatterAdd scatter_S4x2048x1024_S4x1024x2_S4x1024x1024_2_01_01_2 x i u) : (⟨S4x2048x1024, .f32⟩ : BufTy).Contents (Elt F) → (⟨S4x1024x2, .i32⟩ : BufTy).Contents (Elt F) → (⟨S4x1024x1024, .f32⟩ : BufTy).Contents (Elt F) → (⟨S4x2048x1024, .f32⟩ : BufTy).Contents (Elt F)),
   binary main_v52 main_v71 main_v72 ((fun a b => concatenate S4x3072x1024 1 [⟨S4x1024x1024, a⟩, ⟨S4x2048x1024, b⟩] concatenates_S4x1024x1024_S4x2048x1024_S4x3072x1024_d1) : (⟨S4x1024x1024, .f32⟩ : BufTy).Contents (Elt F) → (⟨S4x2048x1024, .f32⟩ : BufTy).Contents (Elt F) → (⟨S4x3072x1024, .f32⟩ : BufTy).Contents (Elt F)),
   nullary main_c_15 (constantI S_ 32 4294967295#32),
   unary main_c_15 main_v73 (broadcastInDim S4x4096 ![] bcast_S_S4x4096 : (⟨S_, .i32⟩ : BufTy).Contents (Elt F) → (⟨S4x4096, .i32⟩ : BufTy).Contents (Elt F)),
   nullary main_v74 (iotaInDim S1024 32 0),
   unary main_v74 main_v75 (broadcastInDim S1x1024 ![1] bcast_S1024_S1x1024_1 : (⟨S1024, .i32⟩ : BufTy).Contents (Elt F) → (⟨S1x1024, .i32⟩ : BufTy).Contents (Elt F)),
   unary main_v75 main_v76 (broadcastInDim S4x1024 ![0, 1] bcast_S1x1024_S4x1024_0_1 : (⟨S1x1024, .i32⟩ : BufTy).Contents (Elt F) → (⟨S4x1024, .i32⟩ : BufTy).Contents (Elt F)),
   nullary main_c_16 (constantI S_ 32 0#32),
   unary main_c_16 main_v77 (broadcastInDim S4x1 ![] bcast_S_S4x1 : (⟨S_, .i32⟩ : BufTy).Contents (Elt F) → (⟨S4x1, .i32⟩ : BufTy).Contents (Elt F)),
   binary main_v56 main_v77 main_v78 (cmpi .slt : (⟨S4x1, .i32⟩ : BufTy).Contents (Elt F) → (⟨S4x1, .i32⟩ : BufTy).Contents (Elt F) → (⟨S4x1, .i1⟩ : BufTy).Contents (Elt F)),
   nullary main_c_17 (constantI S_ 32 4#32),
   unary main_c_17 main_v79 (broadcastInDim S4x1 ![] bcast_S_S4x1 : (⟨S_, .i32⟩ : BufTy).Contents (Elt F) → (⟨S4x1, .i32⟩ : BufTy).Contents (Elt F)),
   binary main_v56 main_v79 main_v80 (addi : (⟨S4x1, .i32⟩ : BufTy).Contents (Elt F) → (⟨S4x1, .i32⟩ : BufTy).Contents (Elt F) → (⟨S4x1, .i32⟩ : BufTy).Contents (Elt F)),
   ternary main_v78 main_v80 main_v56 main_v81 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
   nullary main_c_18 (constantI S_ 32 0#32),
   unary main_c_18 main_v82 (broadcastInDim S4x1024 ![] bcast_S_S4x1024 : (⟨S_, .i32⟩ : BufTy).Contents (Elt F) → (⟨S4x1024, .i32⟩ : BufTy).Contents (Elt F)),
   binary main_v48 main_v82 main_v83 (cmpi .slt : (⟨S4x1024, .i32⟩ : BufTy).Contents (Elt F) → (⟨S4x1024, .i32⟩ : BufTy).Contents (Elt F) → (⟨S4x1024, .i1⟩ : BufTy).Contents (Elt F)),
   nullary main_c_19 (constantI S_ 32 4096#32),
   unary main_c_19 main_v84 (broadcastInDim S4x1024 ![] bcast_S_S4x1024 : (⟨S_, .i32⟩ : BufTy).Contents (Elt F) → (⟨S4x1024, .i32⟩ : BufTy).Contents (Elt F)),
   binary main_v48 main_v84 main_v85 (addi : (⟨S4x1024, .i32⟩ : BufTy).Contents (Elt F) → (⟨S4x1024, .i32⟩ : BufTy).Contents (Elt F) → (⟨S4x1024, .i32⟩ : BufTy).Contents (Elt F)),
   ternary main_v83 main_v85 main_v48 main_v86 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
   unary main_v81 main_v87 (broadcastInDim S4x1024 ![0, 1] bcast_S4x1_S4x1024_0_1 : (⟨S4x1, .i32⟩ : BufTy).Contents (Elt F) → (⟨S4x1024, .i32⟩ : BufTy).Contents (Elt F)),
   unary main_v87 main_v88 (broadcastInDim S4x1024x1 ![0, 1] bcast_S4x1024_S4x1024x1_0_1 : (⟨S4x1024, .i32⟩ : BufTy).Contents (Elt F) → (⟨S4x1024x1, .i32⟩ : BufTy).Contents (Elt F)),
   unary main_v86 main_v89 (broadcastInDim S4x1024x1 ![0, 1] bcast_S4x1024_S4x1024x1_0_1 : (⟨S4x1024, .i32⟩ : BufTy).Contents (Elt F) → (⟨S4x1024x1, .i32⟩ : BufTy).Contents (Elt F)),
   binary main_v88 main_v89 main_v90 ((fun a b => concatenate S4x1024x2 2 [⟨S4x1024x1, a⟩, ⟨S4x1024x1, b⟩] concatenates_S4x1024x1_S4x1024x1_S4x1024x2_d2) : (⟨S4x1024x1, .i32⟩ : BufTy).Contents (Elt F) → (⟨S4x1024x1, .i32⟩ : BufTy).Contents (Elt F) → (⟨S4x1024x2, .i32⟩ : BufTy).Contents (Elt F)),
   ternary main_v73 main_v90 main_v76 main_v91 ((fun x i u => Host.scatter scatter_S4x4096_S4x1024x2_S4x1024_n_01_01_2 (fun _ b => b) x i u) : (⟨S4x4096, .i32⟩ : BufTy).Contents (Elt F) → (⟨S4x1024x2, .i32⟩ : BufTy).Contents (Elt F) → (⟨S4x1024, .i32⟩ : BufTy).Contents (Elt F) → (⟨S4x4096, .i32⟩ : BufTy).Contents (Elt F)),
   nullary main_v92 (iotaInDim S2048 32 0),
   unary main_v92 main_v93 (broadcastInDim S1x2048 ![1] bcast_S2048_S1x2048_1 : (⟨S2048, .i32⟩ : BufTy).Contents (Elt F) → (⟨S1x2048, .i32⟩ : BufTy).Contents (Elt F)),
   nullary main_c_20 (constantI S_ 32 1024#32),
   unary main_c_20 main_v94 (broadcastInDim S1x2048 ![] bcast_S_S1x2048 : (⟨S_, .i32⟩ : BufTy).Contents (Elt F) → (⟨S1x2048, .i32⟩ : BufTy).Contents (Elt F)),
   binary main_v94 main_v93 main_v95 (addi : (⟨S1x2048, .i32⟩ : BufTy).Contents (Elt F) → (⟨S1x2048, .i32⟩ : BufTy).Contents (Elt F) → (⟨S1x2048, .i32⟩ : BufTy).Contents (Elt F)),
   unary main_v95 main_v96 (broadcastInDim S4x2048 ![0, 1] bcast_S1x2048_S4x2048_0_1 : (⟨S1x2048, .i32⟩ : BufTy).Contents (Elt F) → (⟨S4x2048, .i32⟩ : BufTy).Contents (Elt F))]

/-- What part 1 writes, in order. -/
def wrote1 : List (Ref sig .tc) :=
  [main_v47, main_v48, main_v49, main_v50, main_v51, main_call6_c, main_call6_v0, main_call6_v1, main_call6_c_0, main_call6_v2, main_call6_v3, main_call6_v4, main_call6_c_1, main_call6_c_2, main_call6_v5, main_call6_v6, main_call6_v7, main_call6_v8, main_call6_v9, main_call6_v10, main_call6_c_3, main_call6_v11, main_call6_v12, main_call6_v13, main_call6_cst, main_call6_v14, main_v52, main_v53, main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v54, main_v55, main_v56, main_c_11, main_v57, main_v58, main_c_12, main_v59, main_v60, main_v61, main_c_13, main_v62, main_v63, main_c_14, main_v64, main_v65, main_v66, main_v67, main_v68, main_v69, main_v70, main_v71, main_v72, main_c_15, main_v73, main_v74, main_v75, main_v76, main_c_16, main_v77, main_v78, main_c_17, main_v79, main_v80, main_v81, main_c_18, main_v82, main_v83, main_c_19, main_v84, main_v85, main_v86, main_v87, main_v88, main_v89, main_v90, main_v91, main_v92, main_v93, main_c_20, main_v94, main_v95, main_v96]

set_option maxHeartbeats 1000000 in
theorem wrote1_eq : (line1 (F := F)).map HloOp.writes = wrote1.map fun b => {Proc.devRef (τ := τ) .tc b} := rfl

set_option maxRecDepth 4000 in
theorem bufs1 : (line1 (F := F)).Forall fun op => op.bufs ⊆ tcRefs τ sig :=
  ⟨unary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., binary_bufs_sub .., nullary_bufs_sub .., unary_bufs_sub .., nullary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., nullary_bufs_sub .., unary_bufs_sub .., binary_bufs_sub .., unary_bufs_sub ..⟩

set_option maxHeartbeats 4000000 in
set_option maxRecDepth 4000 in
theorem part1_eq (c : Dev nD) : main_part1 (F := F) c = seq line1 := by
  simp only [main_part1, fn_argmax.body, fn_argsort.body, fn_norm.body, fn_sort.body, fn_take_along_axis.body, fn_take_along_axis_0.body, line1, seq, bind_assoc, pure_bind]
  rfl

/-- Operations of part 2, the functions' bodies written out at their calls. -/
def line2 : List (HloOp τ sig (Elt F)) :=
  [unary main_v9 main_v97 (broadcastInDim S1x2048 ![1] bcast_S2048_S1x2048_1 : (⟨S2048, .i32⟩ : BufTy).Contents (Elt F) → (⟨S1x2048, .i32⟩ : BufTy).Contents (Elt F)),
   unary main_v97 main_v98 (broadcastInDim S4x2048 ![0, 1] bcast_S1x2048_S4x2048_0_1 : (⟨S1x2048, .i32⟩ : BufTy).Contents (Elt F) → (⟨S4x2048, .i32⟩ : BufTy).Contents (Elt F)),
   nullary main_c_21 (constantI S_ 32 0#32),
   unary main_c_21 main_v99 (broadcastInDim S4x1 ![] bcast_S_S4x1 : (⟨S_, .i32⟩ : BufTy).Contents (Elt F) → (⟨S4x1, .i32⟩ : BufTy).Contents (Elt F)),
   binary main_v56 main_v99 main_v100 (cmpi .slt : (⟨S4x1, .i32⟩ : BufTy).Contents (Elt F) → (⟨S4x1, .i32⟩ : BufTy).Contents (Elt F) → (⟨S4x1, .i1⟩ : BufTy).Contents (Elt F)),
   nullary main_c_22 (constantI S_ 32 4#32),
   unary main_c_22 main_v101 (broadcastInDim S4x1 ![] bcast_S_S4x1 : (⟨S_, .i32⟩ : BufTy).Contents (Elt F) → (⟨S4x1, .i32⟩ : BufTy).Contents (Elt F)),
   binary main_v56 main_v101 main_v102 (addi : (⟨S4x1, .i32⟩ : BufTy).Contents (Elt F) → (⟨S4x1, .i32⟩ : BufTy).Contents (Elt F) → (⟨S4x1, .i32⟩ : BufTy).Contents (Elt F)),
   ternary main_v100 main_v102 main_v56 main_v103 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
   nullary main_c_23 (constantI S_ 32 0#32),
   unary main_c_23 main_v104 (broadcastInDim S4x2048 ![] bcast_S_S4x2048 : (⟨S_, .i32⟩ : BufTy).Contents (Elt F) → (⟨S4x2048, .i32⟩ : BufTy).Contents (Elt F)),
   binary main_v98 main_v104 main_v105 (cmpi .slt : (⟨S4x2048, .i32⟩ : BufTy).Contents (Elt F) → (⟨S4x2048, .i32⟩ : BufTy).Contents (Elt F) → (⟨S4x2048, .i1⟩ : BufTy).Contents (Elt F)),
   nullary main_c_24 (constantI S_ 32 4096#32),
   unary main_c_24 main_v106 (broadcastInDim S4x2048 ![] bcast_S_S4x2048 : (⟨S_, .i32⟩ : BufTy).Contents (Elt F) → (⟨S4x2048, .i32⟩ : BufTy).Contents (Elt F)),
   binary main_v98 main_v106 main_v107 (addi : (⟨S4x2048, .i32⟩ : BufTy).Contents (Elt F) → (⟨S4x2048, .i32⟩ : BufTy).Contents (Elt F) → (⟨S4x2048, .i32⟩ : BufTy).Contents (Elt F)),
   ternary main_v105 main_v107 main_v98 main_v108 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
   unary main_v103 main_v109 (broadcastInDim S4x2048 ![0, 1] bcast_S4x1_S4x2048_0_1 : (⟨S4x1, .i32⟩ : BufTy).Contents (Elt F) → (⟨S4x2048, .i32⟩ : BufTy).Contents (Elt F)),
   unary main_v109 main_v110 (broadcastInDim S4x2048x1 ![0, 1] bcast_S4x2048_S4x2048x1_0_1 : (⟨S4x2048, .i32⟩ : BufTy).Contents (Elt F) → (⟨S4x2048x1, .i32⟩ : BufTy).Contents (Elt F)),
   unary main_v108 main_v111 (broadcastInDim S4x2048x1 ![0, 1] bcast_S4x2048_S4x2048x1_0_1 : (⟨S4x2048, .i32⟩ : BufTy).Contents (Elt F) → (⟨S4x2048x1, .i32⟩ : BufTy).Contents (Elt F)),
   binary main_v110 main_v111 main_v112 ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F)),
   ternary main_v91 main_v112 main_v96 main_v113 ((fun x i u => Host.scatter scatter_S4x4096_S4x2048x2_S4x2048_n_01_01_2 (fun _ b => b) x i u) : (⟨S4x4096, .i32⟩ : BufTy).Contents (Elt F) → (⟨S4x2048x2, .i32⟩ : BufTy).Contents (Elt F) → (⟨S4x2048, .i32⟩ : BufTy).Contents (Elt F) → (⟨S4x4096, .i32⟩ : BufTy).Contents (Elt F)),
   nullary main_c_25 (constantI S_ 32 1024#32),
   unary main_c_25 main_v114 (broadcastInDim S4x1024 ![] bcast_S_S4x1024 : (⟨S_, .i32⟩ : BufTy).Contents (Elt F) → (⟨S4x1024, .i32⟩ : BufTy).Contents (Elt F)),
   binary main_v114 main_v34 main_v115 (addi : (⟨S4x1024, .i32⟩ : BufTy).Contents (Elt F) → (⟨S4x1024, .i32⟩ : BufTy).Contents (Elt F) → (⟨S4x1024, .i32⟩ : BufTy).Contents (Elt F)),
   nullary main_c_26 (constantI S_ 32 0#32),
   unary main_c_26 main_v116 (broadcastInDim S4x1 ![] bcast_S_S4x1 : (⟨S_, .i32⟩ : BufTy).Contents (Elt F) → (⟨S4x1, .i32⟩ : BufTy).Contents (Elt F)),
   binary main_v56 main_v116 main_v117 (cmpi .slt : (⟨S4x1, .i32⟩ : BufTy).Contents (Elt F) → (⟨S4x1, .i32⟩ : BufTy).Contents (Elt F) → (⟨S4x1, .i1⟩ : BufTy).Contents (Elt F)),
   nullary main_c_27 (constantI S_ 32 4#32),
   unary main_c_27 main_v118 (broadcastInDim S4x1 ![] bcast_S_S4x1 : (⟨S_, .i32⟩ : BufTy).Contents (Elt F) → (⟨S4x1, .i32⟩ : BufTy).Contents (Elt F)),
   binary main_v56 main_v118 main_v119 (addi : (⟨S4x1, .i32⟩ : BufTy).Contents (Elt F) → (⟨S4x1, .i32⟩ : BufTy).Contents (Elt F) → (⟨S4x1, .i32⟩ : BufTy).Contents (Elt F)),
   ternary main_v117 main_v119 main_v56 main_v120 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
   nullary main_c_28 (constantI S_ 32 0#32),
   unary main_c_28 main_v121 (broadcastInDim S4x1024 ![] bcast_S_S4x1024 : (⟨S_, .i32⟩ : BufTy).Contents (Elt F) → (⟨S4x1024, .i32⟩ : BufTy).Contents (Elt F)),
   binary main_v41 main_v121 main_v122 (cmpi .slt : (⟨S4x1024, .i32⟩ : BufTy).Contents (Elt F) → (⟨S4x1024, .i32⟩ : BufTy).Contents (Elt F) → (⟨S4x1024, .i1⟩ : BufTy).Contents (Elt F)),
   nullary main_c_29 (constantI S_ 32 4096#32),
   unary main_c_29 main_v123 (broadcastInDim S4x1024 ![] bcast_S_S4x1024 : (⟨S_, .i32⟩ : BufTy).Contents (Elt F) → (⟨S4x1024, .i32⟩ : BufTy).Contents (Elt F)),
   binary main_v41 main_v123 main_v124 (addi : (⟨S4x1024, .i32⟩ : BufTy).Contents (Elt F) → (⟨S4x1024, .i32⟩ : BufTy).Contents (Elt F) → (⟨S4x1024, .i32⟩ : BufTy).Contents (Elt F)),
   ternary main_v122 main_v124 main_v41 main_v125 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
   unary main_v120 main_v126 (broadcastInDim S4x1024 ![0, 1] bcast_S4x1_S4x1024_0_1 : (⟨S4x1, .i32⟩ : BufTy).Contents (Elt F) → (⟨S4x1024, .i32⟩ : BufTy).Contents (Elt F)),
   unary main_v126 main_v127 (broadcastInDim S4x1024x1 ![0, 1] bcast_S4x1024_S4x1024x1_0_1 : (⟨S4x1024, .i32⟩ : BufTy).Contents (Elt F) → (⟨S4x1024x1, .i32⟩ : BufTy).Contents (Elt F)),
   unary main_v125 main_v128 (broadcastInDim S4x1024x1 ![0, 1] bcast_S4x1024_S4x1024x1_0_1 : (⟨S4x1024, .i32⟩ : BufTy).Contents (Elt F) → (⟨S4x1024x1, .i32⟩ : BufTy).Contents (Elt F)),
   binary main_v127 main_v128 main_v129 ((fun a b => concatenate S4x1024x2 2 [⟨S4x1024x1, a⟩, ⟨S4x1024x1, b⟩] concatenates_S4x1024x1_S4x1024x1_S4x1024x2_d2) : (⟨S4x1024x1, .i32⟩ : BufTy).Contents (Elt F) → (⟨S4x1024x1, .i32⟩ : BufTy).Contents (Elt F) → (⟨S4x1024x2, .i32⟩ : BufTy).Contents (Elt F)),
   ternary main_v113 main_v129 main_v115 main_v130 ((fun x i u => Host.scatter scatter_S4x4096_S4x1024x2_S4x1024_n_01_01_2 (fun _ b => b) x i u) : (⟨S4x4096, .i32⟩ : BufTy).Contents (Elt F) → (⟨S4x1024x2, .i32⟩ : BufTy).Contents (Elt F) → (⟨S4x1024, .i32⟩ : BufTy).Contents (Elt F) → (⟨S4x4096, .i32⟩ : BufTy).Contents (Elt F))]

/-- What part 2 writes, in order. -/
def wrote2 : List (Ref sig .tc) :=
  [main_v97, main_v98, main_c_21, main_v99, main_v100, main_c_22, main_v101, main_v102, main_v103, main_c_23, main_v104, main_v105, main_c_24, main_v106, main_v107, main_v108, main_v109, main_v110, main_v111, main_v112, main_v113, main_c_25, main_v114, main_v115, main_c_26, main_v116, main_v117, main_c_27, main_v118, main_v119, main_v120, main_c_28, main_v121, main_v122, main_c_29, main_v123, main_v124, main_v125, main_v126, main_v127, main_v128, main_v129, main_v130]

set_option maxHeartbeats 1000000 in
theorem wrote2_eq : (line2 (F := F)).map HloOp.writes = wrote2.map fun b => {Proc.devRef (τ := τ) .tc b} := rfl

set_option maxRecDepth 4000 in
theorem bufs2 : (line2 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub ..⟩

set_option maxHeartbeats 4000000 in
set_option maxRecDepth 4000 in
theorem part2_eq (c : Dev nD) : main_part2 (F := F) c = seq line2 := by
  simp only [main_part2, fn_argmax.body, fn_argsort.body, fn_norm.body, fn_sort.body, fn_take_along_axis.body, fn_take_along_axis_0.body, line2, seq, bind_assoc, pure_bind]

/-- The whole line. -/
def line : List (HloOp τ sig (Elt F)) := line0 ++ (line1 ++ line2)

/-- What the whole line writes, in order. -/
def wrote : List (Ref sig .tc) := wrote0 ++ (wrote1 ++ wrote2)

theorem wrote_eq : (line (F := F)).map HloOp.writes = wrote.map fun b => {Proc.devRef (τ := τ) .tc b} := by
  simp only [line, wrote, List.map_append, wrote0_eq, wrote1_eq, wrote2_eq]

theorem bufs : (line (F := F)).Forall fun op => op.bufs ⊆ tcRefs τ sig :=
  List.forall_append.2 ⟨bufs0, List.forall_append.2 ⟨bufs1, bufs2⟩⟩

theorem main_eq (c : Dev nD) : main (F := F) c = seq line := by
  simp only [main, line, seq_append, part0_eq, part1_eq, part2_eq, bind_assoc]

theorem scopedRefs_eq : (Finset.univ.filter fun b : Ref sig .tc => b.isScoped) = ∅ := by decide
theorem scopedSems_eq : (Finset.univ.filter fun sm : SemLoc sig => sm.isScoped .tc) = ∅ := by decide

/-- What a buffer ends at. -/
def fin (m : (ℓ : Loc nD τ sig) → Buf (Elt F) ℓ) (c : Dev nD) (b : Ref sig .tc) : b.ty.Contents (Elt F) :=
  after line (launchContents m c) (Proc.devRef .tc b)

theorem fresh_eq : ∀ op ∈ line (F := F), op.fresh = ∅ := by
  refine List.forall_iff_forall_mem.1 (List.forall_append.2 ⟨forall_fresh_of_map rfl,
    List.forall_append.2 ⟨forall_fresh_of_map rfl, forall_fresh_of_map rfl⟩⟩)

theorem run_line (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = fin m c b :=
  run_seq scopedRefs_eq scopedSems_eq defs main (fun _ => line) main_eq (fun _ => bufs) m ρ (fun _ => fresh_eq)

theorem fin_arg0 (m : (ℓ : Loc nD τ sig) → Buf (Elt F) ℓ) (c : Dev nD) :
    fin m c main_arg0 = m ((c.tc : Thread nD τ).loc main_arg0) :=
  after_unwritten wrote wrote_eq (by decide +kernel) _

theorem fin_arg1 (m : (ℓ : Loc nD τ sig) → Buf (Elt F) ℓ) (c : Dev nD) :
    fin m c main_arg1 = m ((c.tc : Thread nD τ).loc main_arg1) :=
  after_unwritten wrote wrote_eq (by decide +kernel) _

theorem frame_reference : Cert.quiescent_ReferenceIdeal := fun m ρ _ =>
  (θ_run (defs (F := Ideal)) _ _).mono
    (fun r h => ⟨fun c => ⟨(h c main_arg0).trans (fin_arg0 m c), (h c main_arg1).trans (fin_arg1 m c)⟩,
      sem_eq_zero_of_no_sems (by decide) r.2⟩)
    (run_line (F := Ideal) m ρ)

end Cert.Proof.Ref
-- ==== Proof.Order.lean ====
module

public import Idealize.ShloMosaic.Lib.SortFacts
public import Mathlib.Order.Interval.Finset.Fin
public import Mathlib.Data.Nat.Count

/-! Ranks: the stable sort by decreasing value, the rank it gives, and the running count of a property along an increasing list. -/

@[expose] public noncomputable section

namespace Cert.Proof.Order

open Idealize.ShloMosaic

variable {α : Type} [LinearOrder α] {n : ℕ} (M : Fin n → α)

/-- `a` goes before `b`: a larger value, or an equal one earlier. -/
def Lex (a b : Fin n) : Prop := M b < M a ∨ (M b = M a ∧ a < b)

instance : DecidableRel (Lex M) := fun a b => by unfold Lex; infer_instance

theorem Lex.trans {a b c : Fin n} (h : Lex M a b) (k : Lex M b c) : Lex M a c := by
  rcases h with h | ⟨h, h'⟩ <;> rcases k with k | ⟨k, k'⟩
  · exact .inl (k.trans h)
  · exact .inl (k ▸ h)
  · exact .inl (h ▸ k)
  · exact .inr ⟨k.trans h, h'.trans k'⟩

theorem Lex.irrefl (a : Fin n) : ¬ Lex M a a := by
  rintro (h | ⟨_, h⟩) <;> exact lt_irrefl _ h

/-- How many go before. -/
def rank (l : Fin n) : ℕ := (Finset.univ.filter fun i => Lex M i l).card

/-- The sort's order: a larger value first. -/
abbrev before : Fin n → Fin n → Bool := fun a b => decide (M b < M a)

theorem pairwise_insert (a : Fin n) (l : List (Fin n)) (ha : ∀ c ∈ l, a < c) (hl : l.Pairwise (Lex M)) :
    (insertBefore (before M) a l).Pairwise (Lex M) := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem _ hc)) hl.2⟩
      rcases List.mem_cons.1 ((perm_insertBefore _ a l).mem_iff.1 hc) with rfl | hc'
      · exact .inl (of_decide_eq_true h)
      · exact hl.1 c hc'
    · rename_i h
      have hab : Lex M a b := by
        rcases lt_or_eq_of_le (not_lt.1 fun q => h (decide_eq_true q)) with q | q
        · exact .inl q
        · exact .inr ⟨q, ha b List.mem_cons_self⟩
      refine List.pairwise_cons.2 ⟨fun c hc => ?_, List.pairwise_cons.2 hl⟩
      rcases List.mem_cons.1 hc with rfl | hc'
      · exact hab
      · exact hab.trans M (hl.1 c hc')

theorem pairwise_sort (l : List (Fin n)) (hl : l.Pairwise (· < ·)) : (stableSort (before M) l).Pairwise (Lex M) := by
  induction l with
  | nil => exact List.Pairwise.nil
  | cons a l ih =>
    rw [List.pairwise_cons] at hl
    unfold stableSort
    exact pairwise_insert M a _ (fun c hc => hl.1 c ((perm_stableSort _ l).mem_iff.1 hc)) (ih hl.2)

/-- The position the sort puts at `p`. -/
abbrev at_ (p : Fin n) : Fin n := sortedFrom (before M) p

theorem at_lex {p q : Fin n} (h : p < q) : Lex M (at_ M p) (at_ M q) := by
  have hp := pairwise_sort M (List.finRange n) (List.pairwise_lt_finRange n)
  exact List.pairwise_iff_get.1 hp _ _ (by exact h)

theorem at_lex_iff (p q : Fin n) : Lex M (at_ M p) (at_ M q) ↔ p < q := by
  refine ⟨fun h => ?_, at_lex M⟩
  rcases lt_trichotomy p q with k | k | k
  · exact k
  · exact absurd (k ▸ h) (Lex.irrefl M _)
  · exact absurd (h.trans M (at_lex M k)) (Lex.irrefl M _)

theorem at_bij : Function.Bijective (at_ M) := ⟨sortedFrom_injective _, sortedFrom_surjective _⟩

theorem rank_at (p : Fin n) : rank M (at_ M p) = p.val := by
  have : (Finset.univ.filter fun i => Lex M i (at_ M p)) = (Finset.Iio p).image (at_ M) := by
    ext i
    obtain ⟨q, rfl⟩ := (at_bij M).2 i
    simp only [Finset.mem_filter, Finset.mem_univ, true_and, at_lex_iff, Finset.mem_image, Finset.mem_Iio]
    exact ⟨fun h => ⟨q, h, rfl⟩, fun ⟨r, hr, e⟩ => (at_bij M).1 e ▸ hr⟩
  rw [rank, this, Finset.card_image_of_injective _ (at_bij M).1, Fin.card_Iio]

theorem rank_lt (l : Fin n) : rank M l < n := by
  obtain ⟨p, rfl⟩ := (at_bij M).2 l
  rw [rank_at]; exact p.isLt

theorem at_rank (l : Fin n) : at_ M ⟨rank M l, rank_lt M l⟩ = l := by
  obtain ⟨p, rfl⟩ := (at_bij M).2 l
  exact congrArg _ (Fin.ext (rank_at M p))

/-- Along an increasing list of the places where a property holds, the count before the `u`-th is `u`. -/
theorem count_enum {P : ℕ → Prop} [DecidablePred P] {k : ℕ} (f : Fin k → ℕ) (hf : StrictMono f)
    (hr : ∀ l, P l ↔ ∃ u, f u = l) (u : Fin k) : Nat.count P (f u) = u.val := by
  have : (Finset.range (f u)).filter P = (Finset.Iio u).image f := by
    ext i
    simp only [Finset.mem_filter, Finset.mem_range, Finset.mem_image, Finset.mem_Iio]
    constructor
    · rintro ⟨h, k⟩
      obtain ⟨v, rfl⟩ := (hr i).1 k
      exact ⟨v, hf.lt_iff_lt.1 h, rfl⟩
    · rintro ⟨v, h, rfl⟩
      exact ⟨hf h, (hr _).2 ⟨v, rfl⟩⟩
  rw [Nat.count_eq_card_filter_range, this, Finset.card_image_of_injective _ hf.injective, Fin.card_Iio]

/-- Sorting distinct numbers in increasing order. -/
theorem sorted_numbers {k : ℕ} (v : Fin k → ℕ) (hv : Function.Injective v) :
    StrictMono fun u => v (sortedFrom (fun a b => decide (v a < v b)) u) := by
  have h := fun i j (hij : i < j) => sortedFrom_noInversion (fun a b => decide (v a < v b)) (fun a b => decide (v a < v b))
    (fun a b q => by simp only [decide_eq_true_eq, decide_eq_false_iff_not] at *; omega) (fun _ _ q => q)
    (fun a b c q r => by simp only [decide_eq_false_iff_not] at *; omega) i j hij
  intro i j hij
  have h' := h i j hij
  simp only [decide_eq_false_iff_not, not_lt] at h'
  refine lt_of_le_of_ne h' fun e => ?_
  exact absurd (sortedFrom_injective _ (hv e)) (ne_of_lt hij)

end Cert.Proof.Order
-- ==== Proof.Best.lean ====
module

public import proofs.«01_k».proof.Proof.Order
public import Idealize.ShloMosaic.Lib.Pointwise

/-! # The largest number of a row and where it first stands -/

@[expose] public noncomputable section

namespace Cert.Proof.Order

open Idealize.ShloMosaic

theorem negInf : Ideal.ofBits .f32 4286578688#32 = ⊥ := by simp [Ideal.ofBits, Ideal.ieee]

/-- Among the first `n` entries, `v` is the largest and `w` the number of the first place that holds it. -/
def Best {k : ℕ} (f : Fin k → EReal) (n : ℕ) (v : EReal) (w : BitVec 32) : Prop :=
  ∃ i : Fin k, i.val < n ∧ w = BitVec.ofNat 32 i.val ∧ v = f i ∧ (∀ j, j.val < n → f j ≤ v) ∧ ∀ j, j < i → f j < v

theorem Best.unique {k : ℕ} {f : Fin k → EReal} {n : ℕ} {v v' : EReal} {w w' : BitVec 32} (h : Best f n v w) (h' : Best f n v' w') :
    v = v' ∧ w = w' := by
  obtain ⟨i, hi, rfl, hv, ha, hb⟩ := h
  obtain ⟨i', hi', rfl, hv', ha', hb'⟩ := h'
  have e : v = v' := le_antisymm (hv ▸ ha' i hi) (hv' ▸ ha i' hi')
  refine ⟨e, ?_⟩
  rcases lt_trichotomy i i' with h | h | h
  · exact absurd (hv ▸ e ▸ hb' i h) (lt_irrefl _)
  · rw [h]
  · exact absurd (hv' ▸ e ▸ hb i' h) (lt_irrefl _)

/-- The signed minimum, read as an integer. -/
theorem toInt_minsi (a b : BitVec 32) : (IntOp.minsi a b).toInt = min a.toInt b.toInt := by
  unfold IntOp.minsi
  by_cases h : a.slt b
  · rw [if_pos h]; rw [BitVec.slt_iff_toInt_lt] at h; omega
  · rw [if_neg h]; rw [BitVec.slt_iff_toInt_lt] at h; omega

theorem toInt_ofNat {n : ℕ} (h : n < 2147483648) : (BitVec.ofNat 32 n).toInt = (n : ℤ) := by
  rw [BitVec.toInt_eq_toNat_of_lt (by rw [BitVec.toNat_ofNat]; omega), BitVec.toNat_ofNat]; omega

theorem toInt_fold {ι : Type} [DecidableEq ι] (b : BitVec 32) (h : ι → BitVec 32) (s : Finset ι) :
    (Finset.fold IntOp.minsi b h s).toInt = Finset.fold min b.toInt (fun x => (h x).toInt) s := by
  induction s using Finset.induction_on with
  | empty => simp
  | insert a s ha ih => rw [Finset.fold_insert ha, Finset.fold_insert ha, toInt_minsi, ih]

/-- One block of a row: the largest number and the least place with it, as the reductions find them. -/
theorem chunk {k : ℕ} (hk : 0 < k) (base : ℕ) (hb : base + k ≤ 2048) (g : Fin k → EReal) :
    ∃ x : Fin k, Finset.fold max ⊥ g Finset.univ = g x ∧ (∀ y, g y ≤ g x) ∧ (∀ y, y < x → g y < g x)
      ∧ Finset.fold IntOp.minsi 2147483647#32
          (fun y => if g y = Finset.fold max ⊥ g Finset.univ then BitVec.ofNat 32 (base + y.val) else 2048#32) Finset.univ
        = BitVec.ofNat 32 (base + x.val) := by
  haveI : Nonempty (Fin k) := ⟨⟨0, hk⟩⟩
  obtain ⟨x0, -, hx0⟩ := Finset.exists_max_image Finset.univ g Finset.univ_nonempty
  obtain ⟨x, hx, hxm⟩ := Finset.exists_min_image (Finset.univ.filter fun x => g x = g x0) id ⟨x0, by simp⟩
  rw [Finset.mem_filter] at hx
  have hle : ∀ y, g y ≤ g x := fun y => hx.2 ▸ hx0 y (Finset.mem_univ _)
  have hM : Finset.fold max ⊥ g Finset.univ = g x := by
    refine le_antisymm ?_ ?_
    · rw [Finset.fold_max_le]; exact ⟨bot_le, fun y _ => hle y⟩
    · rw [Finset.le_fold_max]; exact Or.inr ⟨x, Finset.mem_univ _, le_rfl⟩
  have hlt : ∀ y, y < x → g y < g x := fun y hy => lt_of_le_of_ne (hle y) fun h => by
    have : x ≤ y := hxm y (by rw [Finset.mem_filter]; exact ⟨Finset.mem_univ _, h.trans hx.2⟩)
    exact absurd hy (not_lt.2 this)
  refine ⟨x, hM, hle, hlt, BitVec.eq_of_toInt_eq ?_⟩
  rw [hM, toInt_fold, toInt_ofNat (n := base + x.val) (by omega)]
  refine le_antisymm ?_ ?_
  · rw [Finset.fold_min_le]
    exact Or.inr ⟨x, Finset.mem_univ _, by rw [if_pos rfl, toInt_ofNat (n := base + x.val) (by omega)]⟩
  · rw [Finset.le_fold_min]
    refine ⟨by have : (2147483647#32).toInt = 2147483647 := by decide
               omega, fun y _ => ?_⟩
    by_cases h : g y = g x
    · rw [if_pos h, toInt_ofNat (n := base + y.val) (by omega)]
      have : ¬ y < x := fun hy => absurd h (ne_of_lt (hlt y hy))
      have := Fin.not_lt.1 this
      have : x.val ≤ y.val := this
      omega
    · rw [if_neg h]
      have : (2048#32).toInt = 2048 := by decide
      omega

theorem best_first {k b : ℕ} (hb : 0 < b) (hbk : b ≤ k) (hk : k ≤ 2048) (f : Fin k → EReal) (g : Fin b → EReal)
    (hg : ∀ y : Fin b, g y = f ⟨y.val, by omega⟩) (idx : Fin b → BitVec 32) (hi : ∀ y, idx y = BitVec.ofNat 32 y.val) :
    Best f b (Finset.fold max ⊥ g Finset.univ)
      (Finset.fold IntOp.minsi 2147483647#32 (fun y => if g y = Finset.fold max ⊥ g Finset.univ then idx y else 2048#32) Finset.univ) := by
  obtain ⟨x, hM, hle, hlt, hI⟩ := chunk hb 0 (by omega) g
  refine ⟨⟨x.val, by omega⟩, x.isLt, ?_, ?_, fun j hj => ?_, fun j hj => ?_⟩
  · rw [show idx = fun y : Fin b => BitVec.ofNat 32 (0 + y.val) from funext fun y => by rw [hi, Nat.zero_add]]
    rw [hI, Nat.zero_add]
  · rw [hM, hg]
  · rw [hM]; have := hle ⟨j.val, hj⟩; rwa [hg ⟨j.val, hj⟩] at this
  · rw [hM]
    have hj' : j.val < x.val := hj
    have := hlt ⟨j.val, by omega⟩ hj'; rwa [hg ⟨j.val, _⟩] at this

theorem best_next {k b n : ℕ} (hb : 0 < b) (hbk : n + b ≤ k) (hk : k ≤ 2048) (f : Fin k → EReal) (g : Fin b → EReal)
    (hg : ∀ y : Fin b, g y = f ⟨n + y.val, by omega⟩) (idx : Fin b → BitVec 32) (hi : ∀ y, idx y = BitVec.ofNat 32 (n + y.val))
    {v : EReal} {w : BitVec 32} (h : Best f n v w) :
    Best f (n + b) (max v (Finset.fold max ⊥ g Finset.univ))
      (if v < Finset.fold max ⊥ g Finset.univ then
        Finset.fold IntOp.minsi 2147483647#32 (fun y => if g y = Finset.fold max ⊥ g Finset.univ then idx y else 2048#32) Finset.univ
       else w) := by
  obtain ⟨x, hM, hle, hlt, hI⟩ := chunk hb n (by omega) g
  obtain ⟨i, hin, hw, hv, ha, hl⟩ := h
  rw [show idx = fun y : Fin b => BitVec.ofNat 32 (n + y.val) from funext hi, hI, hM]
  by_cases hc : v < g x
  · rw [if_pos hc, max_eq_right hc.le]
    refine ⟨⟨n + x.val, by omega⟩, by show n + x.val < n + b; omega, rfl, hg x, fun j hj => ?_, fun j hj => ?_⟩
    · by_cases hjn : j.val < n
      · exact (ha j hjn).trans hc.le
      · have := hle ⟨j.val - n, by omega⟩
        rw [hg ⟨j.val - n, _⟩] at this
        convert this using 3
        simp only; omega
    · have hj' : j.val < n + x.val := hj
      by_cases hjn : j.val < n
      · exact (ha j hjn).trans_lt hc
      · have := hlt ⟨j.val - n, by omega⟩ (show j.val - n < x.val by omega)
        rw [hg ⟨j.val - n, _⟩] at this
        convert this using 3
        simp only; omega
  · rw [if_neg hc, max_eq_left (not_lt.1 hc)]
    refine ⟨i, by omega, hw, hv, fun j hj => ?_, hl⟩
    by_cases hjn : j.val < n
    · exact ha j hjn
    · have := hle ⟨j.val - n, by omega⟩
      rw [hg ⟨j.val - n, _⟩] at this
      refine le_trans ?_ (this.trans (not_lt.1 hc))
      apply le_of_eq
      congr 1
      apply Fin.ext
      simp only; omega

end Cert.Proof.Order
-- ==== Proof.Spec.lean ====
module

public import proofs.«01_k».proof.Proof.Best

/-! # What both programs compute: scores, ranks, the two results -/

@[expose] public noncomputable section

namespace Cert.Proof.Order

open Idealize.ShloMosaic

abbrev eps : EReal := Ideal.ofBits .f32 730643660#32

/-- A row divided by its norm, one entry. -/
def unit (k : Fin 1024 → EReal) (x : Fin 1024) : EReal := Ideal.div (k x) (Ideal.sqrt (∑ y, k y * k y) + eps)

/-- The even and the odd row of a pair. -/
def evenAt (l : Fin 2048) : Fin 4096 := ⟨2 * l.val, by omega⟩
def oddAt (l : Fin 2048) : Fin 4096 := ⟨2 * l.val + 1, by omega⟩

/-- The largest score of an even row, and the first odd row with it. -/
def bestV (f : Fin 2048 → EReal) : EReal := Finset.fold max ⊥ f Finset.univ
def bestI (f : Fin 2048 → EReal) : BitVec 32 :=
  Finset.fold IntOp.minsi 2147483647#32 (fun y => if f y = Finset.fold max ⊥ f Finset.univ then BitVec.ofNat 32 y.val else 2048#32) Finset.univ

theorem best (f : Fin 2048 → EReal) : Best f 2048 (bestV f) (bestI f) :=
  best_first (by decide) (by decide) (by decide) f f (fun _ => rfl) (fun y => BitVec.ofNat 32 y.val) (fun _ => rfl)

/-- The place of the best odd row. -/
def place (f : Fin 2048 → EReal) : Fin 2048 := (best f).choose
theorem bestI_eq (f : Fin 2048 → EReal) : bestI f = BitVec.ofNat 32 (place f).val := (best f).choose_spec.2.1

/-! ## Unmerged rows -/

variable (M : Fin 2048 → EReal)

/-- A row stays unmerged when at least half of the rows go before it. -/
def Keep (n : ℕ) : Prop := ∃ h : n < 2048, 1024 ≤ rank M ⟨n, h⟩

instance : DecidablePred (Keep M) := fun _ => Classical.propDecidable _

theorem keep_iff (l : Fin 2048) : Keep M l.val ↔ 1024 ≤ rank M l := ⟨fun ⟨_, h⟩ => h, fun h => ⟨l.isLt, h⟩⟩

/-- The rows of the second half of the sorted order, unsorted; then in increasing order. -/
def late (a : Fin 1024) : Fin 2048 := at_ M ⟨1024 + a.val, by omega⟩
def src (u : Fin 1024) : Fin 2048 := late M (sortedFrom (fun a b => decide ((late M a).val < (late M b).val)) u)

theorem late_eq {a b : Fin 1024} (h : late M a = late M b) : a = b := by
  unfold late at h
  have h' := congrArg (fun p : Fin 2048 => p.val) ((at_bij M).1 h)
  dsimp only at h'
  exact Fin.ext (by omega)

theorem late_inj : Function.Injective fun a => (late M a).val := fun a b h => late_eq M (Fin.ext h)

theorem src_mono : StrictMono fun u => (src M u).val := sorted_numbers (fun a => (late M a).val) (late_inj M)

theorem keep_late (l : Fin 2048) : Keep M l.val ↔ ∃ a, late M a = l := by
  rw [keep_iff]
  constructor
  · intro h
    have hr := rank_lt M l
    refine ⟨⟨rank M l - 1024, by omega⟩, ?_⟩
    rw [late]
    have e := at_rank M l
    refine Eq.trans (congrArg (at_ M) (Fin.ext ?_)) e
    show 1024 + (rank M l - 1024) = rank M l
    omega
  · rintro ⟨a, rfl⟩
    rw [late, rank_at]
    exact Nat.le_add_right _ _

theorem keep_src (n : ℕ) : Keep M n ↔ ∃ u, (src M u).val = n := by
  constructor
  · rintro ⟨h, h'⟩
    obtain ⟨a, ha⟩ := (keep_late M ⟨n, h⟩).1 ⟨h, h'⟩
    obtain ⟨u, hu⟩ := sortedFrom_surjective (fun a b => decide ((late M a).val < (late M b).val)) a
    exact ⟨u, by rw [src, hu, ha]⟩
  · rintro ⟨u, rfl⟩
    exact (keep_late M _).2 ⟨_, rfl⟩

theorem count_src (u : Fin 1024) : Nat.count (Keep M) (src M u).val = u.val :=
  count_enum (fun u => (src M u).val) (src_mono M) (keep_src M) u

/-- The running count of unmerged rows before an unmerged row. -/
theorem count_keep {l : ℕ} (h : Keep M l) : Nat.count (Keep M) l < 1024 := by
  obtain ⟨u, rfl⟩ := (keep_src M l).1 h
  rw [count_src]; exact u.isLt

theorem count_congr {P Q : ℕ → Prop} [DecidablePred P] [DecidablePred Q] (h : ∀ n, P n ↔ Q n) (n : ℕ) : Nat.count P n = Nat.count Q n := by
  rw [Nat.count_eq_card_filter_range, Nat.count_eq_card_filter_range]
  exact congrArg Finset.card (Finset.filter_congr fun i _ => h i)

/-! ## The two results -/

variable (x k : Fin 4 → Fin 4096 → Fin 1024 → EReal)

/-- The score of an even row against an odd one; the first even row scores nothing. -/
def sc (b : Fin 4) (l q : Fin 2048) : EReal :=
  if l.val = 0 then ⊥ else ∑ d, unit (k b (evenAt l)) d * unit (k b (oddAt q)) d

abbrev mx (b : Fin 4) (l : Fin 2048) : EReal := bestV (sc k b l)

/-- Where an even row goes. -/
def goes (b : Fin 4) (l : Fin 2048) : BitVec 32 :=
  if Keep (mx k b) l.val then BitVec.ofNat 32 (Nat.count (Keep (mx k b)) l.val) else BitVec.ofNat 32 (1024 + (place (sc k b l)).val)

def out1 (b : Fin 4) (r : Fin 3072) (d : Fin 1024) : EReal :=
  if h : r.val < 1024 then x b (evenAt (src (mx k b) ⟨r.val, h⟩)) d
  else x b (oddAt ⟨r.val - 1024, by omega⟩) d
    + ∑ l : Fin 2048, if ¬ Keep (mx k b) l.val ∧ (place (sc k b l)).val = r.val - 1024 then x b (evenAt l) d else 0

def out2 (b : Fin 4) (r : Fin 4096) : BitVec 32 :=
  if r.val % 2 = 0 then goes k b ⟨r.val / 2, by omega⟩ else BitVec.ofNat 32 (1024 + r.val / 2)

end Cert.Proof.Order
-- ==== Proof.Scores.lean ====
module

public import proofs.«01_k».proof.Proof.Arrays
public import proofs.«01_k».proof.Proof.Spec
public import Idealize.ShloMosaic.Lib.Pointwise

/-! The scores, and what the first call leaves -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F]

open Cert.Proof.Order

/-- The even and the odd row of a pair. -/
def evenRow (k : S4x2048x2048.Idx → EReal) (b : Fin 4) (l : Fin 2048) (x : Fin 1024) : EReal := k (ix3 b l ⟨x.val, by omega⟩)
def oddRow (k : S4x2048x2048.Idx → EReal) (b : Fin 4) (l : Fin 2048) (x : Fin 1024) : EReal := k (ix3 b l ⟨1024 + x.val, by omega⟩)

/-- The score of an even row against an odd one; the first even row scores nothing. -/
def score (k : S4x2048x2048.Idx → EReal) (b : Fin 4) (l q : Fin 2048) : EReal :=
  if l.val = 0 then ⊥ else ∑ x, unit (evenRow k b l) x * unit (oddRow k b q) x

theorem coords0 : ∀ t : Fin cfg0.N, (grid0.coords t 0).val = t.val / 8 ∧ (grid0.coords t 1).val = t.val / 4 % 2 ∧ (grid0.coords t 2).val = t.val % 4 := by
  decide

theorem coords0_0 (t : Fin cfg0.N) : (grid0.coords t 0).val = t.val / 8 := (coords0 t).1
theorem coords0_1 (t : Fin cfg0.N) : (grid0.coords t 1).val = t.val / 4 % 2 := (coords0 t).2.1
theorem coords0_2 (t : Fin cfg0.N) : (grid0.coords t 2).val = t.val % 4 := (coords0 t).2.2

theorem index0_0 : ∀ t : Fin cfg0.N, win0_0.index t = ![(grid0.coords t 0).val, (grid0.coords t 1).val, 0] := by decide +kernel
theorem index0_1 : ∀ t : Fin cfg0.N, win0_1.index t = ![(grid0.coords t 0).val, (grid0.coords t 2).val, 0] := by decide +kernel

theorem Best.cast {k : ℕ} {f : Fin k → EReal} {n : ℕ} {v v' : EReal} {w w' : BitVec 32} (h : Best f n v w) (e : v' = v) (e' : w' = w) :
    Best f n v' w' := by subst e; subst e'; exact h

section
variable (W : Vals Ideal) (c : Dev nD)

set_option maxHeartbeats 400000 in
theorem sBlk0_at (t : Fin cfg0.N) (r : Fin 1024) (x : Fin 2048) (b : Fin 4) (hb : b.val = t.val / 8) (l : Fin 2048)
    (hl : l.val = 1024 * (t.val / 4 % 2) + r.val) : sBlk0 W c t (ix3 0 r x) = W c main_v0 (ix3 b l x) := by
  show W c main_v0 _ = W c main_v0 _
  congr 1
  blk_ext [index0_0 t, coords0_0 t, coords0_1 t]

set_option maxHeartbeats 400000 in
theorem sBlk1_at (t : Fin cfg0.N) (r : Fin 512) (x : Fin 2048) (b : Fin 4) (hb : b.val = t.val / 8) (l : Fin 2048)
    (hl : l.val = 512 * (t.val % 4) + r.val) : sBlk1 W c t (ix3 0 r x) = W c main_v0 (ix3 b l x) := by
  show W c main_v0 _ = W c main_v0 _
  congr 1
  blk_ext [index0_1 t, coords0_0 t, coords0_2 t]

theorem evenHalf_at (X0 : S1x1024x2048.Idx → EReal) (r x : Fin 1024) :
    evenHalf (F := Ideal) X0 (ix3 0 r x) = X0 (ix3 0 r ⟨x.val, by omega⟩) := by
  show X0 _ = X0 _
  congr 1
  funext d
  fin_cases d <;> apply Fin.ext <;> simp [ix3]

theorem oddHalf_at (X0 : S1x512x2048.Idx → EReal) (r : Fin 512) (x : Fin 1024) :
    oddHalf (F := Ideal) X0 (ix3 0 r x) = X0 (ix3 0 r ⟨1024 + x.val, by omega⟩) := by
  show X0 _ = X0 _
  congr 1
  funext d
  fin_cases d <;> apply Fin.ext <;> simp [ix3]

end

def cell (i : grid0.Coords) (v0 : Vec Ideal S1x1024x1024 .f32) (v2 : Vec Ideal S1x512x1024 .f32) (r : Fin 1024) (q : Fin 512) : EReal :=
  if 1024 * (i 1).val + r.val = 0 then ⊥ else ∑ x, unit (fun x => v0 (ix3 0 r x)) x * unit (fun x => v2 (ix3 0 q x)) x

theorem placed (r i n : ℕ) : IntOp.addi (BitVec.ofNat 32 r) (Scalar.muli (BitVec.ofNat 32 i) (BitVec.ofNat 32 n)) = BitVec.ofNat 32 (n * i + r) := by
  show BitVec.ofNat 32 r + BitVec.ofNat 32 i * BitVec.ofNat 32 n = _
  rw [← BitVec.ofNat_mul, ← BitVec.ofNat_add, Nat.add_comm, Nat.mul_comm]

theorem pay8_at (i : grid0.Coords) (v0 : Vec Ideal S1x1024x1024 .f32) (v2 : Vec Ideal S1x512x1024 .f32) (r : Fin 1024) (q : Fin 512) :
    k0_pay8 i v0 v2 (ix2 r q) = cell i v0 v2 r q := by
  unfold k0_pay8
  pointwise
  have e : IntOp.addi (BitVec.ofNat 32 r.val) (Scalar.muli (BitVec.ofNat 32 (i 1).val) 1024#32) = BitVec.ofNat 32 (1024 * (i 1).val + r.val) := by
    exact placed r.val (i 1).val 1024
  rw [e, negInf]
  have h1 : (i 1).val < 2 := (i 1).isLt
  have hr := r.isLt
  unfold cell unit
  by_cases h : 1024 * (i 1).val + r.val = 0
  · rw [if_pos h, h]; rfl
  · rw [if_neg h]
    have hne : BitVec.ofNat 32 (1024 * (i 1).val + r.val) ≠ 0#32 := fun hh => by
      have := congrArg BitVec.toNat hh
      rw [BitVec.toNat_ofNat, BitVec.toNat_ofNat] at this
      omega
    have : IntOp.cmpi CmpIPredicate.eq (BitVec.ofNat 32 (1024 * (i 1).val + r.val)) 0#32 = 0#1 := by
      show BitVec.ofBool (BitVec.ofNat 32 (1024 * (i 1).val + r.val) == 0#32) = 0#1
      rw [beq_eq_false_iff_ne.2 hne]; rfl
    rw [this]; rfl

theorem pay9_at (i : grid0.Coords) (v0 : Vec Ideal S1x1024x1024 .f32) (v2 : Vec Ideal S1x512x1024 .f32) (r : Fin 1024) :
    k0_pay9 i v0 v2 (ix1 r) = Finset.fold max ⊥ (cell i v0 v2 r) Finset.univ := by
  unfold k0_pay9
  pointwise
  rw [negInf]
  exact congrArg (fun g => Finset.fold max ⊥ g Finset.univ) (funext fun q => pay8_at i v0 v2 r q)

theorem pay10_at (i : grid0.Coords) (v0 : Vec Ideal S1x1024x1024 .f32) (v2 : Vec Ideal S1x512x1024 .f32) (r : Fin 1024) (q : Fin 512) :
    k0_pay10 i v0 v2 (ix2 r q) = if cell i v0 v2 r q = Finset.fold max ⊥ (cell i v0 v2 r) Finset.univ then BitVec.ofNat 32 (512 * (i 2).val + q.val) else 2048#32 := by
  rw [← pay9_at, ← pay8_at]
  unfold k0_pay10
  pointwise
  rw [placed q.val (i 2).val 512]

theorem pay7_at (v : FVec Ideal S1024 .f32) (x : IVec S1024x512 32)  (w : Vec Ideal S1x1x1024 .f32) (z : Vec Ideal S1x1x1024 .i32) (r : Fin 1024) :
    k0_pay7 v x w z (ix3 0 0 r) = if w (ix3 0 0 r) < v (ix1 r) then Finset.fold IntOp.minsi 2147483647#32 (fun y => x (ix2 r y)) Finset.univ else z (ix3 0 0 r) := by
  unfold k0_pay7 k0_pay5 k0_pay4 k0_pay1
  pointwise

theorem pay6_at (v : FVec Ideal S1024 .f32) (w : Vec Ideal S1x1x1024 .f32) (r : Fin 1024) :
    k0_pay6 v w (ix3 0 0 r) = max (w (ix3 0 0 r)) (v (ix1 r)) := by
  unfold k0_pay6 k0_pay5 k0_pay4
  pointwise
  split_ifs with h
  · exact (max_eq_right h.le).symm
  · exact (max_eq_left (not_lt.1 h)).symm

theorem pay3_at (x : IVec S1024x512 32) (r : Fin 1024) :
    k0_pay3 x (ix3 0 0 r) = Finset.fold IntOp.minsi 2147483647#32 (fun y => x (ix2 r y)) Finset.univ := by
  unfold k0_pay3 k0_pay1
  pointwise

theorem pay2_at (v : FVec Ideal S1024 .f32) (r : Fin 1024) : k0_pay2 v (ix3 0 0 r) = v (ix1 r) := by
  unfold k0_pay2
  pointwise

theorem part_whole {α : Type} (X : S1x1x1024.Idx → α) :
    part (s := S1x1x1024) ![0, 0, 0] S1x1x1024.size inb_S1x1x1024_S1x1x1024_0_0_0 X = X := by
  funext x
  refine part_emb x x fun a => ?_
  fin_cases a <;> exact (Nat.zero_add _).symm

section
variable (W : Vals Ideal) (c : Dev nD)

theorem cell_at (t : Fin cfg0.N) (r : Fin 1024) (q : Fin 512) (b : Fin 4) (hb : b.val = t.val / 8) (l : Fin 2048)
    (hl : l.val = 1024 * (t.val / 4 % 2) + r.val) (s : Fin 2048) (hs : s.val = 512 * (t.val % 4) + q.val) :
    cell (grid0.coords t) (evenHalf (sBlk0 W c t)) (oddHalf (sBlk1 W c t)) r q = score (W c main_v0) b l s := by
  unfold cell score
  rw [coords0_1 t, ← hl]
  split_ifs with h
  · rfl
  · refine Finset.sum_congr rfl fun x _ => ?_
    have e0 : (fun x => evenHalf (sBlk0 W c t) (ix3 0 r x)) = evenRow (W c main_v0) b l := funext fun x => by
      rw [evenHalf_at, sBlk0_at W c t r _ b hb l hl]; rfl
    have e1 : (fun x => oddHalf (sBlk1 W c t) (ix3 0 q x)) = oddRow (W c main_v0) b s := funext fun x => by
      rw [oddHalf_at, sBlk1_at W c t q _ b hb s hs]; rfl
    rw [e0, e1]

theorem score_first (t : Fin cfg0.N) (h0 : t.val % 4 = 0) (X2 : S1x1x1024.Idx → EReal) (X3 : S1x1x1024.Idx → BitVec 32) (r : Fin 1024)
    (b : Fin 4) (hb : b.val = t.val / 8) (l : Fin 2048) (hl : l.val = 1024 * (t.val / 4 % 2) + r.val) :
    Best (score (W c main_v0) b l) 512 (scoreM (grid0.coords t) (sBlk0 W c t) (sBlk1 W c t) X2 (ix3 0 0 r))
      (scoreI (grid0.coords t) (sBlk0 W c t) (sBlk1 W c t) X2 X3 (ix3 0 0 r)) := by
  have hc := (cond1_iff t).mpr h0
  unfold scoreM scoreI
  rw [if_pos hc, if_pos hc, pay2_at, pay3_at, pay9_at]
  simp only [pay10_at]
  refine best_first (by decide) (by decide) (by decide) _ _ (fun y => ?_) _ fun y => ?_
  · exact cell_at W c t r y b hb l hl _ (by rw [h0]; exact (Nat.zero_add _).symm)
  · rw [coords0_2 t, h0, Nat.mul_zero, Nat.zero_add]

theorem score_next (t : Fin cfg0.N) (h0 : ¬ t.val % 4 = 0) (X2 : S1x1x1024.Idx → EReal) (X3 : S1x1x1024.Idx → BitVec 32) (r : Fin 1024)
    (b : Fin 4) (hb : b.val = t.val / 8) (l : Fin 2048) (hl : l.val = 1024 * (t.val / 4 % 2) + r.val)
    (h : Best (score (W c main_v0) b l) (512 * (t.val % 4)) (X2 (ix3 0 0 r)) (X3 (ix3 0 0 r))) :
    Best (score (W c main_v0) b l) (512 * (t.val % 4) + 512) (scoreM (grid0.coords t) (sBlk0 W c t) (sBlk1 W c t) X2 (ix3 0 0 r))
      (scoreI (grid0.coords t) (sBlk0 W c t) (sBlk1 W c t) X2 X3 (ix3 0 0 r)) := by
  have hc : ¬ k0_cond1 (grid0.coords t) = 1#1 := fun h => h0 ((cond1_iff t).mp h)
  unfold scoreM scoreI
  rw [if_neg hc, if_neg hc, pay6_at, pay7_at, pay9_at]
  simp only [pay10_at]
  refine best_next (by decide) (by omega) (by decide) _ _ (fun y => ?_) _ (fun y => ?_) (Best.cast h (congrFun (part_whole X2) _) (congrFun (part_whole X3) _))
  · exact cell_at W c t r y b hb l hl _ rfl
  · rw [coords0_2 t]

theorem acc_best : ∀ (n : ℕ) (hn : n < cfg0.N) (r : Fin 1024) (b : Fin 4) (_ : b.val = n / 8) (l : Fin 2048)
    (_ : l.val = 1024 * (n / 4 % 2) + r.val),
    Best (score (W c main_v0) b l) (512 * (n % 4) + 512) ((sAcc W c n hn).1 (ix3 0 0 r)) ((sAcc W c n hn).2 (ix3 0 0 r)) := by
  intro n
  induction n with
  | zero =>
    intro hn r b hb l hl
    have h := sAcc_step W c ⟨0, hn⟩ (fun _ => 0) (fun _ => 0#32) (fun h => absurd rfl h) (fun h => absurd rfl h)
    rw [← h.1, ← h.2]
    exact score_first W c ⟨0, hn⟩ rfl _ _ r b hb l hl
  | succ n ih =>
    intro hn r b hb l hl
    dsimp only [sAcc]
    by_cases h0 : (n + 1) % 4 = 0
    · rw [h0]
      exact score_first W c ⟨n + 1, hn⟩ h0 _ _ r b hb l hl
    · refine score_next W c ⟨n + 1, hn⟩ h0 _ _ r b hb l hl ?_
      have := ih (Nat.lt_of_succ_lt hn) r b (by omega) l (by omega)
      rwa [show 512 * (n % 4) + 512 = 512 * ((n + 1) % 4) by omega] at this

end

variable (m : (ℓ : Loc nD τ sig) → Buf (Elt Ideal) ℓ)

theorem after0_2 (W : Vals Ideal) (c : Dev nD) (t : Fin cfg0.N) : (dat0 W c).after 2 t = (sAcc W c t.val t.isLt).1 := rfl
theorem after0_3 (W : Vals Ideal) (c : Dev nD) (t : Fin cfg0.N) : (dat0 W c).after 3 t = (sAcc W c t.val t.isLt).2 := rfl
theorem index0_2 : ∀ t : Fin cfg0.N, win0_2.index t = ![(grid0.coords t 0).val, 0, (grid0.coords t 1).val] := by decide +kernel
theorem index0_3 : ∀ t : Fin cfg0.N, win0_3.index t = ![(grid0.coords t 0).val, 0, (grid0.coords t 1).val] := by decide +kernel

theorem acc_vals (W : Vals Ideal) (c : Dev nD) (t : Fin cfg0.N) (h : t.val % 4 = 3) (y : S1x1x1024.Idx) (b : Fin 4) (hb : b.val = t.val / 8) (l : Fin 2048)
    (hl : l.val = 1024 * (t.val / 4 % 2) + (y 2).val) :
    (sAcc W c t.val t.isLt).1 y = bestV (score (W c main_v0) b l) ∧ (sAcc W c t.val t.isLt).2 y = bestI (score (W c main_v0) b l) := by
  obtain ⟨r, rfl⟩ : ∃ r : Fin 1024, y = ix3 0 0 r := ⟨y 2, by
    funext a
    fin_cases a
    · exact Fin.ext (Nat.lt_one_iff.1 (y 0).isLt)
    · exact Fin.ext (Nat.lt_one_iff.1 (y 1).isLt)
    · rfl⟩
  have := acc_best W c t.val t.isLt r b hb l hl
  rw [h] at this
  exact this.unique (best _)

set_option maxHeartbeats 400000 in
theorem v3_0_eq (c : Dev nD) : R1 m c main_v3_0 = fun i : S4x1x2048.Idx => bestV (score (V1 m c main_v0) (i 0) (i 2)) := by
  rw [R1_val]
  refine (dat0 (V1 m) c).arrAt_eq_of_covers 2 _ (by decide +kernel) fun t hf y => ?_
  have h3 : t.val % 4 = 3 := (flush0_2 t).mp hf
  blk_simp
  rw [after0_2]
  refine (acc_vals (V1 m) c t h3 y _ ?_ _ ?_).1
  · idx_bounds y
    blk_simp [index0_2 t, coords0_0 t]
  · blk_simp [index0_2 t, coords0_1 t]
    omega

set_option maxHeartbeats 400000 in
theorem v3_1_eq (c : Dev nD) : R1 m c main_v3_1 = fun i : S4x1x2048.Idx => bestI (score (V1 m c main_v0) (i 0) (i 2)) := by
  rw [R1_idx]
  refine (dat0 (V1 m) c).arrAt_eq_of_covers 3 _ (by decide +kernel) fun t hf y => ?_
  have h3 : t.val % 4 = 3 := (flush0_3 t).mp hf
  blk_simp
  rw [after0_3]
  refine (acc_vals (V1 m) c t h3 y _ ?_ _ ?_).2
  · idx_bounds y
    blk_simp [index0_3 t, coords0_0 t]
  · blk_simp [index0_3 t, coords0_1 t]
    omega

end Cert.Proof.Run
-- ==== Proof.Ranks.lean ====
module

public import proofs.«01_k».proof.Proof.Scores

/-! The rank of a row, counted block by block -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F]

open Cert.Proof.Order

variable (A : S1x1x2048.Idx → EReal) (C : S1x2048x1.Idx → EReal)

/-- One comparison, as a word. -/
def fl (c a : EReal) (i l : ℕ) : BitVec 32 := if a < c ∨ (a = c ∧ i < l) then 1#32 else 0#32

theorem fl_of (c a : EReal) (i k l : ℕ) (hi : i + k < 2048) (hl : l < 2048) :
    BitVec.setWidth 32 (IntOp.ori (BitVec.ofBool (decide (a < c))) (IntOp.andi (BitVec.ofBool (decide (c = a)))
      (IntOp.cmpi .slt (IntOp.addi (BitVec.ofNat 32 i) (BitVec.ofNat 32 k)) (BitVec.ofNat 32 l)))) = fl c a (i + k) l := by
  rw [rowIota, slt_small (by omega) (by omega)]
  unfold fl
  by_cases h1 : a < c
  · rw [if_pos (Or.inl h1), decide_eq_true h1]
    by_cases h2 : c = a <;> by_cases h3 : i + k < l <;> simp [h2, h3, IntOp.ori, IntOp.andi]
  · by_cases h2 : c = a
    · by_cases h3 : i + k < l
      · rw [if_pos (Or.inr ⟨h2.symm, h3⟩)]; simp [h1, h2, h3, IntOp.ori, IntOp.andi]
      · rw [if_neg (by rintro (h | ⟨_, h⟩); exacts [h1 h, h3 h])]; simp [h1, h2, h3, IntOp.ori, IntOp.andi]
    · rw [if_neg (by rintro (h | ⟨h, _⟩); exacts [h1 h, h2 h.symm])]
      by_cases h3 : i + k < l <;> simp [h1, h2, h3, IntOp.ori, IntOp.andi]

/-- The count over one block of the column. -/
def cnt (a : EReal) (col : S1x256x1.Idx → EReal) (k l : ℕ) : BitVec 32 := ∑ y : Fin 256, fl (col (ix3 0 y 0)) a (y.val + k) l

theorem cnt_of (a : EReal) (col : S1x256x1.Idx → EReal) (k : ℕ) (l : Fin 2048) (hk : k + 256 ≤ 2048) :
    Finset.fold IntOp.addi 0#32 (fun x : Fin 256 => BitVec.setWidth 32 (IntOp.ori (BitVec.ofBool (decide (a < col (ix3 0 x 0))))
      (IntOp.andi (BitVec.ofBool (decide (col (ix3 0 x 0) = a)))
        (IntOp.cmpi .slt (IntOp.addi (BitVec.ofNat 32 x.val) (BitVec.ofNat 32 k)) (BitVec.ofNat 32 l.val))))) Finset.univ = cnt a col k l.val := by
  rw [fold_addi_sum]
  exact Finset.sum_congr rfl fun y _ => fl_of _ _ _ _ _ (by omega) l.isLt

set_option maxHeartbeats 400000 in
theorem pay4_at (v0 : Vec Ideal S1x1x2048 .f32) (v6 : Vec Ideal S1x256x1 .f32) (l : Fin 2048) :
    k1_pay4 v0 v6 (ix2 0 l) = cnt (v0 (ix3 0 0 l)) v6 0 l.val := by
  unfold k1_pay4 k1_pay2
  pointwise
  exact (BitVec.zero_add _).trans (cnt_of (v0 (ix3 0 0 l)) v6 0 l (by decide))

set_option maxHeartbeats 400000 in
theorem pay5_at (v0 : Vec Ideal S1x1x2048 .f32) (v6 : Vec Ideal S1x256x1 .f32) (y : Fin 256) (l : Fin 2048) :
    k1_pay5 v0 v6 (ix2 y l) = fl (v6 (ix3 0 y 0)) (v0 (ix3 0 0 l)) (y.val + 256) l.val := by
  unfold k1_pay5 k1_pay2
  pointwise
  exact fl_of _ _ _ 256 _ (by omega) l.isLt

set_option maxHeartbeats 400000 in
theorem pay6_at' (v1 : FVec Ideal S1x2048 .f32) (v25 : IVec S1x2048 32) (v42 : IVec S256x2048 32) (v46 : Vec Ideal S1x256x1 .f32) (v66 : Vec Ideal S1x256x1 .f32) (l : Fin 2048) :
    k1_pay6 v1 selIota v25 v42 v46 v66 (ix2 0 l) = v25 (ix2 0 l) + (∑ y : Fin 256, v42 (ix2 y l)) + cnt (v1 (ix2 0 l)) v46 512 l.val + cnt (v1 (ix2 0 l)) v66 768 l.val := by
  unfold k1_pay6
  pointwise
  exact congrArg₂ IntOp.addi (congrArg₂ IntOp.addi rfl (cnt_of (v1 (ix2 0 l)) v46 512 l (by decide))) (cnt_of (v1 (ix2 0 l)) v66 768 l (by decide))

set_option maxHeartbeats 400000 in
theorem pay8_at' (v1 : FVec Ideal S1x2048 .f32) (v25 : IVec S1x2048 32) (v46 : Vec Ideal S1x256x1 .f32) (v66 : Vec Ideal S1x256x1 .f32) (l : Fin 2048) :
    k1_pay8 v1 selIota v25 (k1_pay7 v46) (iota .tc S256x1 32 [0] iota_S256x1_d0_w32) v66 (ix2 0 l) = v25 (ix2 0 l) + cnt (v1 (ix2 0 l)) v46 1024 l.val + cnt (v1 (ix2 0 l)) v66 1280 l.val := by
  unfold k1_pay8 k1_pay7
  pointwise
  exact congrArg₂ IntOp.addi (congrArg₂ IntOp.addi rfl (cnt_of (v1 (ix2 0 l)) v46 1024 l (by decide))) (cnt_of (v1 (ix2 0 l)) v66 1280 l (by decide))

set_option maxHeartbeats 400000 in
theorem pay13_at' (v1 : FVec Ideal S1x2048 .f32) (v25 : IVec S1x2048 32) (v46 : Vec Ideal S1x256x1 .f32) (v66 : Vec Ideal S1x256x1 .f32) (l : Fin 2048) :
    k1_pay13 v1 selIota v25 (k1_pay10 v1 v46) (k1_pay11 v1 v46) k1_pay12 v66 (ix2 0 l) =
      IntOp.cmpi .sge (v25 (ix2 0 l) + cnt (v1 (ix2 0 l)) v46 1536 l.val + cnt (v1 (ix2 0 l)) v66 1792 l.val) 1024#32 := by
  unfold k1_pay13 k1_pay10 k1_pay11 k1_pay12 k1_pay9
  pointwise
  exact congrArg (fun x => IntOp.cmpi .sge x 1024#32) (congrArg₂ IntOp.addi (congrArg₂ IntOp.addi rfl (cnt_of (v1 (ix2 0 l)) v46 1536 l (by decide))) (cnt_of (v1 (ix2 0 l)) v66 1792 l (by decide)))

/-- The comparisons of row `l` over all rows, extended by nothing. -/
def less (M : Fin 2048 → EReal) (l : Fin 2048) (i : ℕ) : ℕ := if h : i < 2048 then (if Cert.Proof.Order.Lex M ⟨i, h⟩ l then 1 else 0) else 0

theorem rank_sum (M : Fin 2048 → EReal) (l : Fin 2048) : rank M l = ∑ i ∈ Finset.Ico 0 2048, less M l i := by
  rw [← Finset.range_eq_Ico, ← Fin.sum_univ_eq_sum_range]
  unfold rank
  rw [Finset.card_filter]
  refine Finset.sum_congr rfl fun i _ => ?_
  unfold less
  rw [dif_pos i.isLt]

theorem ofNat_sum {ι : Type} (s : Finset ι) (f : ι → ℕ) : BitVec.ofNat 32 (∑ i ∈ s, f i) = ∑ i ∈ s, BitVec.ofNat 32 (f i) := by
  classical
  induction s using Finset.induction_on with
  | empty => rfl
  | insert a s ha ih => rw [Finset.sum_insert ha, Finset.sum_insert ha, BitVec.ofNat_add, ih]

variable {A C} in
theorem cnt_less (M : Fin 2048 → EReal) (hA : ∀ l, A (ix3 0 0 l) = M l) (hC : ∀ l, C (ix3 0 l 0) = M l) (k : ℕ) (hk : k + 256 ≤ 2048) (inb) (l : Fin 2048) :
    cnt (A (ix3 0 0 l)) (part (s := S1x2048x1) ![0, k, 0] S1x256x1.size inb C) k l.val = BitVec.ofNat 32 (∑ i ∈ Finset.Ico k (k + 256), less M l i) := by
  rw [Finset.sum_Ico_eq_sum_range, Nat.add_sub_cancel_left, ← Fin.sum_univ_eq_sum_range (fun i => less M l (k + i)), ofNat_sum]
  unfold cnt
  refine Finset.sum_congr rfl fun y _ => ?_
  have e := partCol C k hk inb y
  have hy := y.isLt
  rw [e, hC, hA]
  unfold fl less
  rw [dif_pos (by omega : k + y.val < 2048)]
  have e2 : (⟨y.val + k, by omega⟩ : Fin 2048) = ⟨k + y.val, by omega⟩ := Fin.ext (Nat.add_comm _ _)
  rw [e2]
  by_cases h : M l < M ⟨k + y.val, by omega⟩ ∨ (M l = M ⟨k + y.val, by omega⟩ ∧ y.val + k < l.val)
  · rw [if_pos h, if_pos (show Cert.Proof.Order.Lex M _ l from ?_)]
    rcases h with h | ⟨h, h'⟩
    · exact Or.inl h
    · exact Or.inr ⟨h, show k + y.val < l.val by omega⟩
  · rw [if_neg h, if_neg (show ¬ Cert.Proof.Order.Lex M _ l from ?_)]
    rintro (h' | ⟨h', h''⟩)
    · exact h (Or.inl h')
    · exact h (Or.inr ⟨h', by have : k + y.val < l.val := h''; omega⟩)

theorem row_at (l : Fin 2048) : selRow (F := Ideal) A (ix2 0 l) = A (ix3 0 0 l) := by
  unfold selRow
  rw [partRow]
  unfold k1_pay2
  pointwise

theorem unm_at (l : Fin 2048) : selUnm (F := Ideal) A C (ix2 0 l) = IntOp.cmpi .sge (selCount6 (F := Ideal) A C (ix2 0 l)
      + cnt (selRow (F := Ideal) A (ix2 0 l)) (part (s := S1x2048x1) ![0, 1536, 0] S1x256x1.size inb_S1x2048x1_S1x256x1_0_1536_0 C) 1536 l.val
      + cnt (selRow (F := Ideal) A (ix2 0 l)) (part (s := S1x2048x1) ![0, 1792, 0] S1x256x1.size inb_S1x2048x1_S1x256x1_0_1792_0 C) 1792 l.val) 1024#32 := by
  unfold selUnm
  generalize selCount6 (F := Ideal) A C = q
  generalize selRow (F := Ideal) A = p
  exact pay13_at' p q _ _ l

theorem count_at (l : Fin 2048) : selCount6 (F := Ideal) A C (ix2 0 l) =
      k1_pay6 (F := Ideal) (selRow A) selIota
      (k1_pay4 (F := Ideal) (part (s := S1x1x2048) ![0, 0, 0] S1x1x2048.size inb_S1x1x2048_S1x1x2048_0_0_0 A)
        (part (s := S1x2048x1) ![0, 0, 0] S1x256x1.size inb_S1x2048x1_S1x256x1_0_0_0 C))
      (k1_pay5 (F := Ideal) (part (s := S1x1x2048) ![0, 0, 0] S1x1x2048.size inb_S1x1x2048_S1x1x2048_0_0_0 A)
        (part (s := S1x2048x1) ![0, 256, 0] S1x256x1.size inb_S1x2048x1_S1x256x1_0_256_0 C))
      (part (s := S1x2048x1) ![0, 512, 0] S1x256x1.size inb_S1x2048x1_S1x256x1_0_512_0 C)
      (part (s := S1x2048x1) ![0, 768, 0] S1x256x1.size inb_S1x2048x1_S1x256x1_0_768_0 C) (ix2 0 l)
      + cnt (selRow (F := Ideal) A (ix2 0 l)) (part (s := S1x2048x1) ![0, 1024, 0] S1x256x1.size inb_S1x2048x1_S1x256x1_0_1024_0 C) 1024 l.val
      + cnt (selRow (F := Ideal) A (ix2 0 l)) (part (s := S1x2048x1) ![0, 1280, 0] S1x256x1.size inb_S1x2048x1_S1x256x1_0_1280_0 C) 1280 l.val := by
  unfold selCount6
  generalize selRow (F := Ideal) A = p
  exact pay8_at' p _ _ _ l

theorem count_at' (v25 : IVec S1x2048 32) (v42 : IVec S256x2048 32) (l : Fin 2048) :
      k1_pay6 (F := Ideal) (selRow A) selIota v25 v42
      (part (s := S1x2048x1) ![0, 512, 0] S1x256x1.size inb_S1x2048x1_S1x256x1_0_512_0 C)
      (part (s := S1x2048x1) ![0, 768, 0] S1x256x1.size inb_S1x2048x1_S1x256x1_0_768_0 C) (ix2 0 l) =
      v25 (ix2 0 l) + (∑ y : Fin 256, v42 (ix2 y l))
      + cnt (selRow (F := Ideal) A (ix2 0 l)) (part (s := S1x2048x1) ![0, 512, 0] S1x256x1.size inb_S1x2048x1_S1x256x1_0_512_0 C) 512 l.val
      + cnt (selRow (F := Ideal) A (ix2 0 l)) (part (s := S1x2048x1) ![0, 768, 0] S1x256x1.size inb_S1x2048x1_S1x256x1_0_768_0 C) 768 l.val := by
  generalize selRow (F := Ideal) A = p
  exact pay6_at' p _ _ _ _ l

theorem count_at0 (l : Fin 2048) : k1_pay4 (F := Ideal) (part (s := S1x1x2048) ![0, 0, 0] S1x1x2048.size inb_S1x1x2048_S1x1x2048_0_0_0 A)
        (part (s := S1x2048x1) ![0, 0, 0] S1x256x1.size inb_S1x2048x1_S1x256x1_0_0_0 C) (ix2 0 l)
      = cnt (A (ix3 0 0 l)) (part (s := S1x2048x1) ![0, 0, 0] S1x256x1.size inb_S1x2048x1_S1x256x1_0_0_0 C) 0 l.val := by
  rw [partRow]
  exact pay4_at _ _ l

theorem count_at1 (l : Fin 2048) : (∑ y : Fin 256, k1_pay5 (F := Ideal) (part (s := S1x1x2048) ![0, 0, 0] S1x1x2048.size inb_S1x1x2048_S1x1x2048_0_0_0 A)
        (part (s := S1x2048x1) ![0, 256, 0] S1x256x1.size inb_S1x2048x1_S1x256x1_0_256_0 C) (ix2 y l))
      = cnt (A (ix3 0 0 l)) (part (s := S1x2048x1) ![0, 256, 0] S1x256x1.size inb_S1x2048x1_S1x256x1_0_256_0 C) 256 l.val := by
  rw [partRow]
  exact Finset.sum_congr rfl fun y _ => pay5_at _ _ y l

theorem sum8 (f : ℕ → ℕ) : (∑ i ∈ Finset.Ico 0 256, f i) + (∑ i ∈ Finset.Ico 256 512, f i) + (∑ i ∈ Finset.Ico 512 768, f i)
    + (∑ i ∈ Finset.Ico 768 1024, f i) + (∑ i ∈ Finset.Ico 1024 1280, f i) + (∑ i ∈ Finset.Ico 1280 1536, f i)
    + (∑ i ∈ Finset.Ico 1536 1792, f i) + (∑ i ∈ Finset.Ico 1792 2048, f i) = ∑ i ∈ Finset.Ico 0 2048, f i := by
  rw [Finset.sum_Ico_consecutive _ (by omega) (by omega), Finset.sum_Ico_consecutive _ (by omega) (by omega), Finset.sum_Ico_consecutive _ (by omega) (by omega),
      Finset.sum_Ico_consecutive _ (by omega) (by omega), Finset.sum_Ico_consecutive _ (by omega) (by omega), Finset.sum_Ico_consecutive _ (by omega) (by omega), Finset.sum_Ico_consecutive _ (by omega) (by omega)]

theorem unm_key (M : Fin 2048 → EReal) (hA : ∀ l, A (ix3 0 0 l) = M l) (hC : ∀ l, C (ix3 0 l 0) = M l) (l : Fin 2048) :
    selUnm (F := Ideal) A C (ix2 0 l) = IntOp.cmpi .sge (BitVec.ofNat 32 (rank M l)) (BitVec.ofNat 32 1024) := by
  rw [unm_at, count_at, count_at', count_at0, count_at1, row_at]
  rw [cnt_less M hA hC 0 (by decide), cnt_less M hA hC 256 (by decide), cnt_less M hA hC 512 (by decide), cnt_less M hA hC 768 (by decide), cnt_less M hA hC 1024 (by decide),
      cnt_less M hA hC 1280 (by decide), cnt_less M hA hC 1536 (by decide), cnt_less M hA hC 1792 (by decide)]
  rw [rank_sum, ← sum8 (less M l)]
  simp only [BitVec.ofNat_add]

/-- A row stays unmerged exactly when at least half of the rows go before it. -/
theorem unm_iff (M : Fin 2048 → EReal) (hA : ∀ l, A (ix3 0 0 l) = M l) (hC : ∀ l, C (ix3 0 l 0) = M l) (l : Fin 2048) :
    Unm (F := Ideal) A C l.val ↔ 1024 ≤ rank M l := by
  have hr : rank M l < 2048 := rank_lt M l
  have key := (unm_key A C M hA hC l).trans (sge_small (lt_trans hr (by decide)) (by decide))
  have e : Unm (F := Ideal) A C l.val ↔ selUnm (F := Ideal) A C (ix2 0 l) = 1#1 := ⟨fun ⟨_, h⟩ => h, fun h => ⟨l.isLt, h⟩⟩
  rw [e, key]
  by_cases h : 1024 ≤ rank M l
  · rw [decide_eq_true h]; exact ⟨fun _ => h, fun _ => rfl⟩
  · rw [decide_eq_false h]; exact ⟨fun h' => absurd h' (by decide), fun h' => absurd h' h⟩

end Cert.Proof.Run
-- ==== Proof.KVal.lean ====
module

public import proofs.«01_k».proof.Proof.Ranks

/-! What the program leaves in its two results -/

@[expose] public noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F]

open Cert.Proof.Order

variable (m : (ℓ : Loc nD τ sig) → Buf (Elt Ideal) ℓ) (c : Dev nD)

/-- The two arguments, by batch, row and column. -/
def xs (b : Fin 4) (r : Fin 4096) (d : Fin 1024) : EReal := (m (c, main_arg0) : S4x4096x1024.Idx → EReal) (ix3 b r d)
def ks (b : Fin 4) (r : Fin 4096) (d : Fin 1024) : EReal := (m (c, main_arg1) : S4x4096x1024.Idx → EReal) (ix3 b r d)

theorem pair_even (X : S4x4096x1024.Idx → EReal) (b : Fin 4) (l : Fin 2048) (d : Fin 1024) :
    shapeCast S4x2048x2048 X shapeCasts_S4x4096x1024_S4x2048x2048 (ix3 b l ⟨d.val, by omega⟩) = X (ix3 b (evenAt l) d) := by
  pointwise
  exact congrArg X (congrArg₂ (fun r d => ix3 b r d) (Fin.ext (by show l.val * 2 + d.val / 1024 = 2 * l.val; omega)) (Fin.ext (Nat.mod_eq_of_lt d.isLt)))

theorem pair_odd (X : S4x4096x1024.Idx → EReal) (b : Fin 4) (l : Fin 2048) (d : Fin 1024) :
    shapeCast S4x2048x2048 X shapeCasts_S4x4096x1024_S4x2048x2048 (ix3 b l ⟨1024 + d.val, by omega⟩) = X (ix3 b (oddAt l) d) := by
  pointwise
  exact congrArg X (congrArg (fun r => ix3 b r d) (Fin.ext (by show l.val * 2 + (1024 + d.val) / 1024 = 2 * l.val + 1; omega)))

theorem row_of (X : S4x4096x1024.Idx → EReal) (b : Fin 4) (r : Fin 4096) (d : Fin 1024) :
    shapeCast S16384x1024 X shapeCasts_S4x4096x1024_S16384x1024 (ix2 ⟨4096 * b.val + r.val, by omega⟩ d) = X (ix3 b r d) := by
  pointwise

theorem sixty (X : S4x1024x1.Idx → BitVec 32) (b : Fin 4) (u : Fin 1024) :
    shapeCast S64x64 X shapeCasts_S4x1024x1_S64x64 (ix2 ⟨(1024 * b.val + u.val) / 64, by omega⟩ ⟨(1024 * b.val + u.val) % 64, by omega⟩) = X (ix3 b u 0) := by
  pointwise

theorem batch (X : S4096x1024.Idx → EReal) (b : Fin 4) (u d : Fin 1024) :
    shapeCast S4x1024x1024 X shapeCasts_S4096x1024_S4x1024x1024 (ix3 b u d) = X (ix2 ⟨1024 * b.val + u.val, by omega⟩ d) := by
  pointwise
  exact congrArg X (congrArg (fun r => ix2 r d) (Fin.ext (by show b.val * 1024 + u.val = 1024 * b.val + u.val; omega)))

theorem column (X : S4x1x2048.Idx → EReal) (b : Fin 4) (l : Fin 2048) :
    shapeCast S4x2048x1 X shapeCasts_S4x1x2048_S4x2048x1 (ix3 b l 0) = X (ix3 b 0 l) := by
  pointwise

theorem join1 (a : S4x1024x1024.Idx → EReal) (b : S4x2048x1024.Idx → EReal) (i : Fin 4) (r : Fin 3072) (d : Fin 1024) :
   concatenate S4x3072x1024 1 [⟨S4x1024x1024, a⟩, ⟨S4x2048x1024, b⟩] concatenates_S4x1024x1024_S4x2048x1024_S4x3072x1024_d1 (ix3 i r d)
     = if h : r.val < 1024 then a (ix3 i ⟨r.val, h⟩ d) else b (ix3 i ⟨r.val - 1024, by omega⟩ d) := by
  pointwise

def laid (e : S4x1x2048.Idx → BitVec 32) : S4x4096.Idx → BitVec 32 :=
  shapeCast S4x4096 (concatenate S4x2048x2 2 [⟨S4x2048x1, broadcastInDim S4x2048x1 ![0, 1] bcast_S4x2048_S4x2048x1_0_1
      (shapeCast S4x2048 e shapeCasts_S4x1x2048_S4x2048)⟩, ⟨S4x2048x1, broadcastInDim S4x2048x1 ![0, 1] bcast_S4x2048_S4x2048x1_0_1
      (broadcastInDim S4x2048 ![0, 1] bcast_S1x2048_S4x2048_0_1 (addi (broadcastInDim S1x2048 ![] bcast_S_S1x2048 (constantI S_ 32 1024#32))
        (broadcastInDim S1x2048 ![1] bcast_S2048_S1x2048_1 (iotaInDim S2048 32 0))))⟩] concatenates_S4x2048x1_S4x2048x1_S4x2048x2_d2) shapeCasts_S4x2048x2_S4x4096

theorem laid_at (e : S4x1x2048.Idx → BitVec 32) (b : Fin 4) (r : Fin 4096) : laid e (ix2 b r) =
    if r.val % 2 = 0 then e (ix3 b 0 ⟨r.val / 2, by omega⟩) else BitVec.ofNat 32 (1024 + r.val / 2) := by
  unfold laid
  pointwise
  by_cases h : r.val % 2 = 0
  · rw [dif_pos (by omega), if_pos h]
  · rw [dif_neg (by omega), if_neg h]
    exact (BitVec.ofNat_add 1024 (r.val / 2)).symm
theorem weigh (g e w : BitVec 32) (v : EReal) :
    FloatOps.sitofp (F := Ideal) FTy.f32 (BitVec.setWidth 32 (IntOp.andi (IntOp.cmpi CmpIPredicate.sge g 1024#32) (IntOp.cmpi CmpIPredicate.eq e w))) * v
      = if 1024 ≤ g.toInt ∧ e = w then v else 0 := by
  rw [cmpi_eq_ofBool]
  have e1 : IntOp.cmpi CmpIPredicate.sge g 1024#32 = BitVec.ofBool (decide (1024 ≤ g.toInt)) := by
    show BitVec.ofBool (decide ((1024#32).toInt ≤ g.toInt)) = _
    rw [show (1024#32).toInt = 1024 by decide]
  rw [e1]
  have h0 : FloatOps.sitofp (F := Ideal) FTy.f32 (0#32 : BitVec 32) = (0 : EReal) := by
    show ((((0#32 : BitVec 32).toInt : ℝ)) : EReal) = 0
    simp
  have h1 : FloatOps.sitofp (F := Ideal) FTy.f32 (1#32 : BitVec 32) = (1 : EReal) := by
    show ((((1#32 : BitVec 32).toInt : ℝ)) : EReal) = 1
    simp
  by_cases p : 1024 ≤ g.toInt
  · by_cases q : e = w
    · rw [if_pos ⟨p, q⟩, decide_eq_true p, decide_eq_true q]
      exact (congrArg (· * v) h1).trans (one_mul v)
    · rw [if_neg (fun h => q h.2), decide_eq_true p, decide_eq_false q]
      exact (congrArg (· * v) h0).trans (zero_mul v)
  · by_cases q : e = w
    · rw [if_neg (fun h => p h.1), decide_eq_false p, decide_eq_true q]
      exact (congrArg (· * v) h0).trans (zero_mul v)
    · rw [if_neg (fun h => p h.1), decide_eq_false p, decide_eq_false q]
      exact (congrArg (· * v) h0).trans (zero_mul v)

theorem k3pay1_at (i : grid3.Coords) (v0 : Vec Ideal S1x1x2048 .i32) (v2 : Vec Ideal S1x1x2048 .i32) (v18 : Vec Ideal S1x2048x1024 .f32) (v24 : Vec Ideal S1x512x1024 .f32) (r : Fin 512) (d : Fin 1024) :
  k3_pay1 i v0 v2 v18 v24 (ix3 0 r d) = v24 (ix3 0 r d) + ∑ x, if 1024 ≤ (v2 (ix3 0 0 x) : BitVec 32).toInt ∧ v0 (ix3 0 0 x) = BitVec.ofNat 32 (512 * (i 1).val + r.val) then v18 (ix3 0 x d) else 0 := by
  unfold k3_pay1
  pointwise
  refine congrArg (v24 (ix3 0 r d) + ·) (Finset.sum_congr rfl fun x _ => ?_)
  rw [placed r.val (i 1).val 512]
  exact weigh _ _ _ _

/-! ## Scores by the arguments -/

set_option maxHeartbeats 400000 in
theorem V1_v0 : V1 m c main_v0 = shapeCast S4x2048x2048 (m (c, main_arg1) : S4x4096x1024.Idx → EReal) shapeCasts_S4x4096x1024_S4x2048x2048 := by
  show StableHlo.after opsA (V0 m c) main_v0 = _
  unfold opsA
  after_results_simp
  rfl
set_option maxHeartbeats 400000 in
theorem V1_v1 : V1 m c main_v1 = shapeCast S4x2048x2048 (m (c, main_arg0) : S4x4096x1024.Idx → EReal) shapeCasts_S4x4096x1024_S4x2048x2048 := by
  show StableHlo.after opsA (V0 m c) main_v1 = _
  unfold opsA
  after_results_simp
  rfl
set_option maxHeartbeats 400000 in
theorem V1_v2 : V1 m c main_v2 = shapeCast S16384x1024 (m (c, main_arg0) : S4x4096x1024.Idx → EReal) shapeCasts_S4x4096x1024_S16384x1024 := by
  show StableHlo.after opsA (V0 m c) main_v2 = _
  unfold opsA
  after_results_simp
  rfl

theorem score_sc (b : Fin 4) (l : Fin 2048) : score (V1 m c main_v0) b l = Order.sc (ks m c) b l := by
  funext q
  rw [V1_v0]
  unfold score Order.sc
  split_ifs with h
  · rfl
  · refine Finset.sum_congr rfl fun d _ => ?_
    have e0 : evenRow (shapeCast S4x2048x2048 (m (c, main_arg1) : S4x4096x1024.Idx → EReal) shapeCasts_S4x4096x1024_S4x2048x2048) b l = ks m c b (evenAt l) :=
      funext fun x => pair_even _ b l x
    have e1 : oddRow (shapeCast S4x2048x2048 (m (c, main_arg1) : S4x4096x1024.Idx → EReal) shapeCasts_S4x4096x1024_S4x2048x2048) b q = ks m c b (oddAt q) :=
      funext fun x => pair_odd _ b q x
    rw [e0, e1]

theorem R1_v30 : R1 m c main_v3_0 = fun i : S4x1x2048.Idx => mx (ks m c) (i 0) (i 2) := by
  rw [v3_0_eq]
  exact funext fun i => congrArg bestV (score_sc m c (i 0) (i 2))
theorem R1_v31 : R1 m c main_v3_1 = fun i : S4x1x2048.Idx => BitVec.ofNat 32 (Order.place (Order.sc (ks m c) (i 0) (i 2))).val := by
  rw [v3_1_eq]
  exact funext fun i => (congrArg bestI (score_sc m c (i 0) (i 2))).trans (bestI_eq _)

/-! ## Selection -/

theorem V2_v30 : V2 m c main_v3_0 = R1 m c main_v3_0 := offB _ (by decide)
theorem V2_v31 : V2 m c main_v3_1 = R1 m c main_v3_1 := offB _ (by decide)
set_option maxHeartbeats 400000 in
theorem V2_v4 : V2 m c main_v4 = shapeCast S4x2048x1 (R1 m c main_v3_0 : S4x1x2048.Idx → EReal) shapeCasts_S4x1x2048_S4x2048x1 := by
  show StableHlo.after opsB (R1 m c) main_v4 = _
  unfold opsB
  after_results_simp
  rfl

theorem coords1 : ∀ t : Fin cfg1.N, (grid1.coords t 0).val = t.val := by decide
theorem index1_0 : ∀ t : Fin cfg1.N, win1_0.index t = ![(grid1.coords t 0).val, 0, 0] := by decide +kernel
theorem index1_1 : ∀ t : Fin cfg1.N, win1_1.index t = ![(grid1.coords t 0).val, 0, 0] := by decide +kernel
theorem index1_2 : ∀ t : Fin cfg1.N, win1_2.index t = ![(grid1.coords t 0).val, 0, 0] := by decide +kernel
theorem index1_3 : ∀ t : Fin cfg1.N, win1_3.index t = ![(grid1.coords t 0).val, 0, 0] := by decide +kernel
theorem index1_4 : ∀ t : Fin cfg1.N, win1_4.index t = ![(grid1.coords t 0).val, 0, 0] := by decide +kernel

theorem lBlk0_at (t : Fin cfg1.N) (b : Fin 4) (hb : b.val = t.val) (l : Fin 2048) : lBlk0 (V2 m) c t (ix3 0 0 l) = mx (ks m c) b l := by
  have e : lBlk0 (V2 m) c t (ix3 0 0 l) = (V2 m c main_v3_0 : S4x1x2048.Idx → EReal) (ix3 b 0 l) := by
    show V2 m c main_v3_0 _ = V2 m c main_v3_0 _
    congr 1
    blk_ext [index1_0 t, coords1 t]
  rw [e, V2_v30, R1_v30]
  rfl
theorem lBlk1_at (t : Fin cfg1.N) (b : Fin 4) (hb : b.val = t.val) (l : Fin 2048) : lBlk1 (V2 m) c t (ix3 0 l 0) = mx (ks m c) b l := by
  have e : lBlk1 (V2 m) c t (ix3 0 l 0) = (V2 m c main_v4 : S4x2048x1.Idx → EReal) (ix3 b l 0) := by
    show V2 m c main_v4 _ = V2 m c main_v4 _
    congr 1
    blk_ext [index1_1 t, coords1 t]
  rw [e, V2_v4, column, R1_v30]
  rfl
theorem lBlk2_at (t : Fin cfg1.N) (b : Fin 4) (hb : b.val = t.val) (l : Fin 2048) :
    lBlk2 (V2 m) c t (ix3 0 0 l) = BitVec.ofNat 32 (Order.place (Order.sc (ks m c) b l)).val := by
  have e : lBlk2 (V2 m) c t (ix3 0 0 l) = (V2 m c main_v3_1 : S4x1x2048.Idx → BitVec 32) (ix3 b 0 l) := by
    show V2 m c main_v3_1 _ = V2 m c main_v3_1 _
    congr 1
    blk_ext [index1_2 t, coords1 t]
  rw [e, V2_v31, R1_v31]
  rfl

theorem unm_keep (t : Fin cfg1.N) (b : Fin 4) (hb : b.val = t.val) (n : ℕ) :
    Unm (F := Ideal) (lBlk0 (V2 m) c t) (lBlk1 (V2 m) c t) n ↔ Keep (mx (ks m c) b) n := by
  by_cases h : n < 2048
  · have h1 := unm_iff (lBlk0 (V2 m) c t) (lBlk1 (V2 m) c t) (mx (ks m c) b) (lBlk0_at m c t b hb) (lBlk1_at m c t b hb) ⟨n, h⟩
    exact h1.trans (keep_iff (mx (ks m c) b) ⟨n, h⟩).symm
  · exact ⟨fun ⟨h', _⟩ => absurd h' h, fun ⟨h', _⟩ => absurd h' h⟩

theorem idx3_mid (y : S1x1x2048.Idx) : ∃ l : Fin 2048, y = ix3 0 0 l := ⟨y 2, by
    funext a
    fin_cases a
    · exact Fin.ext (Nat.lt_one_iff.1 (y 0).isLt)
    · exact Fin.ext (Nat.lt_one_iff.1 (y 1).isLt)
    · rfl⟩

theorem evens_goes (t : Fin cfg1.N) (b : Fin 4) (hb : b.val = t.val) (l : Fin 2048) :
    selEvens (lBlk0 (V2 m) c t) (lBlk1 (V2 m) c t) (lBlk2 (V2 m) c t) (ix3 0 0 l) = goes (ks m c) b l := by
  rw [evens_at]
  unfold goes
  by_cases h : Keep (mx (ks m c) b) l.val
  · rw [if_pos ((unm_keep m c t b hb l.val).2 h), if_pos h]
    exact congrArg _ (count_congr (unm_keep m c t b hb) _)
  · rw [if_neg (fun h' => h ((unm_keep m c t b hb l.val).1 h')), if_neg h, lBlk2_at m c t b hb]
    exact (BitVec.ofNat_add _ _).symm

/-- The table row of the `u`-th unmerged token. -/
def rowFor (k : Fin 4 → Fin 4096 → Fin 1024 → EReal) (b : Fin 4) (u : Fin 1024) : BitVec 32 :=
  BitVec.ofNat 32 (4096 * b.val + (evenAt (src (mx k b) u)).val)

theorem gather_src (t : Fin cfg1.N) (b : Fin 4) (hb : b.val = t.val) (u : Fin 1024) :
    selGather (F := Ideal) (lBlk0 (V2 m) c t) (lBlk1 (V2 m) c t) (grid1.coords t) (ix3 0 u 0)
      = rowFor (ks m c) b u := by
  rw [gather_of _ _ _ u (src (mx (ks m c) b) u) ((unm_keep m c t b hb _).2 ((keep_src _ _).2 ⟨u, rfl⟩))
    ((count_congr (unm_keep m c t b hb) _).trans (count_src _ u)), coords1 t, ← hb]
  rfl

set_option maxHeartbeats 400000 in
theorem R2_v50 : R2 m c main_v5_0 = fun i : S4x1x2048.Idx => goes (ks m c) (i 0) (i 2) := by
  rw [R2_src]
  refine (dat1 (V2 m) c).arrAt_eq_of_covers 3 _ (by decide +kernel) fun t hf y => ?_
  blk_simp
  rw [after1_3]
  obtain ⟨l, rfl⟩ := idx3_mid y
  refine (evens_goes m c t ⟨t.val, t.isLt⟩ rfl l).trans ?_
  refine congrArg₂ (goes (ks m c)) (Fin.ext ?_) (Fin.ext ?_)
  · blk_simp [index1_3 t, coords1 t]
    exact (Nat.add_zero _).symm
  · blk_simp [index1_3 t, coords1 t]

set_option maxHeartbeats 400000 in
theorem R2_v51 : R2 m c main_v5_1 = fun i : S4x1024x1.Idx => rowFor (ks m c) (i 0) (i 1) := by
  rw [R2_num]
  refine (dat1 (V2 m) c).arrAt_eq_of_covers 4 _ (by decide +kernel) fun t hf y => ?_
  blk_simp
  rw [after1_4]
  obtain ⟨u, rfl⟩ : ∃ u : Fin 1024, y = ix3 0 u 0 := ⟨y 1, by
    funext a; fin_cases a
    · exact Subsingleton.elim (α := Fin 1) _ _
    · rfl
    · exact Subsingleton.elim (α := Fin 1) _ _⟩
  refine (gather_src m c t ⟨t.val, t.isLt⟩ rfl u).trans ?_
  refine congrArg₂ (rowFor (ks m c)) (Fin.ext ?_) (Fin.ext ?_)
  · blk_simp [index1_4 t, coords1 t]
    exact (Nat.add_zero _).symm
  · blk_simp [index1_4 t, coords1 t]

/-! ## Gathered rows -/

theorem V3_v2 : V3 m c main_v2 = V1 m c main_v2 :=
  (offC _ (by decide)).trans ((R2_of_ne m c (by decide) (by decide)).trans ((offB _ (by decide)).trans (R1_of_ne m c (by decide) (by decide))))

theorem V4_v7_at (b : Fin 4) (u d : Fin 1024) :
    (V4 m c main_v7 : S4096x1024.Idx → EReal) (ix2 ⟨1024 * b.val + u.val, by omega⟩ d) = xs m c b (evenAt (src (mx (ks m c) b) u)) d := by
  rw [V4_rows]
  have eX : (ins m).X c = shapeCast S16384x1024 (m (c, main_arg0) : S4x4096x1024.Idx → EReal) shapeCasts_S4x4096x1024_S16384x1024 :=
    (V3_v2 m c).trans (V1_v2 m c)
  have eG : (ins m).G c (ix2 ⟨(1024 * b.val + u.val) / 64, by omega⟩ ⟨(1024 * b.val + u.val) % 64, by omega⟩) = rowFor (ks m c) b u := by
    rw [ins_G, sixty, R2_v51]; rfl
  show (ins m).X c (ix2 (rowNo ((ins m).G c (ix2 ⟨(1024 * b.val + u.val) / 64, _⟩ ⟨(1024 * b.val + u.val) % 64, _⟩))) d) = _
  rw [eG, eX]
  have er : rowNo (rowFor (ks m c) b u) = ⟨4096 * b.val + (evenAt (src (mx (ks m c) b) u)).val, by omega⟩ := by
    apply Fin.ext
    show (BitVec.ofNat 32 _).toNat % 16384 = _
    rw [BitVec.toNat_ofNat]
    have := (evenAt (src (mx (ks m c) b) u)).isLt
    have := b.isLt
    dsimp only
    omega
  rw [er, row_of]
  rfl

set_option maxHeartbeats 400000 in
theorem V5_v8 : V5 m c main_v8 = shapeCast S4x1024x1024 (V4 m c main_v7 : S4096x1024.Idx → EReal) shapeCasts_S4096x1024_S4x1024x1024 := by
  show StableHlo.after opsD (V4 m c) main_v8 = _
  unfold opsD
  after_results_simp
  rfl

theorem R5_v8_at (b : Fin 4) (u d : Fin 1024) : (R5 m c main_v8 : S4x1024x1024.Idx → EReal) (ix3 b u d) = xs m c b (evenAt (src (mx (ks m c) b) u)) d := by
  rw [R5_of_ne m c (by decide), V5_v8, batch]
  exact V4_v7_at m c b u d

/-! ## Merged rows -/

theorem V5_v1 : V5 m c main_v1 = V1 m c main_v1 :=
  (offD _ (by decide)).trans ((V4_of_ne m c (by decide)).trans ((offC _ (by decide)).trans ((R2_of_ne m c (by decide) (by decide)).trans
    ((offB _ (by decide)).trans (R1_of_ne m c (by decide) (by decide))))))
theorem V5_v31 : V5 m c main_v3_1 = R1 m c main_v3_1 :=
  (offD _ (by decide)).trans ((V4_of_ne m c (by decide)).trans ((offC _ (by decide)).trans ((R2_of_ne m c (by decide) (by decide)).trans (offB _ (by decide)))))
theorem V5_v50 : V5 m c main_v5_0 = R2 m c main_v5_0 := (offD _ (by decide)).trans ((V4_of_ne m c (by decide)).trans (offC _ (by decide)))

theorem coords3 : ∀ t : Fin cfg3.N, (grid3.coords t 0).val = t.val / 4 ∧ (grid3.coords t 1).val = t.val % 4 := by decide
theorem coords3_0 (t : Fin cfg3.N) : (grid3.coords t 0).val = t.val / 4 := (coords3 t).1
theorem coords3_1 (t : Fin cfg3.N) : (grid3.coords t 1).val = t.val % 4 := (coords3 t).2
theorem index3_0 : ∀ t : Fin cfg3.N, win3_0.index t = ![(grid3.coords t 0).val, 0, 0] := by decide +kernel
theorem index3_1 : ∀ t : Fin cfg3.N, win3_1.index t = ![(grid3.coords t 0).val, 0, 0] := by decide +kernel
theorem index3_2 : ∀ t : Fin cfg3.N, win3_2.index t = ![(grid3.coords t 0).val, 0, 0] := by decide +kernel
theorem index3_3 : ∀ t : Fin cfg3.N, win3_3.index t = ![(grid3.coords t 0).val, (grid3.coords t 1).val, 0] := by decide +kernel

theorem dBlk0_at (t : Fin cfg3.N) (b : Fin 4) (hb : b.val = t.val / 4) (l x : Fin 2048) :
    dBlk0 (V5 m) c t (ix3 0 l x) = (V1 m c main_v1 : S4x2048x2048.Idx → EReal) (ix3 b l x) := by
  have e : dBlk0 (V5 m) c t (ix3 0 l x) = (V5 m c main_v1 : S4x2048x2048.Idx → EReal) (ix3 b l x) := by
    show V5 m c main_v1 _ = V5 m c main_v1 _
    congr 1
    blk_ext [index3_0 t, coords3_0 t]
  rw [e, V5_v1]
theorem dBlk1_at (t : Fin cfg3.N) (b : Fin 4) (hb : b.val = t.val / 4) (l : Fin 2048) :
    dBlk1 (V5 m) c t (ix3 0 0 l) = BitVec.ofNat 32 (Order.place (Order.sc (ks m c) b l)).val := by
  have e : dBlk1 (V5 m) c t (ix3 0 0 l) = (V5 m c main_v3_1 : S4x1x2048.Idx → BitVec 32) (ix3 b 0 l) := by
    show V5 m c main_v3_1 _ = V5 m c main_v3_1 _
    congr 1
    blk_ext [index3_1 t, coords3_0 t]
  rw [e, V5_v31, R1_v31]
  rfl
theorem dBlk2_at (t : Fin cfg3.N) (b : Fin 4) (hb : b.val = t.val / 4) (l : Fin 2048) :
    dBlk2 (V5 m) c t (ix3 0 0 l) = goes (ks m c) b l := by
  have e : dBlk2 (V5 m) c t (ix3 0 0 l) = (V5 m c main_v5_0 : S4x1x2048.Idx → BitVec 32) (ix3 b 0 l) := by
    show V5 m c main_v5_0 _ = V5 m c main_v5_0 _
    congr 1
    blk_ext [index3_2 t, coords3_0 t]
  rw [e, V5_v50, R2_v50]
  rfl

theorem goes_ge (k : Fin 4 → Fin 4096 → Fin 1024 → EReal) (b : Fin 4) (l : Fin 2048) : 1024 ≤ (goes k b l).toInt ↔ ¬ Keep (mx k b) l.val := by
  unfold goes
  split_ifs with h
  · have := count_keep _ h
    rw [toInt_ofNat (by omega)]
    exact ⟨fun h' => by omega, fun h' => absurd h h'⟩
  · have := (Order.place (Order.sc k b l)).isLt
    rw [toInt_ofNat (by omega)]
    exact ⟨fun _ => h, fun _ => by omega⟩

theorem ofNat_place (p : Fin 2048) (n : ℕ) (hn : n < 2048) : BitVec.ofNat 32 p.val = BitVec.ofNat 32 n ↔ p.val = n := by
  refine ⟨fun h => ?_, fun h => by rw [h]⟩
  have := congrArg BitVec.toNat h
  have hp := p.isLt
  rw [BitVec.toNat_ofNat, BitVec.toNat_ofNat] at this
  omega

/-- A merged row: the odd row, and the merged even rows sent to it. -/
def mixed (x k : Fin 4 → Fin 4096 → Fin 1024 → EReal) (b : Fin 4) (j : Fin 2048) (d : Fin 1024) : EReal :=
  x b (oddAt j) d + ∑ l : Fin 2048, if ¬ Keep (mx k b) l.val ∧ (Order.place (Order.sc k b l)).val = j.val then x b (evenAt l) d else 0

theorem dst_at (t : Fin cfg3.N) (b : Fin 4) (hb : b.val = t.val / 4) (r : Fin 512) (d : Fin 1024) (j : Fin 2048) (hj : j.val = 512 * (t.val % 4) + r.val) :
    dstBlock (V5 m) c t (ix3 0 r d) = mixed (xs m c) (ks m c) b j d := by
  unfold dstBlock mixed
  rw [partRow, partRow, k3pay1_at]
  have e24 : part (s := S1x2048x2048) (k3_off1 (grid3.coords t)) S1x512x1024.size (k3_off1_inb (grid3.coords t)) (dBlk0 (V5 m) c t) (ix3 0 r d)
      = dBlk0 (V5 m) c t (ix3 0 j ⟨1024 + d.val, by omega⟩) := by
    refine part_emb _ _ fun a => ?_
    fin_cases a
    · exact (Nat.zero_add _).symm
    · show j.val = (BitVec.ofNat 32 (grid3.coords t 1).val * 512#32).toNat + r.val
      rw [coords3_1 t, hj, ← BitVec.ofNat_mul, BitVec.toNat_ofNat]
      omega
    · rfl
  have e18 : ∀ l : Fin 2048, part (s := S1x2048x2048) ![0, 0, 0] S1x2048x1024.size inb_S1x2048x2048_S1x2048x1024_0_0_0 (dBlk0 (V5 m) c t) (ix3 0 l d)
      = dBlk0 (V5 m) c t (ix3 0 l ⟨d.val, by omega⟩) := fun l => by
    refine part_emb _ _ fun a => ?_
    fin_cases a <;> exact (Nat.zero_add _).symm
  refine congrArg₂ (· + ·) ?_ (Finset.sum_congr rfl fun l _ => ?_)
  · refine e24.trans ?_
    rw [dBlk0_at m c t b hb, V1_v1, pair_odd]
    rfl
  · have ev : part (s := S1x2048x2048) ![0, 0, 0] S1x2048x1024.size inb_S1x2048x2048_S1x2048x1024_0_0_0 (dBlk0 (V5 m) c t) (ix3 0 l d)
        = xs m c b (evenAt l) d := by
      refine (e18 l).trans ?_
      rw [dBlk0_at m c t b hb, V1_v1, pair_even]
      rfl
    rw [dBlk1_at m c t b hb, dBlk2_at m c t b hb, coords3_1 t, ← hj]
    exact if_congr (and_congr (goes_ge _ b l) (ofNat_place _ _ j.isLt)) ev rfl

theorem after3_3 (t : Fin cfg3.N) : (dat3 (V5 m) c).after 3 t = dstBlock (V5 m) c t := by dsimp only [dat3]

set_option maxHeartbeats 400000 in
theorem R5_v9 : R5 m c main_v9 = fun i : S4x2048x1024.Idx => mixed (xs m c) (ks m c) (i 0) (i 1) (i 2) := by
  rw [R5_dst]
  refine (dat3 (V5 m) c).arrAt_eq_of_covers 3 _ (by decide +kernel) fun t hf y => ?_
  blk_simp
  rw [after3_3]
  obtain ⟨r, d, rfl⟩ : ∃ (r : Fin 512) (d : Fin 1024), y = ix3 0 r d := ⟨y 1, y 2, by
    funext a; fin_cases a
    · exact Subsingleton.elim (α := Fin 1) _ _
    · rfl
    · rfl⟩
  have ht : t.val < 16 := t.isLt
  refine (dst_at m c t ⟨t.val / 4, by omega⟩ rfl r d ⟨512 * (t.val % 4) + r.val, by omega⟩ rfl).trans ?_
  have e0 : ∀ (b b' : Fin 4) (j j' : Fin 2048) (d d' : Fin 1024), b = b' → j = j' → d = d' →
    mixed (xs m c) (ks m c) b j d = mixed (xs m c) (ks m c) b' j' d' := by rintro _ _ _ _ _ _ rfl rfl rfl; rfl
  refine e0 _ _ _ _ _ _ (Fin.ext ?_) (Fin.ext ?_) (Fin.ext ?_)
  · blk_simp [index3_3 t, coords3_0 t]
    exact (Nat.add_zero _).symm
  · blk_simp [index3_3 t, coords3_1 t]
    exact congrArg (· + r.val) (Nat.mul_comm _ _)
  · blk_simp [index3_3 t, coords3_1 t]

/-! ## The results -/

set_option maxHeartbeats 400000 in
theorem V6_v10 : V6 m c main_v10 = concatenate S4x3072x1024 1 [⟨S4x1024x1024, (R5 m c main_v8 : S4x1024x1024.Idx → EReal)⟩,
    ⟨S4x2048x1024, (R5 m c main_v9 : S4x2048x1024.Idx → EReal)⟩] concatenates_S4x1024x1024_S4x2048x1024_S4x3072x1024_d1 := by
  show StableHlo.after opsE (R5 m c) main_v10 = _
  unfold opsE
  after_results_simp

set_option maxHeartbeats 400000 in
theorem V6_v20 : V6 m c main_v20 = laid (R5 m c main_v5_0) := by
  show StableHlo.after opsE (R5 m c) main_v20 = _
  unfold opsE
  after_results_simp
  rfl

theorem result1 (b : Fin 4) (r : Fin 3072) (d : Fin 1024) : (V6 m c main_v10 : S4x3072x1024.Idx → EReal) (ix3 b r d) = out1 (xs m c) (ks m c) b r d := by
  rw [V6_v10, join1]
  unfold out1
  split_ifs with h
  · exact R5_v8_at m c b _ d
  · rw [R5_v9]; rfl

theorem result2 (b : Fin 4) (r : Fin 4096) : (V6 m c main_v20 : S4x4096.Idx → BitVec 32) (ix2 b r) = out2 (ks m c) b r := by
  rw [V6_v20, laid_at]
  unfold out2
  have e : R5 m c main_v5_0 = R2 m c main_v5_0 := (R5_of_ne m c (by decide)).trans (V5_v50 m c)
  rw [e, R2_v50]
  rfl

end Cert.Proof.Run
-- ==== Proof.RefOnce.lean ====
module

public import proofs.«01_k».proof.Proof.RefRun
/-! Each buffer of the reference as its operation of the buffers it reads: no buffer is written twice. -/

@[expose] public noncomputable section

namespace Cert.Proof.Ref

open Cert.ReferenceIdeal Cert.ReferenceIdeal.Gen
open Idealize.ShloMosaic Idealize.ShloMosaic.StableHlo
open Idealize.SL Idealize.SL.Sem

variable {F : FTy → Type} [FloatOps F]

set_option maxRecDepth 8000

section Once
variable {W : List (Ref sig .tc)} {ops : List (HloOp τ sig (Elt F))}

theorem once (hW : ops.map HloOp.writes = W.map fun b => {Proc.devRef (τ := τ) .tc b}) (V : Valuation τ sig (Elt F))
    (i : ℕ) {op : HloOp τ sig (Elt F)} {y : Ref sig .tc} (ho : ops[i]? = some op) (hy : y ∉ W.drop (i + 1)) :
    after ops V (Proc.devRef .tc y) = op.result (upto ops V i) (Proc.devRef .tc y) := by
  obtain ⟨hi, ho⟩ := List.getElem?_eq_some_iff.1 ho
  refine after_last_write (rest := ops.drop (i + 1)) (W.drop (i + 1)) ?_ ?_ hy V
  · rw [List.drop_eq_getElem_cons hi, ho]
  · rw [List.map_drop, hW, List.map_drop]

theorem after_split (l₁ l₂ : List (HloOp τ sig (Elt F))) (V : Valuation τ sig (Elt F)) :
    after (l₁ ++ l₂) V = after l₂ (after l₁ V) := by
  induction l₁ generalizing V with
  | nil => rfl
  | cons op l ih => exact ih _

theorem kept (hW : ops.map HloOp.writes = W.map fun b => {Proc.devRef (τ := τ) .tc b}) (V : Valuation τ sig (Elt F))
    (i : ℕ) {x : Ref sig .tc} (hx : x ∉ W.drop i) :
    upto ops V i (Proc.devRef .tc x) = after ops V (Proc.devRef .tc x) := by
  have h := after_split (ops.take i) (ops.drop i) V
  rw [List.take_append_drop] at h
  rw [h]
  exact (after_unwritten (W.drop i) (by rw [List.map_drop, hW, List.map_drop]) hx _).symm

end Once

section Arity
variable {W : List (Ref sig .tc)} {ops : List (HloOp τ sig (Elt F))}
  (hW : ops.map HloOp.writes = W.map fun b => {Proc.devRef (τ := τ) .tc b}) (V : Valuation τ sig (Elt F)) (i : ℕ)
include hW

theorem once0 {y : Ref sig .tc} {v : y.ty.Contents (Elt F)} {hy} (ho : ops[i]? = some (nullary y v hy))
    (ny : y ∉ W.drop (i + 1)) : after ops V (Proc.devRef .tc y) = v := by
  rw [once hW V i ho ny, nullary_result']

theorem once1 {x y : Ref sig .tc} {f : x.ty.Contents (Elt F) → y.ty.Contents (Elt F)} {hx hy}
    (ho : ops[i]? = some (unary x y f hx hy)) (ny : y ∉ W.drop (i + 1)) (nx : x ∉ W.drop i) :
    after ops V (Proc.devRef .tc y) = f (after ops V (Proc.devRef .tc x)) := by
  rw [once hW V i ho ny, unary_result', kept hW V i nx]

theorem once2 {a b y : Ref sig .tc} {f : a.ty.Contents (Elt F) → b.ty.Contents (Elt F) → y.ty.Contents (Elt F)} {ha hb hy}
    (ho : ops[i]? = some (binary a b y f ha hb hy)) (ny : y ∉ W.drop (i + 1)) (na : a ∉ W.drop i) (nb : b ∉ W.drop i) :
    after ops V (Proc.devRef .tc y) = f (after ops V (Proc.devRef .tc a)) (after ops V (Proc.devRef .tc b)) := by
  rw [once hW V i ho ny, binary_result', kept hW V i na, kept hW V i nb]

theorem once3 {c a b y : Ref sig .tc}
    {f : c.ty.Contents (Elt F) → a.ty.Contents (Elt F) → b.ty.Contents (Elt F) → y.ty.Contents (Elt F)} {hc ha hb hy}
    (ho : ops[i]? = some (ternary c a b y f hc ha hb hy)) (ny : y ∉ W.drop (i + 1)) (nc : c ∉ W.drop i)
    (na : a ∉ W.drop i) (nb : b ∉ W.drop i) :
    after ops V (Proc.devRef .tc y)
      = f (after ops V (Proc.devRef .tc c)) (after ops V (Proc.devRef .tc a)) (after ops V (Proc.devRef .tc b)) := by
  rw [once hW V i ho ny, ternary_result', kept hW V i nc, kept hW V i na, kept hW V i nb]

theorem once4 {a b c d y : Ref sig .tc}
    {f : a.ty.Contents (Elt F) → b.ty.Contents (Elt F) → c.ty.Contents (Elt F) → d.ty.Contents (Elt F) → y.ty.Contents (Elt F)}
    {ha hb hc hd hy} (ho : ops[i]? = some (quaternary a b c d y f ha hb hc hd hy)) (ny : y ∉ W.drop (i + 1))
    (na : a ∉ W.drop i) (nb : b ∉ W.drop i) (nc : c ∉ W.drop i) (nd : d ∉ W.drop i) :
    after ops V (Proc.devRef .tc y) = f (after ops V (Proc.devRef .tc a)) (after ops V (Proc.devRef .tc b))
      (after ops V (Proc.devRef .tc c)) (after ops V (Proc.devRef .tc d)) := by
  rw [once hW V i ho ny, quaternary_result', kept hW V i na, kept hW V i nb, kept hW V i nc, kept hW V i nd]

theorem onceR {x y : Ref sig .tc} {he hn hx hy} (ho : ops[i]? = some (reshape x y he hn hx hy))
    (ny : y ∉ W.drop (i + 1)) (nx : x ∉ W.drop i) :
    after ops V (Proc.devRef .tc y) = fun k => he ▸ shapeCast y.ty.shape (after ops V (Proc.devRef .tc x)) hn k := by
  rw [once hW V i ho ny, reshape_result', kept hW V i nx]

end Arity

variable (m : (ℓ : Loc nD τ sig) → Buf (Elt F) ℓ) (c : Dev nD)

end Cert.Proof.Ref
-- ==== Proof.RefEq0.lean ====
module

public import proofs.«01_k».proof.Proof.RefOnce
/-! The equations of part 0. -/

@[expose] public noncomputable section

namespace Cert.Proof.Ref

open Cert.ReferenceIdeal Cert.ReferenceIdeal.Gen
open Idealize.ShloMosaic Idealize.ShloMosaic.StableHlo
open Idealize.SL Idealize.SL.Sem

variable {F : FTy → Type} [FloatOps F]

set_option maxRecDepth 8000

variable (m : (ℓ : Loc nD τ sig) → Buf (Elt F) ℓ) (c : Dev nD)

theorem e_v0 : fin m c main_v0 = (iotaInDim S2048 32 0) :=
  once0 wrote_eq (launchContents m c) 0 rfl (by decide +kernel)

theorem e_c : fin m c main_c = (constantI S_ 32 2#32) :=
  once0 wrote_eq (launchContents m c) 1 rfl (by decide +kernel)

theorem e_v1 : fin m c main_v1 = (broadcastInDim S2048 ![] bcast_S_S2048 : (⟨S_, .i32⟩ : BufTy).Contents (Elt F) → (⟨S2048, .i32⟩ : BufTy).Contents (Elt F)) (fin m c main_c) :=
  once1 wrote_eq (launchContents m c) 2 rfl (by decide +kernel) (by decide +kernel)

theorem e_v2 : fin m c main_v2 = (muli : (⟨S2048, .i32⟩ : BufTy).Contents (Elt F) → (⟨S2048, .i32⟩ : BufTy).Contents (Elt F) → (⟨S2048, .i32⟩ : BufTy).Contents (Elt F)) (fin m c main_v1) (fin m c main_v0) :=
  once2 wrote_eq (launchContents m c) 3 rfl (by decide +kernel) (by decide +kernel) (by decide +kernel)

theorem e_c_0 : fin m c main_c_0 = (constantI S_ 32 0#32) :=
  once0 wrote_eq (launchContents m c) 4 rfl (by decide +kernel)

theorem e_v3 : fin m c main_v3 = (broadcastInDim S2048 ![] bcast_S_S2048 : (⟨S_, .i32⟩ : BufTy).Contents (Elt F) → (⟨S2048, .i32⟩ : BufTy).Contents (Elt F)) (fin m c main_c_0) :=
  once1 wrote_eq (launchContents m c) 5 rfl (by decide +kernel) (by decide +kernel)

theorem e_v4 : fin m c main_v4 = (addi : (⟨S2048, .i32⟩ : BufTy).Contents (Elt F) → (⟨S2048, .i32⟩ : BufTy).Contents (Elt F) → (⟨S2048, .i32⟩ : BufTy).Contents (Elt F)) (fin m c main_v3) (fin m c main_v2) :=
  once2 wrote_eq (launchContents m c) 6 rfl (by decide +kernel) (by decide +kernel) (by decide +kernel)

theorem e_v5 : fin m c main_v5 = (iotaInDim S2048 32 0) :=
  once0 wrote_eq (launchContents m c) 7 rfl (by decide +kernel)

theorem e_c_1 : fin m c main_c_1 = (constantI S_ 32 2#32) :=
  once0 wrote_eq (launchContents m c) 8 rfl (by decide +kernel)

theorem e_v6 : fin m c main_v6 = (broadcastInDim S2048 ![] bcast_S_S2048 : (⟨S_, .i32⟩ : BufTy).Contents (Elt F) → (⟨S2048, .i32⟩ : BufTy).Contents (Elt F)) (fin m c main_c_1) :=
  once1 wrote_eq (launchContents m c) 9 rfl (by decide +kernel) (by decide +kernel)

theorem e_v7 : fin m c main_v7 = (muli : (⟨S2048, .i32⟩ : BufTy).Contents (Elt F) → (⟨S2048, .i32⟩ : BufTy).Contents (Elt F) → (⟨S2048, .i32⟩ : BufTy).Contents (Elt F)) (fin m c main_v6) (fin m c main_v5) :=
  once2 wrote_eq (launchContents m c) 10 rfl (by decide +kernel) (by decide +kernel) (by decide +kernel)

theorem e_c_2 : fin m c main_c_2 = (constantI S_ 32 1#32) :=
  once0 wrote_eq (launchContents m c) 11 rfl (by decide +kernel)

theorem e_v8 : fin m c main_v8 = (broadcastInDim S2048 ![] bcast_S_S2048 : (⟨S_, .i32⟩ : BufTy).Contents (Elt F) → (⟨S2048, .i32⟩ : BufTy).Contents (Elt F)) (fin m c main_c_2) :=
  once1 wrote_eq (launchContents m c) 12 rfl (by decide +kernel) (by decide +kernel)

theorem e_v9 : fin m c main_v9 = (addi : (⟨S2048, .i32⟩ : BufTy).Contents (Elt F) → (⟨S2048, .i32⟩ : BufTy).Contents (Elt F) → (⟨S2048, .i32⟩ : BufTy).Contents (Elt F)) (fin m c main_v8) (fin m c main_v7) :=
  once2 wrote_eq (launchContents m c) 13 rfl (by decide +kernel) (by decide +kernel) (by decide +kernel)

theorem e_v10 : fin m c main_v10 = ((Host.slice S4x2048x1024 ![0, 0, 0] ![1, 2, 1] · slicesBy_S4x4096x1024_S4x2048x1024_0s1_0s2_0s1) : (⟨S4x4096x1024, .f32⟩ : BufTy).Contents (Elt F) → (⟨S4x2048x1024, .f32⟩ : BufTy).Contents (Elt F)) (fin m c main_arg1) :=
  once1 wrote_eq (launchContents m c) 14 rfl (by decide +kernel) (by decide +kernel)

theorem e_v11 : fin m c main_v11 = ((Host.slice S4x2048x1024 ![0, 1, 0] ![1, 2, 1] · slicesBy_S4x4096x1024_S4x2048x1024_0s1_1s2_0s1) : (⟨S4x4096x1024, .f32⟩ : BufTy).Contents (Elt F) → (⟨S4x2048x1024, .f32⟩ : BufTy).Contents (Elt F)) (fin m c main_arg1) :=
  once1 wrote_eq (launchContents m c) 15 rfl (by decide +kernel) (by decide +kernel)

theorem e_call0_v0 : fin m c main_call0_v0 = (mulf : (⟨S4x2048x1024, .f32⟩ : BufTy).Contents (Elt F) → (⟨S4x2048x1024, .f32⟩ : BufTy).Contents (Elt F) → (⟨S4x2048x1024, .f32⟩ : BufTy).Contents (Elt F)) (fin m c main_v10) (fin m c main_v10) :=
  once2 wrote_eq (launchContents m c) 16 rfl (by decide +kernel) (by decide +kernel) (by decide +kernel)

theorem e_call0_cst : fin m c main_call0_cst = ((constant S_ .f32 0x00000000#32) : (⟨S_, .f32⟩ : BufTy).Contents (Elt F)) :=
  once0 wrote_eq (launchContents m c) 17 rfl (by decide +kernel)

theorem e_call0_v1 : fin m c main_call0_v1 = ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)) (fin m c main_call0_v0) (fin m c main_call0_cst) :=
  once2 wrote_eq (launchContents m c) 18 rfl (by decide +kernel) (by decide +kernel) (by decide +kernel)

theorem e_call0_v2 : fin m c main_call0_v2 = ((broadcastInDim S4x2048x1 ![0, 1] bcast_S4x2048_S4x2048x1_0_1) : (⟨S4x2048, .f32⟩ : BufTy).Contents (Elt F) → (⟨S4x2048x1, .f32⟩ : BufTy).Contents (Elt F)) (fin m c main_call0_v1) :=
  once1 wrote_eq (launchContents m c) 19 rfl (by decide +kernel) (by decide +kernel)

theorem e_v12 : fin m c main_v12 = (Host.sqrt : (⟨S4x2048x1, .f32⟩ : BufTy).Contents (Elt F) → (⟨S4x2048x1, .f32⟩ : BufTy).Contents (Elt F)) (fin m c main_call0_v2) :=
  once1 wrote_eq (launchContents m c) 20 rfl (by decide +kernel) (by decide +kernel)

theorem e_cst : fin m c main_cst = (constant S_ .f32 0x2B8CBCCC#32) :=
  once0 wrote_eq (launchContents m c) 21 rfl (by decide +kernel)

theorem e_v13 : fin m c main_v13 = (broadcastInDim S4x2048x1 ![] bcast_S_S4x2048x1 : (⟨S_, .f32⟩ : BufTy).Contents (Elt F) → (⟨S4x2048x1, .f32⟩ : BufTy).Contents (Elt F)) (fin m c main_cst) :=
  once1 wrote_eq (launchContents m c) 22 rfl (by decide +kernel) (by decide +kernel)

theorem e_v14 : fin m c main_v14 = (addf : (⟨S4x2048x1, .f32⟩ : BufTy).Contents (Elt F) → (⟨S4x2048x1, .f32⟩ : BufTy).Contents (Elt F) → (⟨S4x2048x1, .f32⟩ : BufTy).Contents (Elt F)) (fin m c main_v12) (fin m c main_v13) :=
  once2 wrote_eq (launchContents m c) 23 rfl (by decide +kernel) (by decide +kernel) (by decide +kernel)

theorem e_v15 : fin m c main_v15 = (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)) (fin m c main_v14) :=
  once1 wrote_eq (launchContents m c) 24 rfl (by decide +kernel) (by decide +kernel)

theorem e_v16 : fin m c main_v16 = (Host.divf : (⟨S4x2048x1024, .f32⟩ : BufTy).Contents (Elt F) → (⟨S4x2048x1024, .f32⟩ : BufTy).Contents (Elt F) → (⟨S4x2048x1024, .f32⟩ : BufTy).Contents (Elt F)) (fin m c main_v10) (fin m c main_v15) :=
  once2 wrote_eq (launchContents m c) 25 rfl (by decide +kernel) (by decide +kernel) (by decide +kernel)

theorem e_call1_v0 : fin m c main_call1_v0 = (mulf : (⟨S4x2048x1024, .f32⟩ : BufTy).Contents (Elt F) → (⟨S4x2048x1024, .f32⟩ : BufTy).Contents (Elt F) → (⟨S4x2048x1024, .f32⟩ : BufTy).Contents (Elt F)) (fin m c main_v11) (fin m c main_v11) :=
  once2 wrote_eq (launchContents m c) 26 rfl (by decide +kernel) (by decide +kernel) (by decide +kernel)

theorem e_call1_cst : fin m c main_call1_cst = ((constant S_ .f32 0x00000000#32) : (⟨S_, .f32⟩ : BufTy).Contents (Elt F)) :=
  once0 wrote_eq (launchContents m c) 27 rfl (by decide +kernel)

theorem e_call1_v1 : fin m c main_call1_v1 = ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)) (fin m c main_call1_v0) (fin m c main_call1_cst) :=
  once2 wrote_eq (launchContents m c) 28 rfl (by decide +kernel) (by decide +kernel) (by decide +kernel)

theorem e_call1_v2 : fin m c main_call1_v2 = ((broadcastInDim S4x2048x1 ![0, 1] bcast_S4x2048_S4x2048x1_0_1) : (⟨S4x2048, .f32⟩ : BufTy).Contents (Elt F) → (⟨S4x2048x1, .f32⟩ : BufTy).Contents (Elt F)) (fin m c main_call1_v1) :=
  once1 wrote_eq (launchContents m c) 29 rfl (by decide +kernel) (by decide +kernel)

theorem e_v17 : fin m c main_v17 = (Host.sqrt : (⟨S4x2048x1, .f32⟩ : BufTy).Contents (Elt F) → (⟨S4x2048x1, .f32⟩ : BufTy).Contents (Elt F)) (fin m c main_call1_v2) :=
  once1 wrote_eq (launchContents m c) 30 rfl (by decide +kernel) (by decide +kernel)

theorem e_cst_3 : fin m c main_cst_3 = (constant S_ .f32 0x2B8CBCCC#32) :=
  once0 wrote_eq (launchContents m c) 31 rfl (by decide +kernel)

theorem e_v18 : fin m c main_v18 = (broadcastInDim S4x2048x1 ![] bcast_S_S4x2048x1 : (⟨S_, .f32⟩ : BufTy).Contents (Elt F) → (⟨S4x2048x1, .f32⟩ : BufTy).Contents (Elt F)) (fin m c main_cst_3) :=
  once1 wrote_eq (launchContents m c) 32 rfl (by decide +kernel) (by decide +kernel)

theorem e_v19 : fin m c main_v19 = (addf : (⟨S4x2048x1, .f32⟩ : BufTy).Contents (Elt F) → (⟨S4x2048x1, .f32⟩ : BufTy).Contents (Elt F) → (⟨S4x2048x1, .f32⟩ : BufTy).Contents (Elt F)) (fin m c main_v17) (fin m c main_v18) :=
  once2 wrote_eq (launchContents m c) 33 rfl (by decide +kernel) (by decide +kernel) (by decide +kernel)

theorem e_v20 : fin m c main_v20 = (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)) (fin m c main_v19) :=
  once1 wrote_eq (launchContents m c) 34 rfl (by decide +kernel) (by decide +kernel)

theorem e_v21 : fin m c main_v21 = (Host.divf : (⟨S4x2048x1024, .f32⟩ : BufTy).Contents (Elt F) → (⟨S4x2048x1024, .f32⟩ : BufTy).Contents (Elt F) → (⟨S4x2048x1024, .f32⟩ : BufTy).Contents (Elt F)) (fin m c main_v11) (fin m c main_v20) :=
  once2 wrote_eq (launchContents m c) 35 rfl (by decide +kernel) (by decide +kernel) (by decide +kernel)

theorem e_v22 : fin m c main_v22 = ((transpose S4x1024x2048 [0, 2, 1] · transposes_S4x2048x1024_S4x1024x2048_0_2_1) : (⟨S4x2048x1024, .f32⟩ : BufTy).Contents (Elt F) → (⟨S4x1024x2048, .f32⟩ : BufTy).Contents (Elt F)) (fin m c main_v21) :=
  once1 wrote_eq (launchContents m c) 36 rfl (by decide +kernel) (by decide +kernel)

theorem e_v23 : fin m c main_v23 = ((fun l r => Host.dotGeneral dot_S4x2048x1024_S4x1024x2048_S4x2048x2048_2_1_1_2_0_0 none l r) : (⟨S4x2048x1024, .f32⟩ : BufTy).Contents (Elt F) → (⟨S4x1024x2048, .f32⟩ : BufTy).Contents (Elt F) → (⟨S4x2048x2048, .f32⟩ : BufTy).Contents (Elt F)) (fin m c main_v16) (fin m c main_v22) :=
  once2 wrote_eq (launchContents m c) 37 rfl (by decide +kernel) (by decide +kernel) (by decide +kernel)

theorem e_c_4 : fin m c main_c_4 = (constantI S_ 32 0#32) :=
  once0 wrote_eq (launchContents m c) 38 rfl (by decide +kernel)

theorem e_v24 : fin m c main_v24 = (broadcastInDim S1 ![] bcast_S_S1 : (⟨S_, .i32⟩ : BufTy).Contents (Elt F) → (⟨S1, .i32⟩ : BufTy).Contents (Elt F)) (fin m c main_c_4) :=
  once1 wrote_eq (launchContents m c) 39 rfl (by decide +kernel) (by decide +kernel)

theorem e_cst_5 : fin m c main_cst_5 = (constant S_ .f32 0xFF800000#32) :=
  once0 wrote_eq (launchContents m c) 40 rfl (by decide +kernel)

theorem e_v25 : fin m c main_v25 = (broadcastInDim S4x2048 ![] bcast_S_S4x2048 : (⟨S_, .f32⟩ : BufTy).Contents (Elt F) → (⟨S4x2048, .f32⟩ : BufTy).Contents (Elt F)) (fin m c main_cst_5) :=
  once1 wrote_eq (launchContents m c) 41 rfl (by decide +kernel) (by decide +kernel)

theorem e_v26 : fin m c main_v26 = ((fun x i u => Host.scatter scatter_S4x2048x2048_S1_S4x2048_01_1_1_0 (fun _ b => b) x i u) : (⟨S4x2048x2048, .f32⟩ : BufTy).Contents (Elt F) → (⟨S1, .i32⟩ : BufTy).Contents (Elt F) → (⟨S4x2048, .f32⟩ : BufTy).Contents (Elt F) → (⟨S4x2048x2048, .f32⟩ : BufTy).Contents (Elt F)) (fin m c main_v23) (fin m c main_v24) (fin m c main_v25) :=
  once3 wrote_eq (launchContents m c) 42 rfl (by decide +kernel) (by decide +kernel) (by decide +kernel) (by decide +kernel)

theorem e_cst_6 : fin m c main_cst_6 = (constant S_ .f32 0xFF800000#32) :=
  once0 wrote_eq (launchContents m c) 43 rfl (by decide +kernel)

theorem e_v27 : fin m c main_v27 = ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)) (fin m c main_v26) (fin m c main_cst_6) :=
  once2 wrote_eq (launchContents m c) 44 rfl (by decide +kernel) (by decide +kernel) (by decide +kernel)

theorem e_call2_v0 : fin m c main_call2_v0 = ((iotaInDim S4x2048x2048 32 2) : (⟨S4x2048x2048, .i32⟩ : BufTy).Contents (Elt F)) :=
  once0 wrote_eq (launchContents m c) 45 rfl (by decide +kernel)

theorem e_call2_cst : fin m c main_call2_cst = ((constant S_ .f32 0xFF800000#32) : (⟨S_, .f32⟩ : BufTy).Contents (Elt F)) :=
  once0 wrote_eq (launchContents m c) 46 rfl (by decide +kernel)

theorem e_call2_c : fin m c main_call2_c = ((constantI S_ 32 0#32) : (⟨S_, .i32⟩ : BufTy).Contents (Elt F)) :=
  once0 wrote_eq (launchContents m c) 47 rfl (by decide +kernel)

theorem e_call2_v1_0 : fin m c main_call2_v1_0 = ((fun x y u v j => (Host.argReduce reducer_argmax_f32_i32 x y u v reducesTo_S4x2048x2048_S4x2048_d2 h_S_ j).1) : (⟨S4x2048x2048, .f32⟩ : BufTy).Contents (Elt F) → (⟨S4x2048x2048, .i32⟩ : BufTy).Contents (Elt F) → (⟨S_, .f32⟩ : BufTy).Contents (Elt F) → (⟨S_, .i32⟩ : BufTy).Contents (Elt F) → (⟨S4x2048, .f32⟩ : BufTy).Contents (Elt F)) (fin m c main_v26) (fin m c main_call2_v0) (fin m c main_call2_cst) (fin m c main_call2_c) :=
  once4 wrote_eq (launchContents m c) 48 rfl (by decide +kernel) (by decide +kernel) (by decide +kernel) (by decide +kernel) (by decide +kernel)

theorem e_v28 : fin m c main_v28 = ((fun x y u v j => (Host.argReduce reducer_argmax_f32_i32 x y u v reducesTo_S4x2048x2048_S4x2048_d2 h_S_ j).2) : (⟨S4x2048x2048, .f32⟩ : BufTy).Contents (Elt F) → (⟨S4x2048x2048, .i32⟩ : BufTy).Contents (Elt F) → (⟨S_, .f32⟩ : BufTy).Contents (Elt F) → (⟨S_, .i32⟩ : BufTy).Contents (Elt F) → (⟨S4x2048, .i32⟩ : BufTy).Contents (Elt F)) (fin m c main_v26) (fin m c main_call2_v0) (fin m c main_call2_cst) (fin m c main_call2_c) :=
  once4 wrote_eq (launchContents m c) 49 rfl (by decide +kernel) (by decide +kernel) (by decide +kernel) (by decide +kernel) (by decide +kernel)

theorem e_v29 : fin m c main_v29 = (Host.negf : (⟨S4x2048, .f32⟩ : BufTy).Contents (Elt F) → (⟨S4x2048, .f32⟩ : BufTy).Contents (Elt F)) (fin m c main_v27) :=
  once1 wrote_eq (launchContents m c) 50 rfl (by decide +kernel) (by decide +kernel)

theorem e_call3_v0 : fin m c main_call3_v0 = ((iotaInDim S4x2048 32 1) : (⟨S4x2048, .i32⟩ : BufTy).Contents (Elt F)) :=
  once0 wrote_eq (launchContents m c) 51 rfl (by decide +kernel)

theorem e_call3_v1_0 : fin m c main_call3_v1_0 = ((fun x y => (Host.sort2 S4x2048 1 comparator_f32_i32_d1 x y).1) : (⟨S4x2048, .f32⟩ : BufTy).Contents (Elt F) → (⟨S4x2048, .i32⟩ : BufTy).Contents (Elt F) → (⟨S4x2048, .f32⟩ : BufTy).Contents (Elt F)) (fin m c main_v29) (fin m c main_call3_v0) :=
  once2 wrote_eq (launchContents m c) 52 rfl (by decide +kernel) (by decide +kernel) (by decide +kernel)

theorem e_v30 : fin m c main_v30 = ((fun x y => (Host.sort2 S4x2048 1 comparator_f32_i32_d1 x y).2) : (⟨S4x2048, .f32⟩ : BufTy).Contents (Elt F) → (⟨S4x2048, .i32⟩ : BufTy).Contents (Elt F) → (⟨S4x2048, .i32⟩ : BufTy).Contents (Elt F)) (fin m c main_v29) (fin m c main_call3_v0) :=
  once2 wrote_eq (launchContents m c) 53 rfl (by decide +kernel) (by decide +kernel) (by decide +kernel)

theorem e_v31 : fin m c main_v31 = ((extractStridedSlice S4x1024 ![0, 0] · slices_S4x2048_S4x1024_0_0) : (⟨S4x2048, .i32⟩ : BufTy).Contents (Elt F) → (⟨S4x1024, .i32⟩ : BufTy).Contents (Elt F)) (fin m c main_v30) :=
  once1 wrote_eq (launchContents m c) 54 rfl (by decide +kernel) (by decide +kernel)

theorem e_v32 : fin m c main_v32 = ((extractStridedSlice S4x1024 ![0, 1024] · slices_S4x2048_S4x1024_0_1024) : (⟨S4x2048, .i32⟩ : BufTy).Contents (Elt F) → (⟨S4x1024, .i32⟩ : BufTy).Contents (Elt F)) (fin m c main_v30) :=
  once1 wrote_eq (launchContents m c) 55 rfl (by decide +kernel) (by decide +kernel)

theorem e_v33 : fin m c main_v33 = ((fun x => Host.sort S4x1024 1 comparator_i32_d1 x) : (⟨S4x1024, .i32⟩ : BufTy).Contents (Elt F) → (⟨S4x1024, .i32⟩ : BufTy).Contents (Elt F)) (fin m c main_v32) :=
  once1 wrote_eq (launchContents m c) 56 rfl (by decide +kernel) (by decide +kernel)

theorem e_call5_c : fin m c main_call5_c = ((constantI S_ 32 0#32) : (⟨S_, .i32⟩ : BufTy).Contents (Elt F)) :=
  once0 wrote_eq (launchContents m c) 57 rfl (by decide +kernel)

theorem e_call5_v0 : fin m c main_call5_v0 = ((broadcastInDim S4x1024 ![] bcast_S_S4x1024) : (⟨S_, .i32⟩ : BufTy).Contents (Elt F) → (⟨S4x1024, .i32⟩ : BufTy).Contents (Elt F)) (fin m c main_call5_c) :=
  once1 wrote_eq (launchContents m c) 58 rfl (by decide +kernel) (by decide +kernel)

theorem e_call5_v1 : fin m c main_call5_v1 = ((cmpi .slt) : (⟨S4x1024, .i32⟩ : BufTy).Contents (Elt F) → (⟨S4x1024, .i32⟩ : BufTy).Contents (Elt F) → (⟨S4x1024, .i1⟩ : BufTy).Contents (Elt F)) (fin m c main_v31) (fin m c main_call5_v0) :=
  once2 wrote_eq (launchContents m c) 59 rfl (by decide +kernel) (by decide +kernel) (by decide +kernel)

theorem e_call5_c_0 : fin m c main_call5_c_0 = ((constantI S_ 32 2048#32) : (⟨S_, .i32⟩ : BufTy).Contents (Elt F)) :=
  once0 wrote_eq (launchContents m c) 60 rfl (by decide +kernel)

theorem e_call5_v2 : fin m c main_call5_v2 = ((broadcastInDim S4x1024 ![] bcast_S_S4x1024) : (⟨S_, .i32⟩ : BufTy).Contents (Elt F) → (⟨S4x1024, .i32⟩ : BufTy).Contents (Elt F)) (fin m c main_call5_c_0) :=
  once1 wrote_eq (launchContents m c) 61 rfl (by decide +kernel) (by decide +kernel)

theorem e_call5_v3 : fin m c main_call5_v3 = (addi : (⟨S4x1024, .i32⟩ : BufTy).Contents (Elt F) → (⟨S4x1024, .i32⟩ : BufTy).Contents (Elt F) → (⟨S4x1024, .i32⟩ : BufTy).Contents (Elt F)) (fin m c main_v31) (fin m c main_call5_v2) :=
  once2 wrote_eq (launchContents m c) 62 rfl (by decide +kernel) (by decide +kernel) (by decide +kernel)

theorem e_call5_v4 : fin m c main_call5_v4 = (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)) (fin m c main_call5_v1) (fin m c main_call5_v3) (fin m c main_v31) :=
  once3 wrote_eq (launchContents m c) 63 rfl (by decide +kernel) (by decide +kernel) (by decide +kernel) (by decide +kernel)

theorem e_call5_v5 : fin m c main_call5_v5 = (shapeCast S4x1024x1 (fin m c main_call5_v4 : S4x1024.Idx → BitVec 32) shapeCasts_S4x1024_S4x1024x1 : S4x1024x1.Idx → BitVec 32) :=
  onceR (x := main_call5_v4) (y := main_call5_v5) (he := rfl) (hn := shapeCasts_S4x1024_S4x1024x1) wrote_eq (launchContents m c) 64 rfl (by decide +kernel) (by decide +kernel)

theorem e_call5_c_1 : fin m c main_call5_c_1 = ((constantI S1 32 2047#32) : (⟨S1, .i32⟩ : BufTy).Contents (Elt F)) :=
  once0 wrote_eq (launchContents m c) 65 rfl (by decide +kernel)

theorem e_call5_c_2 : fin m c main_call5_c_2 = ((constantI S_ 32 0#32) : (⟨S_, .i32⟩ : BufTy).Contents (Elt F)) :=
  once0 wrote_eq (launchContents m c) 66 rfl (by decide +kernel)

theorem e_call5_v6 : fin m c main_call5_v6 = ((broadcastInDim S4x1024x1 ![] bcast_S_S4x1024x1) : (⟨S_, .i32⟩ : BufTy).Contents (Elt F) → (⟨S4x1024x1, .i32⟩ : BufTy).Contents (Elt F)) (fin m c main_call5_c_2) :=
  once1 wrote_eq (launchContents m c) 67 rfl (by decide +kernel) (by decide +kernel)

theorem e_call5_v7 : fin m c main_call5_v7 = ((cmpi .sge) : (⟨S4x1024x1, .i32⟩ : BufTy).Contents (Elt F) → (⟨S4x1024x1, .i32⟩ : BufTy).Contents (Elt F) → (⟨S4x1024x1, .i1⟩ : BufTy).Contents (Elt F)) (fin m c main_call5_v5) (fin m c main_call5_v6) :=
  once2 wrote_eq (launchContents m c) 68 rfl (by decide +kernel) (by decide +kernel) (by decide +kernel)

theorem e_call5_v8 : fin m c main_call5_v8 = ((broadcastInDim S1x1x1 ![2] bcast_S1_S1x1x1_2) : (⟨S1, .i32⟩ : BufTy).Contents (Elt F) → (⟨S1x1x1, .i32⟩ : BufTy).Contents (Elt F)) (fin m c main_call5_c_1) :=
  once1 wrote_eq (launchContents m c) 69 rfl (by decide +kernel) (by decide +kernel)

theorem e_call5_v9 : fin m c main_call5_v9 = ((broadcastInDim S4x1024x1 ![0, 1, 2] bcast_S1x1x1_S4x1024x1_0_1_2) : (⟨S1x1x1, .i32⟩ : BufTy).Contents (Elt F) → (⟨S4x1024x1, .i32⟩ : BufTy).Contents (Elt F)) (fin m c main_call5_v8) :=
  once1 wrote_eq (launchContents m c) 70 rfl (by decide +kernel) (by decide +kernel)

theorem e_call5_v10 : fin m c main_call5_v10 = ((cmpi .sle) : (⟨S4x1024x1, .i32⟩ : BufTy).Contents (Elt F) → (⟨S4x1024x1, .i32⟩ : BufTy).Contents (Elt F) → (⟨S4x1024x1, .i1⟩ : BufTy).Contents (Elt F)) (fin m c main_call5_v5) (fin m c main_call5_v9) :=
  once2 wrote_eq (launchContents m c) 71 rfl (by decide +kernel) (by decide +kernel) (by decide +kernel)

theorem e_call5_v11 : fin m c main_call5_v11 = (andi : (⟨S4x1024x1, .i1⟩ : BufTy).Contents (Elt F) → (⟨S4x1024x1, .i1⟩ : BufTy).Contents (Elt F) → (⟨S4x1024x1, .i1⟩ : BufTy).Contents (Elt F)) (fin m c main_call5_v7) (fin m c main_call5_v10) :=
  once2 wrote_eq (launchContents m c) 72 rfl (by decide +kernel) (by decide +kernel) (by decide +kernel)

theorem e_call5_c_3 : fin m c main_call5_c_3 = ((constantI S_ 1 1#1) : (⟨S_, .i1⟩ : BufTy).Contents (Elt F)) :=
  once0 wrote_eq (launchContents m c) 73 rfl (by decide +kernel)

theorem e_call5_v12 : fin m c main_call5_v12 = ((fun x v => Host.reduce IntOp.andi x v reducesTo_S4x1024x1_S4x1024_d2 h_S_) : (⟨S4x1024x1, .i1⟩ : BufTy).Contents (Elt F) → (⟨S_, .i1⟩ : BufTy).Contents (Elt F) → (⟨S4x1024, .i1⟩ : BufTy).Contents (Elt F)) (fin m c main_call5_v11) (fin m c main_call5_c_3) :=
  once2 wrote_eq (launchContents m c) 74 rfl (by decide +kernel) (by decide +kernel) (by decide +kernel)

theorem e_call5_v13 : fin m c main_call5_v13 = ((fun x i => Host.gather gather_S4x2048_S4x1024x1_S4x1024_n_1_0_0_1_2_11 x i) : (⟨S4x2048, .i32⟩ : BufTy).Contents (Elt F) → (⟨S4x1024x1, .i32⟩ : BufTy).Contents (Elt F) → (⟨S4x1024, .i32⟩ : BufTy).Contents (Elt F)) (fin m c main_v28) (fin m c main_call5_v5) :=
  once2 wrote_eq (launchContents m c) 75 rfl (by decide +kernel) (by decide +kernel) (by decide +kernel)

theorem e_call5_c_4 : fin m c main_call5_c_4 = ((constantI S_ 32 2147483648#32) : (⟨S_, .i32⟩ : BufTy).Contents (Elt F)) :=
  once0 wrote_eq (launchContents m c) 76 rfl (by decide +kernel)

theorem e_call5_v14 : fin m c main_call5_v14 = ((broadcastInDim S4x1024 ![] bcast_S_S4x1024) : (⟨S_, .i32⟩ : BufTy).Contents (Elt F) → (⟨S4x1024, .i32⟩ : BufTy).Contents (Elt F)) (fin m c main_call5_c_4) :=
  once1 wrote_eq (launchContents m c) 77 rfl (by decide +kernel) (by decide +kernel)

theorem e_v34 : fin m c main_v34 = (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)) (fin m c main_call5_v12) (fin m c main_call5_v13) (fin m c main_call5_v14) :=
  once3 wrote_eq (launchContents m c) 78 rfl (by decide +kernel) (by decide +kernel) (by decide +kernel) (by decide +kernel)

theorem e_c_7 : fin m c main_c_7 = (constantI S_ 32 0#32) :=
  once0 wrote_eq (launchContents m c) 79 rfl (by decide +kernel)

theorem e_v35 : fin m c main_v35 = (broadcastInDim S4x1024 ![] bcast_S_S4x1024 : (⟨S_, .i32⟩ : BufTy).Contents (Elt F) → (⟨S4x1024, .i32⟩ : BufTy).Contents (Elt F)) (fin m c main_c_7) :=
  once1 wrote_eq (launchContents m c) 80 rfl (by decide +kernel) (by decide +kernel)

theorem e_v36 : fin m c main_v36 = (cmpi .slt : (⟨S4x1024, .i32⟩ : BufTy).Contents (Elt F) → (⟨S4x1024, .i32⟩ : BufTy).Contents (Elt F) → (⟨S4x1024, .i1⟩ : BufTy).Contents (Elt F)) (fin m c main_v31) (fin m c main_v35) :=
  once2 wrote_eq (launchContents m c) 81 rfl (by decide +kernel) (by decide +kernel) (by decide +kernel)

theorem e_c_8 : fin m c main_c_8 = (constantI S_ 32 2048#32) :=
  once0 wrote_eq (launchContents m c) 82 rfl (by decide +kernel)

theorem e_v37 : fin m c main_v37 = (broadcastInDim S4x1024 ![] bcast_S_S4x1024 : (⟨S_, .i32⟩ : BufTy).Contents (Elt F) → (⟨S4x1024, .i32⟩ : BufTy).Contents (Elt F)) (fin m c main_c_8) :=
  once1 wrote_eq (launchContents m c) 83 rfl (by decide +kernel) (by decide +kernel)

theorem e_v38 : fin m c main_v38 = (addi : (⟨S4x1024, .i32⟩ : BufTy).Contents (Elt F) → (⟨S4x1024, .i32⟩ : BufTy).Contents (Elt F) → (⟨S4x1024, .i32⟩ : BufTy).Contents (Elt F)) (fin m c main_v31) (fin m c main_v37) :=
  once2 wrote_eq (launchContents m c) 84 rfl (by decide +kernel) (by decide +kernel) (by decide +kernel)

theorem e_v39 : fin m c main_v39 = (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)) (fin m c main_v36) (fin m c main_v38) (fin m c main_v31) :=
  once3 wrote_eq (launchContents m c) 85 rfl (by decide +kernel) (by decide +kernel) (by decide +kernel) (by decide +kernel)

theorem e_v40 : fin m c main_v40 = (broadcastInDim S4x1024x1 ![0, 1] bcast_S4x1024_S4x1024x1_0_1 : (⟨S4x1024, .i32⟩ : BufTy).Contents (Elt F) → (⟨S4x1024x1, .i32⟩ : BufTy).Contents (Elt F)) (fin m c main_v39) :=
  once1 wrote_eq (launchContents m c) 86 rfl (by decide +kernel) (by decide +kernel)

theorem e_v41 : fin m c main_v41 = ((fun x i => Host.gather gather_S2048_S4x1024x1_S4x1024_n_0_n_n_0_2_1 x i) : (⟨S2048, .i32⟩ : BufTy).Contents (Elt F) → (⟨S4x1024x1, .i32⟩ : BufTy).Contents (Elt F) → (⟨S4x1024, .i32⟩ : BufTy).Contents (Elt F)) (fin m c main_v4) (fin m c main_v40) :=
  once2 wrote_eq (launchContents m c) 87 rfl (by decide +kernel) (by decide +kernel) (by decide +kernel)

theorem e_c_9 : fin m c main_c_9 = (constantI S_ 32 0#32) :=
  once0 wrote_eq (launchContents m c) 88 rfl (by decide +kernel)

theorem e_v42 : fin m c main_v42 = (broadcastInDim S4x1024 ![] bcast_S_S4x1024 : (⟨S_, .i32⟩ : BufTy).Contents (Elt F) → (⟨S4x1024, .i32⟩ : BufTy).Contents (Elt F)) (fin m c main_c_9) :=
  once1 wrote_eq (launchContents m c) 89 rfl (by decide +kernel) (by decide +kernel)

theorem e_v43 : fin m c main_v43 = (cmpi .slt : (⟨S4x1024, .i32⟩ : BufTy).Contents (Elt F) → (⟨S4x1024, .i32⟩ : BufTy).Contents (Elt F) → (⟨S4x1024, .i1⟩ : BufTy).Contents (Elt F)) (fin m c main_v33) (fin m c main_v42) :=
  once2 wrote_eq (launchContents m c) 90 rfl (by decide +kernel) (by decide +kernel) (by decide +kernel)

theorem e_c_10 : fin m c main_c_10 = (constantI S_ 32 2048#32) :=
  once0 wrote_eq (launchContents m c) 91 rfl (by decide +kernel)

theorem e_v44 : fin m c main_v44 = (broadcastInDim S4x1024 ![] bcast_S_S4x1024 : (⟨S_, .i32⟩ : BufTy).Contents (Elt F) → (⟨S4x1024, .i32⟩ : BufTy).Contents (Elt F)) (fin m c main_c_10) :=
  once1 wrote_eq (launchContents m c) 92 rfl (by decide +kernel) (by decide +kernel)

theorem e_v45 : fin m c main_v45 = (addi : (⟨S4x1024, .i32⟩ : BufTy).Contents (Elt F) → (⟨S4x1024, .i32⟩ : BufTy).Contents (Elt F) → (⟨S4x1024, .i32⟩ : BufTy).Contents (Elt F)) (fin m c main_v33) (fin m c main_v44) :=
  once2 wrote_eq (launchContents m c) 93 rfl (by decide +kernel) (by decide +kernel) (by decide +kernel)

theorem e_v46 : fin m c main_v46 = (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)) (fin m c main_v43) (fin m c main_v45) (fin m c main_v33) :=
  once3 wrote_eq (launchContents m c) 94 rfl (by decide +kernel) (by decide +kernel) (by decide +kernel) (by decide +kernel)

end Cert.Proof.Ref
-- ==== Proof.RefEq1.lean ====
module

public import proofs.«01_k».proof.Proof.RefOnce
/-! The equations of part 1. -/

@[expose] public noncomputable section

namespace Cert.Proof.Ref

open Cert.ReferenceIdeal Cert.ReferenceIdeal.Gen
open Idealize.ShloMosaic Idealize.ShloMosaic.StableHlo
open Idealize.SL Idealize.SL.Sem

variable {F : FTy → Type} [FloatOps F]

set_option maxRecDepth 8000

variable (m : (ℓ : Loc nD τ sig) → Buf (Elt F) ℓ) (c : Dev nD)

theorem e_v47 : fin m c main_v47 = (broadcastInDim S4x1024x1 ![0, 1] bcast_S4x1024_S4x1024x1_0_1 : (⟨S4x1024, .i32⟩ : BufTy).Contents (Elt F) → (⟨S4x1024x1, .i32⟩ : BufTy).Contents (Elt F)) (fin m c main_v46) :=
  once1 wrote_eq (launchContents m c) 95 rfl (by decide +kernel) (by decide +kernel)

theorem e_v48 : fin m c main_v48 = ((fun x i => Host.gather gather_S2048_S4x1024x1_S4x1024_n_0_n_n_0_2_1 x i) : (⟨S2048, .i32⟩ : BufTy).Contents (Elt F) → (⟨S4x1024x1, .i32⟩ : BufTy).Contents (Elt F) → (⟨S4x1024, .i32⟩ : BufTy).Contents (Elt F)) (fin m c main_v4) (fin m c main_v47) :=
  once2 wrote_eq (launchContents m c) 96 rfl (by decide +kernel) (by decide +kernel) (by decide +kernel)

theorem e_v49 : fin m c main_v49 = ((Host.slice S4x2048x1024 ![0, 0, 0] ![1, 2, 1] · slicesBy_S4x4096x1024_S4x2048x1024_0s1_0s2_0s1) : (⟨S4x4096x1024, .f32⟩ : BufTy).Contents (Elt F) → (⟨S4x2048x1024, .f32⟩ : BufTy).Contents (Elt F)) (fin m c main_arg0) :=
  once1 wrote_eq (launchContents m c) 97 rfl (by decide +kernel) (by decide +kernel)

theorem e_v50 : fin m c main_v50 = ((Host.slice S4x2048x1024 ![0, 1, 0] ![1, 2, 1] · slicesBy_S4x4096x1024_S4x2048x1024_0s1_1s2_0s1) : (⟨S4x4096x1024, .f32⟩ : BufTy).Contents (Elt F) → (⟨S4x2048x1024, .f32⟩ : BufTy).Contents (Elt F)) (fin m c main_arg0) :=
  once1 wrote_eq (launchContents m c) 98 rfl (by decide +kernel) (by decide +kernel)

theorem e_v51 : fin m c main_v51 = (broadcastInDim S4x1024x1 ![0, 1] bcast_S4x1024_S4x1024x1_0_1 : (⟨S4x1024, .i32⟩ : BufTy).Contents (Elt F) → (⟨S4x1024x1, .i32⟩ : BufTy).Contents (Elt F)) (fin m c main_v33) :=
  once1 wrote_eq (launchContents m c) 99 rfl (by decide +kernel) (by decide +kernel)

theorem e_call6_c : fin m c main_call6_c = ((constantI S_ 32 0#32) : (⟨S_, .i32⟩ : BufTy).Contents (Elt F)) :=
  once0 wrote_eq (launchContents m c) 100 rfl (by decide +kernel)

theorem e_call6_v0 : fin m c main_call6_v0 = ((broadcastInDim S4x1024x1 ![] bcast_S_S4x1024x1) : (⟨S_, .i32⟩ : BufTy).Contents (Elt F) → (⟨S4x1024x1, .i32⟩ : BufTy).Contents (Elt F)) (fin m c main_call6_c) :=
  once1 wrote_eq (launchContents m c) 101 rfl (by decide +kernel) (by decide +kernel)

theorem e_call6_v1 : fin m c main_call6_v1 = ((cmpi .slt) : (⟨S4x1024x1, .i32⟩ : BufTy).Contents (Elt F) → (⟨S4x1024x1, .i32⟩ : BufTy).Contents (Elt F) → (⟨S4x1024x1, .i1⟩ : BufTy).Contents (Elt F)) (fin m c main_v51) (fin m c main_call6_v0) :=
  once2 wrote_eq (launchContents m c) 102 rfl (by decide +kernel) (by decide +kernel) (by decide +kernel)

theorem e_call6_c_0 : fin m c main_call6_c_0 = ((constantI S_ 32 2048#32) : (⟨S_, .i32⟩ : BufTy).Contents (Elt F)) :=
  once0 wrote_eq (launchContents m c) 103 rfl (by decide +kernel)

theorem e_call6_v2 : fin m c main_call6_v2 = ((broadcastInDim S4x1024x1 ![] bcast_S_S4x1024x1) : (⟨S_, .i32⟩ : BufTy).Contents (Elt F) → (⟨S4x1024x1, .i32⟩ : BufTy).Contents (Elt F)) (fin m c main_call6_c_0) :=
  once1 wrote_eq (launchContents m c) 104 rfl (by decide +kernel) (by decide +kernel)

theorem e_call6_v3 : fin m c main_call6_v3 = (addi : (⟨S4x1024x1, .i32⟩ : BufTy).Contents (Elt F) → (⟨S4x1024x1, .i32⟩ : BufTy).Contents (Elt F) → (⟨S4x1024x1, .i32⟩ : BufTy).Contents (Elt F)) (fin m c main_v51) (fin m c main_call6_v2) :=
  once2 wrote_eq (launchContents m c) 105 rfl (by decide +kernel) (by decide +kernel) (by decide +kernel)

theorem e_call6_v4 : fin m c main_call6_v4 = (select : (⟨S4x1024x1, .i1⟩ : BufTy).Contents (Elt F) → (⟨S4x1024x1, .i32⟩ : BufTy).Contents (Elt F) → (⟨S4x1024x1, .i32⟩ : BufTy).Contents (Elt F) → (⟨S4x1024x1, .i32⟩ : BufTy).Contents (Elt F)) (fin m c main_call6_v1) (fin m c main_call6_v3) (fin m c main_v51) :=
  once3 wrote_eq (launchContents m c) 106 rfl (by decide +kernel) (by decide +kernel) (by decide +kernel) (by decide +kernel)

theorem e_call6_c_1 : fin m c main_call6_c_1 = ((constantI S1 32 2047#32) : (⟨S1, .i32⟩ : BufTy).Contents (Elt F)) :=
  once0 wrote_eq (launchContents m c) 107 rfl (by decide +kernel)

theorem e_call6_c_2 : fin m c main_call6_c_2 = ((constantI S_ 32 0#32) : (⟨S_, .i32⟩ : BufTy).Contents (Elt F)) :=
  once0 wrote_eq (launchContents m c) 108 rfl (by decide +kernel)

theorem e_call6_v5 : fin m c main_call6_v5 = ((broadcastInDim S4x1024x1 ![] bcast_S_S4x1024x1) : (⟨S_, .i32⟩ : BufTy).Contents (Elt F) → (⟨S4x1024x1, .i32⟩ : BufTy).Contents (Elt F)) (fin m c main_call6_c_2) :=
  once1 wrote_eq (launchContents m c) 109 rfl (by decide +kernel) (by decide +kernel)

theorem e_call6_v6 : fin m c main_call6_v6 = ((cmpi .sge) : (⟨S4x1024x1, .i32⟩ : BufTy).Contents (Elt F) → (⟨S4x1024x1, .i32⟩ : BufTy).Contents (Elt F) → (⟨S4x1024x1, .i1⟩ : BufTy).Contents (Elt F)) (fin m c main_call6_v4) (fin m c main_call6_v5) :=
  once2 wrote_eq (launchContents m c) 110 rfl (by decide +kernel) (by decide +kernel) (by decide +kernel)

theorem e_call6_v7 : fin m c main_call6_v7 = ((broadcastInDim S1x1x1 ![2] bcast_S1_S1x1x1_2) : (⟨S1, .i32⟩ : BufTy).Contents (Elt F) → (⟨S1x1x1, .i32⟩ : BufTy).Contents (Elt F)) (fin m c main_call6_c_1) :=
  once1 wrote_eq (launchContents m c) 111 rfl (by decide +kernel) (by decide +kernel)

theorem e_call6_v8 : fin m c main_call6_v8 = ((broadcastInDim S4x1024x1 ![0, 1, 2] bcast_S1x1x1_S4x1024x1_0_1_2) : (⟨S1x1x1, .i32⟩ : BufTy).Contents (Elt F) → (⟨S4x1024x1, .i32⟩ : BufTy).Contents (Elt F)) (fin m c main_call6_v7) :=
  once1 wrote_eq (launchContents m c) 112 rfl (by decide +kernel) (by decide +kernel)

theorem e_call6_v9 : fin m c main_call6_v9 = ((cmpi .sle) : (⟨S4x1024x1, .i32⟩ : BufTy).Contents (Elt F) → (⟨S4x1024x1, .i32⟩ : BufTy).Contents (Elt F) → (⟨S4x1024x1, .i1⟩ : BufTy).Contents (Elt F)) (fin m c main_call6_v4) (fin m c main_call6_v8) :=
  once2 wrote_eq (launchContents m c) 113 rfl (by decide +kernel) (by decide +kernel) (by decide +kernel)

theorem e_call6_v10 : fin m c main_call6_v10 = (andi : (⟨S4x1024x1, .i1⟩ : BufTy).Contents (Elt F) → (⟨S4x1024x1, .i1⟩ : BufTy).Contents (Elt F) → (⟨S4x1024x1, .i1⟩ : BufTy).Contents (Elt F)) (fin m c main_call6_v6) (fin m c main_call6_v9) :=
  once2 wrote_eq (launchContents m c) 114 rfl (by decide +kernel) (by decide +kernel) (by decide +kernel)

theorem e_call6_c_3 : fin m c main_call6_c_3 = ((constantI S_ 1 1#1) : (⟨S_, .i1⟩ : BufTy).Contents (Elt F)) :=
  once0 wrote_eq (launchContents m c) 115 rfl (by decide +kernel)

theorem e_call6_v11 : fin m c main_call6_v11 = ((fun x v => Host.reduce IntOp.andi x v reducesTo_S4x1024x1_S4x1024_d2 h_S_) : (⟨S4x1024x1, .i1⟩ : BufTy).Contents (Elt F) → (⟨S_, .i1⟩ : BufTy).Contents (Elt F) → (⟨S4x1024, .i1⟩ : BufTy).Contents (Elt F)) (fin m c main_call6_v10) (fin m c main_call6_c_3) :=
  once2 wrote_eq (launchContents m c) 116 rfl (by decide +kernel) (by decide +kernel) (by decide +kernel)

theorem e_call6_v12 : fin m c main_call6_v12 = ((fun x i => Host.gather gather_S4x2048x1024_S4x1024x1_S4x1024x1024_2_1_0_0_1_2_111024 x i) : (⟨S4x2048x1024, .f32⟩ : BufTy).Contents (Elt F) → (⟨S4x1024x1, .i32⟩ : BufTy).Contents (Elt F) → (⟨S4x1024x1024, .f32⟩ : BufTy).Contents (Elt F)) (fin m c main_v49) (fin m c main_call6_v4) :=
  once2 wrote_eq (launchContents m c) 117 rfl (by decide +kernel) (by decide +kernel) (by decide +kernel)

theorem e_call6_v13 : fin m c main_call6_v13 = ((broadcastInDim S4x1024x1024 ![0, 1] bcast_S4x1024_S4x1024x1024_0_1) : (⟨S4x1024, .i1⟩ : BufTy).Contents (Elt F) → (⟨S4x1024x1024, .i1⟩ : BufTy).Contents (Elt F)) (fin m c main_call6_v11) :=
  once1 wrote_eq (launchContents m c) 118 rfl (by decide +kernel) (by decide +kernel)

theorem e_call6_cst : fin m c main_call6_cst = ((constant S_ .f32 0x7FC00000#32) : (⟨S_, .f32⟩ : BufTy).Contents (Elt F)) :=
  once0 wrote_eq (launchContents m c) 119 rfl (by decide +kernel)

theorem e_call6_v14 : fin m c main_call6_v14 = ((broadcastInDim S4x1024x1024 ![] bcast_S_S4x1024x1024) : (⟨S_, .f32⟩ : BufTy).Contents (Elt F) → (⟨S4x1024x1024, .f32⟩ : BufTy).Contents (Elt F)) (fin m c main_call6_cst) :=
  once1 wrote_eq (launchContents m c) 120 rfl (by decide +kernel) (by decide +kernel)

theorem e_v52 : fin m c main_v52 = (select : (⟨S4x1024x1024, .i1⟩ : BufTy).Contents (Elt F) → (⟨S4x1024x1024, .f32⟩ : BufTy).Contents (Elt F) → (⟨S4x1024x1024, .f32⟩ : BufTy).Contents (Elt F) → (⟨S4x1024x1024, .f32⟩ : BufTy).Contents (Elt F)) (fin m c main_call6_v13) (fin m c main_call6_v12) (fin m c main_call6_v14) :=
  once3 wrote_eq (launchContents m c) 121 rfl (by decide +kernel) (by decide +kernel) (by decide +kernel) (by decide +kernel)

theorem e_v53 : fin m c main_v53 = (broadcastInDim S4x1024x1 ![0, 1] bcast_S4x1024_S4x1024x1_0_1 : (⟨S4x1024, .i32⟩ : BufTy).Contents (Elt F) → (⟨S4x1024x1, .i32⟩ : BufTy).Contents (Elt F)) (fin m c main_v31) :=
  once1 wrote_eq (launchContents m c) 122 rfl (by decide +kernel) (by decide +kernel)

theorem e_call7_c : fin m c main_call7_c = ((constantI S_ 32 0#32) : (⟨S_, .i32⟩ : BufTy).Contents (Elt F)) :=
  once0 wrote_eq (launchContents m c) 123 rfl (by decide +kernel)

theorem e_call7_v0 : fin m c main_call7_v0 = ((broadcastInDim S4x1024x1 ![] bcast_S_S4x1024x1) : (⟨S_, .i32⟩ : BufTy).Contents (Elt F) → (⟨S4x1024x1, .i32⟩ : BufTy).Contents (Elt F)) (fin m c main_call7_c) :=
  once1 wrote_eq (launchContents m c) 124 rfl (by decide +kernel) (by decide +kernel)

theorem e_call7_v1 : fin m c main_call7_v1 = ((cmpi .slt) : (⟨S4x1024x1, .i32⟩ : BufTy).Contents (Elt F) → (⟨S4x1024x1, .i32⟩ : BufTy).Contents (Elt F) → (⟨S4x1024x1, .i1⟩ : BufTy).Contents (Elt F)) (fin m c main_v53) (fin m c main_call7_v0) :=
  once2 wrote_eq (launchContents m c) 125 rfl (by decide +kernel) (by decide +kernel) (by decide +kernel)

theorem e_call7_c_0 : fin m c main_call7_c_0 = ((constantI S_ 32 2048#32) : (⟨S_, .i32⟩ : BufTy).Contents (Elt F)) :=
  once0 wrote_eq (launchContents m c) 126 rfl (by decide +kernel)

theorem e_call7_v2 : fin m c main_call7_v2 = ((broadcastInDim S4x1024x1 ![] bcast_S_S4x1024x1) : (⟨S_, .i32⟩ : BufTy).Contents (Elt F) → (⟨S4x1024x1, .i32⟩ : BufTy).Contents (Elt F)) (fin m c main_call7_c_0) :=
  once1 wrote_eq (launchContents m c) 127 rfl (by decide +kernel) (by decide +kernel)

theorem e_call7_v3 : fin m c main_call7_v3 = (addi : (⟨S4x1024x1, .i32⟩ : BufTy).Contents (Elt F) → (⟨S4x1024x1, .i32⟩ : BufTy).Contents (Elt F) → (⟨S4x1024x1, .i32⟩ : BufTy).Contents (Elt F)) (fin m c main_v53) (fin m c main_call7_v2) :=
  once2 wrote_eq (launchContents m c) 128 rfl (by decide +kernel) (by decide +kernel) (by decide +kernel)

theorem e_call7_v4 : fin m c main_call7_v4 = (select : (⟨S4x1024x1, .i1⟩ : BufTy).Contents (Elt F) → (⟨S4x1024x1, .i32⟩ : BufTy).Contents (Elt F) → (⟨S4x1024x1, .i32⟩ : BufTy).Contents (Elt F) → (⟨S4x1024x1, .i32⟩ : BufTy).Contents (Elt F)) (fin m c main_call7_v1) (fin m c main_call7_v3) (fin m c main_v53) :=
  once3 wrote_eq (launchContents m c) 129 rfl (by decide +kernel) (by decide +kernel) (by decide +kernel) (by decide +kernel)

theorem e_call7_c_1 : fin m c main_call7_c_1 = ((constantI S1 32 2047#32) : (⟨S1, .i32⟩ : BufTy).Contents (Elt F)) :=
  once0 wrote_eq (launchContents m c) 130 rfl (by decide +kernel)

theorem e_call7_c_2 : fin m c main_call7_c_2 = ((constantI S_ 32 0#32) : (⟨S_, .i32⟩ : BufTy).Contents (Elt F)) :=
  once0 wrote_eq (launchContents m c) 131 rfl (by decide +kernel)

theorem e_call7_v5 : fin m c main_call7_v5 = ((broadcastInDim S4x1024x1 ![] bcast_S_S4x1024x1) : (⟨S_, .i32⟩ : BufTy).Contents (Elt F) → (⟨S4x1024x1, .i32⟩ : BufTy).Contents (Elt F)) (fin m c main_call7_c_2) :=
  once1 wrote_eq (launchContents m c) 132 rfl (by decide +kernel) (by decide +kernel)

theorem e_call7_v6 : fin m c main_call7_v6 = ((cmpi .sge) : (⟨S4x1024x1, .i32⟩ : BufTy).Contents (Elt F) → (⟨S4x1024x1, .i32⟩ : BufTy).Contents (Elt F) → (⟨S4x1024x1, .i1⟩ : BufTy).Contents (Elt F)) (fin m c main_call7_v4) (fin m c main_call7_v5) :=
  once2 wrote_eq (launchContents m c) 133 rfl (by decide +kernel) (by decide +kernel) (by decide +kernel)

theorem e_call7_v7 : fin m c main_call7_v7 = ((broadcastInDim S1x1x1 ![2] bcast_S1_S1x1x1_2) : (⟨S1, .i32⟩ : BufTy).Contents (Elt F) → (⟨S1x1x1, .i32⟩ : BufTy).Contents (Elt F)) (fin m c main_call7_c_1) :=
  once1 wrote_eq (launchContents m c) 134 rfl (by decide +kernel) (by decide +kernel)

theorem e_call7_v8 : fin m c main_call7_v8 = ((broadcastInDim S4x1024x1 ![0, 1, 2] bcast_S1x1x1_S4x1024x1_0_1_2) : (⟨S1x1x1, .i32⟩ : BufTy).Contents (Elt F) → (⟨S4x1024x1, .i32⟩ : BufTy).Contents (Elt F)) (fin m c main_call7_v7) :=
  once1 wrote_eq (launchContents m c) 135 rfl (by decide +kernel) (by decide +kernel)

theorem e_call7_v9 : fin m c main_call7_v9 = ((cmpi .sle) : (⟨S4x1024x1, .i32⟩ : BufTy).Contents (Elt F) → (⟨S4x1024x1, .i32⟩ : BufTy).Contents (Elt F) → (⟨S4x1024x1, .i1⟩ : BufTy).Contents (Elt F)) (fin m c main_call7_v4) (fin m c main_call7_v8) :=
  once2 wrote_eq (launchContents m c) 136 rfl (by decide +kernel) (by decide +kernel) (by decide +kernel)

theorem e_call7_v10 : fin m c main_call7_v10 = (andi : (⟨S4x1024x1, .i1⟩ : BufTy).Contents (Elt F) → (⟨S4x1024x1, .i1⟩ : BufTy).Contents (Elt F) → (⟨S4x1024x1, .i1⟩ : BufTy).Contents (Elt F)) (fin m c main_call7_v6) (fin m c main_call7_v9) :=
  once2 wrote_eq (launchContents m c) 137 rfl (by decide +kernel) (by decide +kernel) (by decide +kernel)

theorem e_call7_c_3 : fin m c main_call7_c_3 = ((constantI S_ 1 1#1) : (⟨S_, .i1⟩ : BufTy).Contents (Elt F)) :=
  once0 wrote_eq (launchContents m c) 138 rfl (by decide +kernel)

theorem e_call7_v11 : fin m c main_call7_v11 = ((fun x v => Host.reduce IntOp.andi x v reducesTo_S4x1024x1_S4x1024_d2 h_S_) : (⟨S4x1024x1, .i1⟩ : BufTy).Contents (Elt F) → (⟨S_, .i1⟩ : BufTy).Contents (Elt F) → (⟨S4x1024, .i1⟩ : BufTy).Contents (Elt F)) (fin m c main_call7_v10) (fin m c main_call7_c_3) :=
  once2 wrote_eq (launchContents m c) 139 rfl (by decide +kernel) (by decide +kernel) (by decide +kernel)

theorem e_call7_v12 : fin m c main_call7_v12 = ((fun x i => Host.gather gather_S4x2048x1024_S4x1024x1_S4x1024x1024_2_1_0_0_1_2_111024 x i) : (⟨S4x2048x1024, .f32⟩ : BufTy).Contents (Elt F) → (⟨S4x1024x1, .i32⟩ : BufTy).Contents (Elt F) → (⟨S4x1024x1024, .f32⟩ : BufTy).Contents (Elt F)) (fin m c main_v49) (fin m c main_call7_v4) :=
  once2 wrote_eq (launchContents m c) 140 rfl (by decide +kernel) (by decide +kernel) (by decide +kernel)

theorem e_call7_v13 : fin m c main_call7_v13 = ((broadcastInDim S4x1024x1024 ![0, 1] bcast_S4x1024_S4x1024x1024_0_1) : (⟨S4x1024, .i1⟩ : BufTy).Contents (Elt F) → (⟨S4x1024x1024, .i1⟩ : BufTy).Contents (Elt F)) (fin m c main_call7_v11) :=
  once1 wrote_eq (launchContents m c) 141 rfl (by decide +kernel) (by decide +kernel)

theorem e_call7_cst : fin m c main_call7_cst = ((constant S_ .f32 0x7FC00000#32) : (⟨S_, .f32⟩ : BufTy).Contents (Elt F)) :=
  once0 wrote_eq (launchContents m c) 142 rfl (by decide +kernel)

theorem e_call7_v14 : fin m c main_call7_v14 = ((broadcastInDim S4x1024x1024 ![] bcast_S_S4x1024x1024) : (⟨S_, .f32⟩ : BufTy).Contents (Elt F) → (⟨S4x1024x1024, .f32⟩ : BufTy).Contents (Elt F)) (fin m c main_call7_cst) :=
  once1 wrote_eq (launchContents m c) 143 rfl (by decide +kernel) (by decide +kernel)

theorem e_v54 : fin m c main_v54 = (select : (⟨S4x1024x1024, .i1⟩ : BufTy).Contents (Elt F) → (⟨S4x1024x1024, .f32⟩ : BufTy).Contents (Elt F) → (⟨S4x1024x1024, .f32⟩ : BufTy).Contents (Elt F) → (⟨S4x1024x1024, .f32⟩ : BufTy).Contents (Elt F)) (fin m c main_call7_v13) (fin m c main_call7_v12) (fin m c main_call7_v14) :=
  once3 wrote_eq (launchContents m c) 144 rfl (by decide +kernel) (by decide +kernel) (by decide +kernel) (by decide +kernel)

theorem e_v55 : fin m c main_v55 = (iotaInDim S4 32 0) :=
  once0 wrote_eq (launchContents m c) 145 rfl (by decide +kernel)

theorem e_v56 : fin m c main_v56 = (broadcastInDim S4x1 ![0] bcast_S4_S4x1_0 : (⟨S4, .i32⟩ : BufTy).Contents (Elt F) → (⟨S4x1, .i32⟩ : BufTy).Contents (Elt F)) (fin m c main_v55) :=
  once1 wrote_eq (launchContents m c) 146 rfl (by decide +kernel) (by decide +kernel)

theorem e_c_11 : fin m c main_c_11 = (constantI S_ 32 0#32) :=
  once0 wrote_eq (launchContents m c) 147 rfl (by decide +kernel)

theorem e_v57 : fin m c main_v57 = (broadcastInDim S4x1 ![] bcast_S_S4x1 : (⟨S_, .i32⟩ : BufTy).Contents (Elt F) → (⟨S4x1, .i32⟩ : BufTy).Contents (Elt F)) (fin m c main_c_11) :=
  once1 wrote_eq (launchContents m c) 148 rfl (by decide +kernel) (by decide +kernel)

theorem e_v58 : fin m c main_v58 = (cmpi .slt : (⟨S4x1, .i32⟩ : BufTy).Contents (Elt F) → (⟨S4x1, .i32⟩ : BufTy).Contents (Elt F) → (⟨S4x1, .i1⟩ : BufTy).Contents (Elt F)) (fin m c main_v56) (fin m c main_v57) :=
  once2 wrote_eq (launchContents m c) 149 rfl (by decide +kernel) (by decide +kernel) (by decide +kernel)

theorem e_c_12 : fin m c main_c_12 = (constantI S_ 32 4#32) :=
  once0 wrote_eq (launchContents m c) 150 rfl (by decide +kernel)

theorem e_v59 : fin m c main_v59 = (broadcastInDim S4x1 ![] bcast_S_S4x1 : (⟨S_, .i32⟩ : BufTy).Contents (Elt F) → (⟨S4x1, .i32⟩ : BufTy).Contents (Elt F)) (fin m c main_c_12) :=
  once1 wrote_eq (launchContents m c) 151 rfl (by decide +kernel) (by decide +kernel)

theorem e_v60 : fin m c main_v60 = (addi : (⟨S4x1, .i32⟩ : BufTy).Contents (Elt F) → (⟨S4x1, .i32⟩ : BufTy).Contents (Elt F) → (⟨S4x1, .i32⟩ : BufTy).Contents (Elt F)) (fin m c main_v56) (fin m c main_v59) :=
  once2 wrote_eq (launchContents m c) 152 rfl (by decide +kernel) (by decide +kernel) (by decide +kernel)

theorem e_v61 : fin m c main_v61 = (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)) (fin m c main_v58) (fin m c main_v60) (fin m c main_v56) :=
  once3 wrote_eq (launchContents m c) 153 rfl (by decide +kernel) (by decide +kernel) (by decide +kernel) (by decide +kernel)

theorem e_c_13 : fin m c main_c_13 = (constantI S_ 32 0#32) :=
  once0 wrote_eq (launchContents m c) 154 rfl (by decide +kernel)

theorem e_v62 : fin m c main_v62 = (broadcastInDim S4x1024 ![] bcast_S_S4x1024 : (⟨S_, .i32⟩ : BufTy).Contents (Elt F) → (⟨S4x1024, .i32⟩ : BufTy).Contents (Elt F)) (fin m c main_c_13) :=
  once1 wrote_eq (launchContents m c) 155 rfl (by decide +kernel) (by decide +kernel)

theorem e_v63 : fin m c main_v63 = (cmpi .slt : (⟨S4x1024, .i32⟩ : BufTy).Contents (Elt F) → (⟨S4x1024, .i32⟩ : BufTy).Contents (Elt F) → (⟨S4x1024, .i1⟩ : BufTy).Contents (Elt F)) (fin m c main_v34) (fin m c main_v62) :=
  once2 wrote_eq (launchContents m c) 156 rfl (by decide +kernel) (by decide +kernel) (by decide +kernel)

theorem e_c_14 : fin m c main_c_14 = (constantI S_ 32 2048#32) :=
  once0 wrote_eq (launchContents m c) 157 rfl (by decide +kernel)

theorem e_v64 : fin m c main_v64 = (broadcastInDim S4x1024 ![] bcast_S_S4x1024 : (⟨S_, .i32⟩ : BufTy).Contents (Elt F) → (⟨S4x1024, .i32⟩ : BufTy).Contents (Elt F)) (fin m c main_c_14) :=
  once1 wrote_eq (launchContents m c) 158 rfl (by decide +kernel) (by decide +kernel)

theorem e_v65 : fin m c main_v65 = (addi : (⟨S4x1024, .i32⟩ : BufTy).Contents (Elt F) → (⟨S4x1024, .i32⟩ : BufTy).Contents (Elt F) → (⟨S4x1024, .i32⟩ : BufTy).Contents (Elt F)) (fin m c main_v34) (fin m c main_v64) :=
  once2 wrote_eq (launchContents m c) 159 rfl (by decide +kernel) (by decide +kernel) (by decide +kernel)

theorem e_v66 : fin m c main_v66 = (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)) (fin m c main_v63) (fin m c main_v65) (fin m c main_v34) :=
  once3 wrote_eq (launchContents m c) 160 rfl (by decide +kernel) (by decide +kernel) (by decide +kernel) (by decide +kernel)

theorem e_v67 : fin m c main_v67 = (broadcastInDim S4x1024 ![0, 1] bcast_S4x1_S4x1024_0_1 : (⟨S4x1, .i32⟩ : BufTy).Contents (Elt F) → (⟨S4x1024, .i32⟩ : BufTy).Contents (Elt F)) (fin m c main_v61) :=
  once1 wrote_eq (launchContents m c) 161 rfl (by decide +kernel) (by decide +kernel)

theorem e_v68 : fin m c main_v68 = (broadcastInDim S4x1024x1 ![0, 1] bcast_S4x1024_S4x1024x1_0_1 : (⟨S4x1024, .i32⟩ : BufTy).Contents (Elt F) → (⟨S4x1024x1, .i32⟩ : BufTy).Contents (Elt F)) (fin m c main_v67) :=
  once1 wrote_eq (launchContents m c) 162 rfl (by decide +kernel) (by decide +kernel)

theorem e_v69 : fin m c main_v69 = (broadcastInDim S4x1024x1 ![0, 1] bcast_S4x1024_S4x1024x1_0_1 : (⟨S4x1024, .i32⟩ : BufTy).Contents (Elt F) → (⟨S4x1024x1, .i32⟩ : BufTy).Contents (Elt F)) (fin m c main_v66) :=
  once1 wrote_eq (launchContents m c) 163 rfl (by decide +kernel) (by decide +kernel)

theorem e_v70 : fin m c main_v70 = ((fun a b => concatenate S4x1024x2 2 [⟨S4x1024x1, a⟩, ⟨S4x1024x1, b⟩] concatenates_S4x1024x1_S4x1024x1_S4x1024x2_d2) : (⟨S4x1024x1, .i32⟩ : BufTy).Contents (Elt F) → (⟨S4x1024x1, .i32⟩ : BufTy).Contents (Elt F) → (⟨S4x1024x2, .i32⟩ : BufTy).Contents (Elt F)) (fin m c main_v68) (fin m c main_v69) :=
  once2 wrote_eq (launchContents m c) 164 rfl (by decide +kernel) (by decide +kernel) (by decide +kernel)

theorem e_v71 : fin m c main_v71 = ((fun x i u => Host.scatterAdd scatter_S4x2048x1024_S4x1024x2_S4x1024x1024_2_01_01_2 x i u) : (⟨S4x2048x1024, .f32⟩ : BufTy).Contents (Elt F) → (⟨S4x1024x2, .i32⟩ : BufTy).Contents (Elt F) → (⟨S4x1024x1024, .f32⟩ : BufTy).Contents (Elt F) → (⟨S4x2048x1024, .f32⟩ : BufTy).Contents (Elt F)) (fin m c main_v50) (fin m c main_v70) (fin m c main_v54) :=
  once3 wrote_eq (launchContents m c) 165 rfl (by decide +kernel) (by decide +kernel) (by decide +kernel) (by decide +kernel)

theorem e_v72 : fin m c main_v72 = ((fun a b => concatenate S4x3072x1024 1 [⟨S4x1024x1024, a⟩, ⟨S4x2048x1024, b⟩] concatenates_S4x1024x1024_S4x2048x1024_S4x3072x1024_d1) : (⟨S4x1024x1024, .f32⟩ : BufTy).Contents (Elt F) → (⟨S4x2048x1024, .f32⟩ : BufTy).Contents (Elt F) → (⟨S4x3072x1024, .f32⟩ : BufTy).Contents (Elt F)) (fin m c main_v52) (fin m c main_v71) :=
  once2 wrote_eq (launchContents m c) 166 rfl (by decide +kernel) (by decide +kernel) (by decide +kernel)

theorem e_c_15 : fin m c main_c_15 = (constantI S_ 32 4294967295#32) :=
  once0 wrote_eq (launchContents m c) 167 rfl (by decide +kernel)

theorem e_v73 : fin m c main_v73 = (broadcastInDim S4x4096 ![] bcast_S_S4x4096 : (⟨S_, .i32⟩ : BufTy).Contents (Elt F) → (⟨S4x4096, .i32⟩ : BufTy).Contents (Elt F)) (fin m c main_c_15) :=
  once1 wrote_eq (launchContents m c) 168 rfl (by decide +kernel) (by decide +kernel)

theorem e_v74 : fin m c main_v74 = (iotaInDim S1024 32 0) :=
  once0 wrote_eq (launchContents m c) 169 rfl (by decide +kernel)

theorem e_v75 : fin m c main_v75 = (broadcastInDim S1x1024 ![1] bcast_S1024_S1x1024_1 : (⟨S1024, .i32⟩ : BufTy).Contents (Elt F) → (⟨S1x1024, .i32⟩ : BufTy).Contents (Elt F)) (fin m c main_v74) :=
  once1 wrote_eq (launchContents m c) 170 rfl (by decide +kernel) (by decide +kernel)

theorem e_v76 : fin m c main_v76 = (broadcastInDim S4x1024 ![0, 1] bcast_S1x1024_S4x1024_0_1 : (⟨S1x1024, .i32⟩ : BufTy).Contents (Elt F) → (⟨S4x1024, .i32⟩ : BufTy).Contents (Elt F)) (fin m c main_v75) :=
  once1 wrote_eq (launchContents m c) 171 rfl (by decide +kernel) (by decide +kernel)

theorem e_c_16 : fin m c main_c_16 = (constantI S_ 32 0#32) :=
  once0 wrote_eq (launchContents m c) 172 rfl (by decide +kernel)

theorem e_v77 : fin m c main_v77 = (broadcastInDim S4x1 ![] bcast_S_S4x1 : (⟨S_, .i32⟩ : BufTy).Contents (Elt F) → (⟨S4x1, .i32⟩ : BufTy).Contents (Elt F)) (fin m c main_c_16) :=
  once1 wrote_eq (launchContents m c) 173 rfl (by decide +kernel) (by decide +kernel)

theorem e_v78 : fin m c main_v78 = (cmpi .slt : (⟨S4x1, .i32⟩ : BufTy).Contents (Elt F) → (⟨S4x1, .i32⟩ : BufTy).Contents (Elt F) → (⟨S4x1, .i1⟩ : BufTy).Contents (Elt F)) (fin m c main_v56) (fin m c main_v77) :=
  once2 wrote_eq (launchContents m c) 174 rfl (by decide +kernel) (by decide +kernel) (by decide +kernel)

theorem e_c_17 : fin m c main_c_17 = (constantI S_ 32 4#32) :=
  once0 wrote_eq (launchContents m c) 175 rfl (by decide +kernel)

theorem e_v79 : fin m c main_v79 = (broadcastInDim S4x1 ![] bcast_S_S4x1 : (⟨S_, .i32⟩ : BufTy).Contents (Elt F) → (⟨S4x1, .i32⟩ : BufTy).Contents (Elt F)) (fin m c main_c_17) :=
  once1 wrote_eq (launchContents m c) 176 rfl (by decide +kernel) (by decide +kernel)

theorem e_v80 : fin m c main_v80 = (addi : (⟨S4x1, .i32⟩ : BufTy).Contents (Elt F) → (⟨S4x1, .i32⟩ : BufTy).Contents (Elt F) → (⟨S4x1, .i32⟩ : BufTy).Contents (Elt F)) (fin m c main_v56) (fin m c main_v79) :=
  once2 wrote_eq (launchContents m c) 177 rfl (by decide +kernel) (by decide +kernel) (by decide +kernel)

theorem e_v81 : fin m c main_v81 = (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)) (fin m c main_v78) (fin m c main_v80) (fin m c main_v56) :=
  once3 wrote_eq (launchContents m c) 178 rfl (by decide +kernel) (by decide +kernel) (by decide +kernel) (by decide +kernel)

theorem e_c_18 : fin m c main_c_18 = (constantI S_ 32 0#32) :=
  once0 wrote_eq (launchContents m c) 179 rfl (by decide +kernel)

theorem e_v82 : fin m c main_v82 = (broadcastInDim S4x1024 ![] bcast_S_S4x1024 : (⟨S_, .i32⟩ : BufTy).Contents (Elt F) → (⟨S4x1024, .i32⟩ : BufTy).Contents (Elt F)) (fin m c main_c_18) :=
  once1 wrote_eq (launchContents m c) 180 rfl (by decide +kernel) (by decide +kernel)

theorem e_v83 : fin m c main_v83 = (cmpi .slt : (⟨S4x1024, .i32⟩ : BufTy).Contents (Elt F) → (⟨S4x1024, .i32⟩ : BufTy).Contents (Elt F) → (⟨S4x1024, .i1⟩ : BufTy).Contents (Elt F)) (fin m c main_v48) (fin m c main_v82) :=
  once2 wrote_eq (launchContents m c) 181 rfl (by decide +kernel) (by decide +kernel) (by decide +kernel)

theorem e_c_19 : fin m c main_c_19 = (constantI S_ 32 4096#32) :=
  once0 wrote_eq (launchContents m c) 182 rfl (by decide +kernel)

theorem e_v84 : fin m c main_v84 = (broadcastInDim S4x1024 ![] bcast_S_S4x1024 : (⟨S_, .i32⟩ : BufTy).Contents (Elt F) → (⟨S4x1024, .i32⟩ : BufTy).Contents (Elt F)) (fin m c main_c_19) :=
  once1 wrote_eq (launchContents m c) 183 rfl (by decide +kernel) (by decide +kernel)

theorem e_v85 : fin m c main_v85 = (addi : (⟨S4x1024, .i32⟩ : BufTy).Contents (Elt F) → (⟨S4x1024, .i32⟩ : BufTy).Contents (Elt F) → (⟨S4x1024, .i32⟩ : BufTy).Contents (Elt F)) (fin m c main_v48) (fin m c main_v84) :=
  once2 wrote_eq (launchContents m c) 184 rfl (by decide +kernel) (by decide +kernel) (by decide +kernel)

theorem e_v86 : fin m c main_v86 = (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)) (fin m c main_v83) (fin m c main_v85) (fin m c main_v48) :=
  once3 wrote_eq (launchContents m c) 185 rfl (by decide +kernel) (by decide +kernel) (by decide +kernel) (by decide +kernel)

theorem e_v87 : fin m c main_v87 = (broadcastInDim S4x1024 ![0, 1] bcast_S4x1_S4x1024_0_1 : (⟨S4x1, .i32⟩ : BufTy).Contents (Elt F) → (⟨S4x1024, .i32⟩ : BufTy).Contents (Elt F)) (fin m c main_v81) :=
  once1 wrote_eq (launchContents m c) 186 rfl (by decide +kernel) (by decide +kernel)

theorem e_v88 : fin m c main_v88 = (broadcastInDim S4x1024x1 ![0, 1] bcast_S4x1024_S4x1024x1_0_1 : (⟨S4x1024, .i32⟩ : BufTy).Contents (Elt F) → (⟨S4x1024x1, .i32⟩ : BufTy).Contents (Elt F)) (fin m c main_v87) :=
  once1 wrote_eq (launchContents m c) 187 rfl (by decide +kernel) (by decide +kernel)

theorem e_v89 : fin m c main_v89 = (broadcastInDim S4x1024x1 ![0, 1] bcast_S4x1024_S4x1024x1_0_1 : (⟨S4x1024, .i32⟩ : BufTy).Contents (Elt F) → (⟨S4x1024x1, .i32⟩ : BufTy).Contents (Elt F)) (fin m c main_v86) :=
  once1 wrote_eq (launchContents m c) 188 rfl (by decide +kernel) (by decide +kernel)

theorem e_v90 : fin m c main_v90 = ((fun a b => concatenate S4x1024x2 2 [⟨S4x1024x1, a⟩, ⟨S4x1024x1, b⟩] concatenates_S4x1024x1_S4x1024x1_S4x1024x2_d2) : (⟨S4x1024x1, .i32⟩ : BufTy).Contents (Elt F) → (⟨S4x1024x1, .i32⟩ : BufTy).Contents (Elt F) → (⟨S4x1024x2, .i32⟩ : BufTy).Contents (Elt F)) (fin m c main_v88) (fin m c main_v89) :=
  once2 wrote_eq (launchContents m c) 189 rfl (by decide +kernel) (by decide +kernel) (by decide +kernel)

theorem e_v91 : fin m c main_v91 = ((fun x i u => Host.scatter scatter_S4x4096_S4x1024x2_S4x1024_n_01_01_2 (fun _ b => b) x i u) : (⟨S4x4096, .i32⟩ : BufTy).Contents (Elt F) → (⟨S4x1024x2, .i32⟩ : BufTy).Contents (Elt F) → (⟨S4x1024, .i32⟩ : BufTy).Contents (Elt F) → (⟨S4x4096, .i32⟩ : BufTy).Contents (Elt F)) (fin m c main_v73) (fin m c main_v90) (fin m c main_v76) :=
  once3 wrote_eq (launchContents m c) 190 rfl (by decide +kernel) (by decide +kernel) (by decide +kernel) (by decide +kernel)

theorem e_v92 : fin m c main_v92 = (iotaInDim S2048 32 0) :=
  once0 wrote_eq (launchContents m c) 191 rfl (by decide +kernel)

theorem e_v93 : fin m c main_v93 = (broadcastInDim S1x2048 ![1] bcast_S2048_S1x2048_1 : (⟨S2048, .i32⟩ : BufTy).Contents (Elt F) → (⟨S1x2048, .i32⟩ : BufTy).Contents (Elt F)) (fin m c main_v92) :=
  once1 wrote_eq (launchContents m c) 192 rfl (by decide +kernel) (by decide +kernel)

theorem e_c_20 : fin m c main_c_20 = (constantI S_ 32 1024#32) :=
  once0 wrote_eq (launchContents m c) 193 rfl (by decide +kernel)

theorem e_v94 : fin m c main_v94 = (broadcastInDim S1x2048 ![] bcast_S_S1x2048 : (⟨S_, .i32⟩ : BufTy).Contents (Elt F) → (⟨S1x2048, .i32⟩ : BufTy).Contents (Elt F)) (fin m c main_c_20) :=
  once1 wrote_eq (launchContents m c) 194 rfl (by decide +kernel) (by decide +kernel)

theorem e_v95 : fin m c main_v95 = (addi : (⟨S1x2048, .i32⟩ : BufTy).Contents (Elt F) → (⟨S1x2048, .i32⟩ : BufTy).Contents (Elt F) → (⟨S1x2048, .i32⟩ : BufTy).Contents (Elt F)) (fin m c main_v94) (fin m c main_v93) :=
  once2 wrote_eq (launchContents m c) 195 rfl (by decide +kernel) (by decide +kernel) (by decide +kernel)

theorem e_v96 : fin m c main_v96 = (broadcastInDim S4x2048 ![0, 1] bcast_S1x2048_S4x2048_0_1 : (⟨S1x2048, .i32⟩ : BufTy).Contents (Elt F) → (⟨S4x2048, .i32⟩ : BufTy).Contents (Elt F)) (fin m c main_v95) :=
  once1 wrote_eq (launchContents m c) 196 rfl (by decide +kernel) (by decide +kernel)

end Cert.Proof.Ref
-- ==== Proof.RefEq2.lean ====
module

public import proofs.«01_k».proof.Proof.RefOnce
/-! The equations of part 2. -/

@[expose] public noncomputable section

namespace Cert.Proof.Ref

open Cert.ReferenceIdeal Cert.ReferenceIdeal.Gen
open Idealize.ShloMosaic Idealize.ShloMosaic.StableHlo
open Idealize.SL Idealize.SL.Sem

variable {F : FTy → Type} [FloatOps F]

set_option maxRecDepth 8000

variable (m : (ℓ : Loc nD τ sig) → Buf (Elt F) ℓ) (c : Dev nD)

theorem e_v97 : fin m c main_v97 = (broadcastInDim S1x2048 ![1] bcast_S2048_S1x2048_1 : (⟨S2048, .i32⟩ : BufTy).Contents (Elt F) → (⟨S1x2048, .i32⟩ : BufTy).Contents (Elt F)) (fin m c main_v9) :=
  once1 wrote_eq (launchContents m c) 197 rfl (by decide +kernel) (by decide +kernel)

theorem e_v98 : fin m c main_v98 = (broadcastInDim S4x2048 ![0, 1] bcast_S1x2048_S4x2048_0_1 : (⟨S1x2048, .i32⟩ : BufTy).Contents (Elt F) → (⟨S4x2048, .i32⟩ : BufTy).Contents (Elt F)) (fin m c main_v97) :=
  once1 wrote_eq (launchContents m c) 198 rfl (by decide +kernel) (by decide +kernel)

theorem e_c_21 : fin m c main_c_21 = (constantI S_ 32 0#32) :=
  once0 wrote_eq (launchContents m c) 199 rfl (by decide +kernel)

theorem e_v99 : fin m c main_v99 = (broadcastInDim S4x1 ![] bcast_S_S4x1 : (⟨S_, .i32⟩ : BufTy).Contents (Elt F) → (⟨S4x1, .i32⟩ : BufTy).Contents (Elt F)) (fin m c main_c_21) :=
  once1 wrote_eq (launchContents m c) 200 rfl (by decide +kernel) (by decide +kernel)

theorem e_v100 : fin m c main_v100 = (cmpi .slt : (⟨S4x1, .i32⟩ : BufTy).Contents (Elt F) → (⟨S4x1, .i32⟩ : BufTy).Contents (Elt F) → (⟨S4x1, .i1⟩ : BufTy).Contents (Elt F)) (fin m c main_v56) (fin m c main_v99) :=
  once2 wrote_eq (launchContents m c) 201 rfl (by decide +kernel) (by decide +kernel) (by decide +kernel)

theorem e_c_22 : fin m c main_c_22 = (constantI S_ 32 4#32) :=
  once0 wrote_eq (launchContents m c) 202 rfl (by decide +kernel)

theorem e_v101 : fin m c main_v101 = (broadcastInDim S4x1 ![] bcast_S_S4x1 : (⟨S_, .i32⟩ : BufTy).Contents (Elt F) → (⟨S4x1, .i32⟩ : BufTy).Contents (Elt F)) (fin m c main_c_22) :=
  once1 wrote_eq (launchContents m c) 203 rfl (by decide +kernel) (by decide +kernel)

theorem e_v102 : fin m c main_v102 = (addi : (⟨S4x1, .i32⟩ : BufTy).Contents (Elt F) → (⟨S4x1, .i32⟩ : BufTy).Contents (Elt F) → (⟨S4x1, .i32⟩ : BufTy).Contents (Elt F)) (fin m c main_v56) (fin m c main_v101) :=
  once2 wrote_eq (launchContents m c) 204 rfl (by decide +kernel) (by decide +kernel) (by decide +kernel)

theorem e_v103 : fin m c main_v103 = (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)) (fin m c main_v100) (fin m c main_v102) (fin m c main_v56) :=
  once3 wrote_eq (launchContents m c) 205 rfl (by decide +kernel) (by decide +kernel) (by decide +kernel) (by decide +kernel)

theorem e_c_23 : fin m c main_c_23 = (constantI S_ 32 0#32) :=
  once0 wrote_eq (launchContents m c) 206 rfl (by decide +kernel)

theorem e_v104 : fin m c main_v104 = (broadcastInDim S4x2048 ![] bcast_S_S4x2048 : (⟨S_, .i32⟩ : BufTy).Contents (Elt F) → (⟨S4x2048, .i32⟩ : BufTy).Contents (Elt F)) (fin m c main_c_23) :=
  once1 wrote_eq (launchContents m c) 207 rfl (by decide +kernel) (by decide +kernel)

theorem e_v105 : fin m c main_v105 = (cmpi .slt : (⟨S4x2048, .i32⟩ : BufTy).Contents (Elt F) → (⟨S4x2048, .i32⟩ : BufTy).Contents (Elt F) → (⟨S4x2048, .i1⟩ : BufTy).Contents (Elt F)) (fin m c main_v98) (fin m c main_v104) :=
  once2 wrote_eq (launchContents m c) 208 rfl (by decide +kernel) (by decide +kernel) (by decide +kernel)

theorem e_c_24 : fin m c main_c_24 = (constantI S_ 32 4096#32) :=
  once0 wrote_eq (launchContents m c) 209 rfl (by decide +kernel)

theorem e_v106 : fin m c main_v106 = (broadcastInDim S4x2048 ![] bcast_S_S4x2048 : (⟨S_, .i32⟩ : BufTy).Contents (Elt F) → (⟨S4x2048, .i32⟩ : BufTy).Contents (Elt F)) (fin m c main_c_24) :=
  once1 wrote_eq (launchContents m c) 210 rfl (by decide +kernel) (by decide +kernel)

theorem e_v107 : fin m c main_v107 = (addi : (⟨S4x2048, .i32⟩ : BufTy).Contents (Elt F) → (⟨S4x2048, .i32⟩ : BufTy).Contents (Elt F) → (⟨S4x2048, .i32⟩ : BufTy).Contents (Elt F)) (fin m c main_v98) (fin m c main_v106) :=
  once2 wrote_eq (launchContents m c) 211 rfl (by decide +kernel) (by decide +kernel) (by decide +kernel)

theorem e_v108 : fin m c main_v108 = (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)) (fin m c main_v105) (fin m c main_v107) (fin m c main_v98) :=
  once3 wrote_eq (launchContents m c) 212 rfl (by decide +kernel) (by decide +kernel) (by decide +kernel) (by decide +kernel)

theorem e_v109 : fin m c main_v109 = (broadcastInDim S4x2048 ![0, 1] bcast_S4x1_S4x2048_0_1 : (⟨S4x1, .i32⟩ : BufTy).Contents (Elt F) → (⟨S4x2048, .i32⟩ : BufTy).Contents (Elt F)) (fin m c main_v103) :=
  once1 wrote_eq (launchContents m c) 213 rfl (by decide +kernel) (by decide +kernel)

theorem e_v110 : fin m c main_v110 = (broadcastInDim S4x2048x1 ![0, 1] bcast_S4x2048_S4x2048x1_0_1 : (⟨S4x2048, .i32⟩ : BufTy).Contents (Elt F) → (⟨S4x2048x1, .i32⟩ : BufTy).Contents (Elt F)) (fin m c main_v109) :=
  once1 wrote_eq (launchContents m c) 214 rfl (by decide +kernel) (by decide +kernel)

theorem e_v111 : fin m c main_v111 = (broadcastInDim S4x2048x1 ![0, 1] bcast_S4x2048_S4x2048x1_0_1 : (⟨S4x2048, .i32⟩ : BufTy).Contents (Elt F) → (⟨S4x2048x1, .i32⟩ : BufTy).Contents (Elt F)) (fin m c main_v108) :=
  once1 wrote_eq (launchContents m c) 215 rfl (by decide +kernel) (by decide +kernel)

theorem e_v112 : fin m c main_v112 = ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F)) (fin m c main_v110) (fin m c main_v111) :=
  once2 wrote_eq (launchContents m c) 216 rfl (by decide +kernel) (by decide +kernel) (by decide +kernel)

theorem e_v113 : fin m c main_v113 = ((fun x i u => Host.scatter scatter_S4x4096_S4x2048x2_S4x2048_n_01_01_2 (fun _ b => b) x i u) : (⟨S4x4096, .i32⟩ : BufTy).Contents (Elt F) → (⟨S4x2048x2, .i32⟩ : BufTy).Contents (Elt F) → (⟨S4x2048, .i32⟩ : BufTy).Contents (Elt F) → (⟨S4x4096, .i32⟩ : BufTy).Contents (Elt F)) (fin m c main_v91) (fin m c main_v112) (fin m c main_v96) :=
  once3 wrote_eq (launchContents m c) 217 rfl (by decide +kernel) (by decide +kernel) (by decide +kernel) (by decide +kernel)

theorem e_c_25 : fin m c main_c_25 = (constantI S_ 32 1024#32) :=
  once0 wrote_eq (launchContents m c) 218 rfl (by decide +kernel)

theorem e_v114 : fin m c main_v114 = (broadcastInDim S4x1024 ![] bcast_S_S4x1024 : (⟨S_, .i32⟩ : BufTy).Contents (Elt F) → (⟨S4x1024, .i32⟩ : BufTy).Contents (Elt F)) (fin m c main_c_25) :=
  once1 wrote_eq (launchContents m c) 219 rfl (by decide +kernel) (by decide +kernel)

theorem e_v115 : fin m c main_v115 = (addi : (⟨S4x1024, .i32⟩ : BufTy).Contents (Elt F) → (⟨S4x1024, .i32⟩ : BufTy).Contents (Elt F) → (⟨S4x1024, .i32⟩ : BufTy).Contents (Elt F)) (fin m c main_v114) (fin m c main_v34) :=
  once2 wrote_eq (launchContents m c) 220 rfl (by decide +kernel) (by decide +kernel) (by decide +kernel)

theorem e_c_26 : fin m c main_c_26 = (constantI S_ 32 0#32) :=
  once0 wrote_eq (launchContents m c) 221 rfl (by decide +kernel)

theorem e_v116 : fin m c main_v116 = (broadcastInDim S4x1 ![] bcast_S_S4x1 : (⟨S_, .i32⟩ : BufTy).Contents (Elt F) → (⟨S4x1, .i32⟩ : BufTy).Contents (Elt F)) (fin m c main_c_26) :=
  once1 wrote_eq (launchContents m c) 222 rfl (by decide +kernel) (by decide +kernel)

theorem e_v117 : fin m c main_v117 = (cmpi .slt : (⟨S4x1, .i32⟩ : BufTy).Contents (Elt F) → (⟨S4x1, .i32⟩ : BufTy).Contents (Elt F) → (⟨S4x1, .i1⟩ : BufTy).Contents (Elt F)) (fin m c main_v56) (fin m c main_v116) :=
  once2 wrote_eq (launchContents m c) 223 rfl (by decide +kernel) (by decide +kernel) (by decide +kernel)

theorem e_c_27 : fin m c main_c_27 = (constantI S_ 32 4#32) :=
  once0 wrote_eq (launchContents m c) 224 rfl (by decide +kernel)

theorem e_v118 : fin m c main_v118 = (broadcastInDim S4x1 ![] bcast_S_S4x1 : (⟨S_, .i32⟩ : BufTy).Contents (Elt F) → (⟨S4x1, .i32⟩ : BufTy).Contents (Elt F)) (fin m c main_c_27) :=
  once1 wrote_eq (launchContents m c) 225 rfl (by decide +kernel) (by decide +kernel)

theorem e_v119 : fin m c main_v119 = (addi : (⟨S4x1, .i32⟩ : BufTy).Contents (Elt F) → (⟨S4x1, .i32⟩ : BufTy).Contents (Elt F) → (⟨S4x1, .i32⟩ : BufTy).Contents (Elt F)) (fin m c main_v56) (fin m c main_v118) :=
  once2 wrote_eq (launchContents m c) 226 rfl (by decide +kernel) (by decide +kernel) (by decide +kernel)

theorem e_v120 : fin m c main_v120 = (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)) (fin m c main_v117) (fin m c main_v119) (fin m c main_v56) :=
  once3 wrote_eq (launchContents m c) 227 rfl (by decide +kernel) (by decide +kernel) (by decide +kernel) (by decide +kernel)

theorem e_c_28 : fin m c main_c_28 = (constantI S_ 32 0#32) :=
  once0 wrote_eq (launchContents m c) 228 rfl (by decide +kernel)

theorem e_v121 : fin m c main_v121 = (broadcastInDim S4x1024 ![] bcast_S_S4x1024 : (⟨S_, .i32⟩ : BufTy).Contents (Elt F) → (⟨S4x1024, .i32⟩ : BufTy).Contents (Elt F)) (fin m c main_c_28) :=
  once1 wrote_eq (launchContents m c) 229 rfl (by decide +kernel) (by decide +kernel)

theorem e_v122 : fin m c main_v122 = (cmpi .slt : (⟨S4x1024, .i32⟩ : BufTy).Contents (Elt F) → (⟨S4x1024, .i32⟩ : BufTy).Contents (Elt F) → (⟨S4x1024, .i1⟩ : BufTy).Contents (Elt F)) (fin m c main_v41) (fin m c main_v121) :=
  once2 wrote_eq (launchContents m c) 230 rfl (by decide +kernel) (by decide +kernel) (by decide +kernel)

theorem e_c_29 : fin m c main_c_29 = (constantI S_ 32 4096#32) :=
  once0 wrote_eq (launchContents m c) 231 rfl (by decide +kernel)

theorem e_v123 : fin m c main_v123 = (broadcastInDim S4x1024 ![] bcast_S_S4x1024 : (⟨S_, .i32⟩ : BufTy).Contents (Elt F) → (⟨S4x1024, .i32⟩ : BufTy).Contents (Elt F)) (fin m c main_c_29) :=
  once1 wrote_eq (launchContents m c) 232 rfl (by decide +kernel) (by decide +kernel)

theorem e_v124 : fin m c main_v124 = (addi : (⟨S4x1024, .i32⟩ : BufTy).Contents (Elt F) → (⟨S4x1024, .i32⟩ : BufTy).Contents (Elt F) → (⟨S4x1024, .i32⟩ : BufTy).Contents (Elt F)) (fin m c main_v41) (fin m c main_v123) :=
  once2 wrote_eq (launchContents m c) 233 rfl (by decide +kernel) (by decide +kernel) (by decide +kernel)

theorem e_v125 : fin m c main_v125 = (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)) (fin m c main_v122) (fin m c main_v124) (fin m c main_v41) :=
  once3 wrote_eq (launchContents m c) 234 rfl (by decide +kernel) (by decide +kernel) (by decide +kernel) (by decide +kernel)

theorem e_v126 : fin m c main_v126 = (broadcastInDim S4x1024 ![0, 1] bcast_S4x1_S4x1024_0_1 : (⟨S4x1, .i32⟩ : BufTy).Contents (Elt F) → (⟨S4x1024, .i32⟩ : BufTy).Contents (Elt F)) (fin m c main_v120) :=
  once1 wrote_eq (launchContents m c) 235 rfl (by decide +kernel) (by decide +kernel)

theorem e_v127 : fin m c main_v127 = (broadcastInDim S4x1024x1 ![0, 1] bcast_S4x1024_S4x1024x1_0_1 : (⟨S4x1024, .i32⟩ : BufTy).Contents (Elt F) → (⟨S4x1024x1, .i32⟩ : BufTy).Contents (Elt F)) (fin m c main_v126) :=
  once1 wrote_eq (launchContents m c) 236 rfl (by decide +kernel) (by decide +kernel)

theorem e_v128 : fin m c main_v128 = (broadcastInDim S4x1024x1 ![0, 1] bcast_S4x1024_S4x1024x1_0_1 : (⟨S4x1024, .i32⟩ : BufTy).Contents (Elt F) → (⟨S4x1024x1, .i32⟩ : BufTy).Contents (Elt F)) (fin m c main_v125) :=
  once1 wrote_eq (launchContents m c) 237 rfl (by decide +kernel) (by decide +kernel)

theorem e_v129 : fin m c main_v129 = ((fun a b => concatenate S4x1024x2 2 [⟨S4x1024x1, a⟩, ⟨S4x1024x1, b⟩] concatenates_S4x1024x1_S4x1024x1_S4x1024x2_d2) : (⟨S4x1024x1, .i32⟩ : BufTy).Contents (Elt F) → (⟨S4x1024x1, .i32⟩ : BufTy).Contents (Elt F) → (⟨S4x1024x2, .i32⟩ : BufTy).Contents (Elt F)) (fin m c main_v127) (fin m c main_v128) :=
  once2 wrote_eq (launchContents m c) 238 rfl (by decide +kernel) (by decide +kernel) (by decide +kernel)

theorem e_v130 : fin m c main_v130 = ((fun x i u => Host.scatter scatter_S4x4096_S4x1024x2_S4x1024_n_01_01_2 (fun _ b => b) x i u) : (⟨S4x4096, .i32⟩ : BufTy).Contents (Elt F) → (⟨S4x1024x2, .i32⟩ : BufTy).Contents (Elt F) → (⟨S4x1024, .i32⟩ : BufTy).Contents (Elt F) → (⟨S4x4096, .i32⟩ : BufTy).Contents (Elt F)) (fin m c main_v113) (fin m c main_v129) (fin m c main_v115) :=
  once3 wrote_eq (launchContents m c) 239 rfl (by decide +kernel) (by decide +kernel) (by decide +kernel) (by decide +kernel)

end Cert.Proof.Ref
-- ==== Proof.RefOps.lean ====
module

public import proofs.«01_k».proof.Proof.RefOnce
public import proofs.«01_k».proof.Proof.Spec
public import Idealize.ShloMosaic.Lib.Pointwise
public import Idealize.ShloMosaic.Lib.Routing.OpsSet

/-! The gathers and the scatters of the reference, read at one element. -/

@[expose] public noncomputable section

namespace Cert.Proof.Ref

open Cert.ReferenceIdeal Cert.ReferenceIdeal.Gen
open Idealize.ShloMosaic Idealize.ShloMosaic.StableHlo
open Idealize.SL Idealize.SL.Sem
open Cert.Proof.Order

set_option maxHeartbeats 400000

theorem take1 {α : Type} (x : S2048.Idx → α) (i : S4x1024x1.Idx → BitVec 32) (b : Fin 4) (u : Fin 1024) (n : Fin 2048)
    (h : i (ix3 b u 0) = BitVec.ofNat 32 n.val) :
    Host.gather gather_S2048_S4x1024x1_S4x1024_n_0_n_n_0_2_1 x i (ix2 b u) = x (ix1 n) := by
  unfold Host.gather
  refine congrArg x (funext fun a => Fin.ext ?_)
  have hn := n.isLt
  match a with
  | ⟨0, _⟩ =>
    have hs : gather_S2048_S4x1024x1_S4x1024_n_0_n_n_0_2_1.siIdx (ix2 b u) ⟨0, by decide⟩ = ix3 b u 0 := by
      funext q
      match q with
      | ⟨0, _⟩ => rfl
      | ⟨1, _⟩ => rfl
      | ⟨2, _⟩ => rfl
    show min (i (gather_S2048_S4x1024x1_S4x1024_n_0_n_n_0_2_1.siIdx (ix2 b u) ⟨0, by decide⟩)).toInt.toNat 2047 + 0 + 0 = n.val
    rw [hs, h, toInt_ofNat (n := n.val) (by omega)]
    omega

theorem take2 {α : Type} (x : S4x2048.Idx → α) (i : S4x1024x1.Idx → BitVec 32) (b : Fin 4) (u : Fin 1024) (n : Fin 2048)
    (h : i (ix3 b u 0) = BitVec.ofNat 32 n.val) :
    Host.gather gather_S4x2048_S4x1024x1_S4x1024_n_1_0_0_1_2_11 x i (ix2 b u) = x (ix2 b n) := by
  unfold Host.gather
  refine congrArg x (funext fun a => Fin.ext ?_)
  have hn := n.isLt
  match a with
  | ⟨0, _⟩ =>
    show 0 + b.val + 0 = b.val
    omega
  | ⟨1, _⟩ =>
    have hs : gather_S4x2048_S4x1024x1_S4x1024_n_1_0_0_1_2_11.siIdx (ix2 b u) ⟨0, by decide⟩ = ix3 b u 0 := by
      funext q
      match q with
      | ⟨0, _⟩ => rfl
      | ⟨1, _⟩ => rfl
      | ⟨2, _⟩ => rfl
    show min (i (gather_S4x2048_S4x1024x1_S4x1024_n_1_0_0_1_2_11.siIdx (ix2 b u) ⟨0, by decide⟩)).toInt.toNat 2047 + 0 + 0 = n.val
    rw [hs, h, toInt_ofNat (n := n.val) (by omega)]
    omega

theorem take3 {α : Type} (x : S4x2048x1024.Idx → α) (i : S4x1024x1.Idx → BitVec 32) (b : Fin 4) (u : Fin 1024) (d : Fin 1024) (n : Fin 2048)
    (h : i (ix3 b u 0) = BitVec.ofNat 32 n.val) :
    Host.gather gather_S4x2048x1024_S4x1024x1_S4x1024x1024_2_1_0_0_1_2_111024 x i (ix3 b u d) = x (ix3 b n d) := by
  unfold Host.gather
  refine congrArg x (funext fun a => Fin.ext ?_)
  have hn := n.isLt
  match a with
  | ⟨0, _⟩ =>
    show 0 + b.val + 0 = b.val
    omega
  | ⟨1, _⟩ =>
    have hs : gather_S4x2048x1024_S4x1024x1_S4x1024x1024_2_1_0_0_1_2_111024.siIdx (ix3 b u d) ⟨0, by decide⟩ = ix3 b u 0 := by
      funext q
      match q with
      | ⟨0, _⟩ => rfl
      | ⟨1, _⟩ => rfl
      | ⟨2, _⟩ => rfl
    show min (i (gather_S4x2048x1024_S4x1024x1_S4x1024x1024_2_1_0_0_1_2_111024.siIdx (ix3 b u d) ⟨0, by decide⟩)).toInt.toNat 2047 + 0 + 0 = n.val
    rw [hs, h, toInt_ofNat (n := n.val) (by omega)]
    omega
  | ⟨2, _⟩ =>
    show 0 + 0 + d.val = d.val
    omega

/-- A row of a table set to one value, the row's number being zero. -/
theorem setRow {α : Type} (x : S4x2048x2048.Idx → α) (i : S1.Idx → BitVec 32) (hi : ∀ j, i j = 0#32) (upd : S4x2048.Idx → α) (v : α) (hv : ∀ j, upd j = v)
    (b : Fin 4) (l q : Fin 2048) :
    Host.scatter scatter_S4x2048x2048_S1_S4x2048_01_1_1_0 (fun _ b => b) x i upd (ix3 b l q) = if l.val = 0 then v else x (ix3 b l q) := by
  by_cases hl : l.val = 0
  · rw [if_pos hl]
    refine Routing.scatter_set_hit _ x i upd _ v (fun k _ => hv k) (ix2 b q) ((Routing.resultIdx?_eq_some _ _ _ _).2 fun a => ?_)
    match a with
    | ⟨0, _⟩ => show (0 : Int) + ((b.val : ℕ) : Int) = b.val; omega
    | ⟨1, _⟩ =>
      show (i _).toInt + ((0 : ℕ) : Int) = l.val
      rw [hi, hl]; rfl
    | ⟨2, _⟩ => show (0 : Int) + ((q.val : ℕ) : Int) = q.val; omega
  · rw [if_neg hl]
    refine Routing.scatter_set_miss _ x i upd _ fun k hk => hl ?_
    have h := (Routing.resultIdx?_eq_some _ _ _ _).1 hk ⟨1, by decide⟩
    have h' : (i _).toInt + ((0 : ℕ) : Int) = l.val := h
    rw [hi] at h'
    have h0 : (0#32 : BitVec 32).toInt = 0 := rfl
    rw [h0] at h'
    omega

/-- Where a row of updates lands. -/
theorem lands3 (i : S4x1024x2.Idx → BitVec 32) (a : Fin 4) (p : Fin 1024) (e : Fin 1024) (b : Fin 4) (q : Fin 2048) (d : Fin 1024) :
    scatter_S4x2048x1024_S4x1024x2_S4x1024x1024_2_01_01_2.resultIdx? (ix3 a p e) i = some (ix3 b q d)
      ↔ (i (ix3 a p 0)).toInt = b.val ∧ (i (ix3 a p 1)).toInt = q.val ∧ e = d := by
  have hs : ∀ y : Fin 2, scatter_S4x2048x1024_S4x1024x2_S4x1024x1024_2_01_01_2.siIdx (ix3 a p e) y = ix3 a p y := fun y => by
    funext z
    match z with
    | ⟨0, _⟩ => rfl
    | ⟨1, _⟩ => rfl
    | ⟨2, _⟩ => rfl
  have e0 : scatter_S4x2048x1024_S4x1024x2_S4x1024x1024_2_01_01_2.start (ix3 a p e) i ⟨0, by decide⟩ = (i (ix3 a p 0)).toInt := by
    rw [← hs 0]; rfl
  have e1 : scatter_S4x2048x1024_S4x1024x2_S4x1024x1024_2_01_01_2.start (ix3 a p e) i ⟨1, by decide⟩ = (i (ix3 a p 1)).toInt := by
    rw [← hs 1]; rfl
  have e2 : scatter_S4x2048x1024_S4x1024x2_S4x1024x1024_2_01_01_2.start (ix3 a p e) i ⟨2, by decide⟩ = 0 := rfl
  have w0 : scatter_S4x2048x1024_S4x1024x2_S4x1024x1024_2_01_01_2.window (ix3 a p e) ⟨0, by decide⟩ = 0 := rfl
  have w1 : scatter_S4x2048x1024_S4x1024x2_S4x1024x1024_2_01_01_2.window (ix3 a p e) ⟨1, by decide⟩ = 0 := rfl
  have w2 : scatter_S4x2048x1024_S4x1024x2_S4x1024x1024_2_01_01_2.window (ix3 a p e) ⟨2, by decide⟩ = e.val := rfl
  rw [Routing.resultIdx?_eq_some]
  constructor
  · intro h
    have h0 := h ⟨0, by decide⟩
    have h1 := h ⟨1, by decide⟩
    have h2 := h ⟨2, by decide⟩
    rw [e0, w0] at h0
    rw [e1, w1] at h1
    rw [e2, w2] at h2
    have h0' : (i (ix3 a p 0)).toInt + ((0 : ℕ) : Int) = b.val := h0
    have h1' : (i (ix3 a p 1)).toInt + ((0 : ℕ) : Int) = q.val := h1
    have h2' : (0 : Int) + ((e.val : ℕ) : Int) = d.val := h2
    exact ⟨by omega, by omega, Fin.ext (by omega)⟩
  · rintro ⟨h0, h1, rfl⟩ z
    match z with
    | ⟨0, _⟩ => rw [e0, w0, h0]; exact add_zero _
    | ⟨1, _⟩ => rw [e1, w1, h1]; exact add_zero _
    | ⟨2, _⟩ => rw [e2, w2]; exact zero_add _

end Cert.Proof.Ref
-- ==== Proof.RefSort.lean ====
module

public import proofs.«01_k».proof.Proof.RefOps

/-! The sorts of the reference, read at one element. -/

@[expose] public noncomputable section

namespace Cert.Proof.Ref

open Cert.ReferenceIdeal Cert.ReferenceIdeal.Gen
open Idealize.ShloMosaic Idealize.ShloMosaic.StableHlo
open Idealize.SL Idealize.SL.Sem
open Cert.Proof.Order

set_option maxHeartbeats 400000

theorem along_at {n : ℕ} (b : Fin 4) (p q : Fin n) : Shape.Idx.along (s := ⟨2, ![4, n]⟩) (ix2 b p) (1 : Fin 2) q = ix2 b q := by
  funext z
  match z with
  | ⟨0, _⟩ => rfl
  | ⟨1, _⟩ => rfl

theorem sort2_at {α β : Type} (cmp : α × β → α × β → BitVec 1) (x : S4x2048.Idx → α) (y : S4x2048.Idx → β) (b : Fin 4) (p : Fin 2048) :
    (Host.sort2 S4x2048 1 cmp x y).2 (ix2 b p)
      = y (ix2 b (sortedFrom (fun k k' => cmp (x (ix2 b k), y (ix2 b k)) (x (ix2 b k'), y (ix2 b k')) == 1#1) p)) := by
  have e : (Host.sort2 S4x2048 1 cmp x y).2 (ix2 b p)
      = y (Shape.Idx.along (s := ⟨2, ![4, 2048]⟩) (ix2 b p) (1 : Fin 2) (sortedFrom (fun k k' : Fin 2048 =>
          cmp (x (Shape.Idx.along (s := ⟨2, ![4, 2048]⟩) (ix2 b p) (1 : Fin 2) k), y (Shape.Idx.along (s := ⟨2, ![4, 2048]⟩) (ix2 b p) (1 : Fin 2) k))
            (x (Shape.Idx.along (s := ⟨2, ![4, 2048]⟩) (ix2 b p) (1 : Fin 2) k'), y (Shape.Idx.along (s := ⟨2, ![4, 2048]⟩) (ix2 b p) (1 : Fin 2) k')) == 1#1) p)) := by
    unfold Host.sort2
    rw [dif_pos (show 1 < S4x2048.rank by decide)]
    rfl
  rw [e]
  simp only [along_at]
  exact congrArg y (along_at b p _)

theorem sort_at {α : Type} (cmp : α → α → BitVec 1) (x : S4x1024.Idx → α) (b : Fin 4) (p : Fin 1024) :
    Host.sort S4x1024 1 cmp x (ix2 b p) = x (ix2 b (sortedFrom (fun k k' => cmp (x (ix2 b k)) (x (ix2 b k')) == 1#1) p)) := by
  have e : Host.sort S4x1024 1 cmp x (ix2 b p)
      = x (Shape.Idx.along (s := ⟨2, ![4, 1024]⟩) (ix2 b p) (1 : Fin 2) (sortedFrom (fun k k' : Fin 1024 =>
          cmp (x (Shape.Idx.along (s := ⟨2, ![4, 1024]⟩) (ix2 b p) (1 : Fin 2) k)) (x (Shape.Idx.along (s := ⟨2, ![4, 1024]⟩) (ix2 b p) (1 : Fin 2) k')) == 1#1) p)) := by
    unfold Host.sort
    rw [dif_pos (show 1 < S4x1024.rank by decide)]
    rfl
  rw [e]
  simp only [along_at]
  exact congrArg x (along_at b p _)

theorem ofBool_beq (d : Bool) : (BitVec.ofBool d == 1#1) = d := by cases d <;> rfl

theorem norm_zero (a : EReal) : Scalar.select (Ideal.cmp .oeq a (Ideal.ofBits .f32 0x00000000#32)) (Ideal.ofBits .f32 0x00000000#32) a = a := by
  show (if Ideal.cmp .oeq a (Ideal.ofBits .f32 0x00000000#32) = 1#1 then _ else a) = a
  by_cases h : a = Ideal.ofBits .f32 0x00000000#32
  · rw [← h]; exact ite_self _
  · have : Ideal.cmp .oeq a (Ideal.ofBits .f32 0x00000000#32) = 0#1 := by
      show BitVec.ofBool (decide (a = Ideal.ofBits .f32 0x00000000#32)) = 0#1
      rw [decide_eq_false h]; rfl
    rw [this]; rfl

theorem norm_self (a v w : EReal) : Scalar.select (Ideal.cmp .une a a) v w = w := by
  have : Ideal.cmp .une a a = 0#1 := by
    show BitVec.ofBool (decide (a ≠ a)) = 0#1
    rw [decide_eq_false (fun h => h rfl)]; rfl
  rw [this]; rfl

theorem comparator_at (a b : EReal) (u v : BitVec 32) :
    (comparator_f32_i32_d1 (F := Ideal) (a, u) (b, v) == 1#1) = decide (a < b) := by
  have e : comparator_f32_i32_d1 (F := Ideal) (a, u) (b, v)
      = Ideal.cmp .olt (Scalar.select (Ideal.cmp .une a a) (Ideal.ofBits .f32 0x7FC00000#32)
            (Scalar.select (Ideal.cmp .oeq a (Ideal.ofBits .f32 0x00000000#32)) (Ideal.ofBits .f32 0x00000000#32) a))
          (Scalar.select (Ideal.cmp .une b b) (Ideal.ofBits .f32 0x7FC00000#32)
            (Scalar.select (Ideal.cmp .oeq b (Ideal.ofBits .f32 0x00000000#32)) (Ideal.ofBits .f32 0x00000000#32) b)) := rfl
  rw [e, norm_self, norm_self, norm_zero, norm_zero]
  exact ofBool_beq _

/-- The order of the negated numbers. -/
theorem argsort_at (M : Fin 2048 → EReal) (X : S4x2048.Idx → EReal) (b : Fin 4) (h : ∀ l, X (ix2 b l) = -(M l)) (y : S4x2048.Idx → BitVec 32)
    (hy : ∀ l : Fin 2048, y (ix2 b l) = BitVec.ofNat 32 l.val) (p : Fin 2048) :
    (Host.sort2 S4x2048 1 (comparator_f32_i32_d1 (F := Ideal)) X y).2 (ix2 b p) = BitVec.ofNat 32 (at_ M p).val := by
  rw [sort2_at, hy]
  have e : (fun k k' : Fin 2048 => comparator_f32_i32_d1 (F := Ideal) (X (ix2 b k), y (ix2 b k)) (X (ix2 b k'), y (ix2 b k')) == 1#1) = before M := by
    funext k k'
    rw [comparator_at, h, h]
    unfold before
    exact decide_eq_decide.2 EReal.neg_lt_neg_iff
  rw [e]

/-- The order of small numbers as words. -/
theorem sort_words (v : Fin 1024 → ℕ) (hv : ∀ a, v a < 2048) (X : S4x1024.Idx → BitVec 32) (b : Fin 4) (h : ∀ a, X (ix2 b a) = BitVec.ofNat 32 (v a)) (u : Fin 1024) :
    Host.sort S4x1024 1 comparator_i32_d1 X (ix2 b u) = BitVec.ofNat 32 (v (sortedFrom (fun a b => decide (v a < v b)) u)) := by
  rw [sort_at, h]
  have e : (fun k k' : Fin 1024 => comparator_i32_d1 (X (ix2 b k)) (X (ix2 b k')) == 1#1) = fun a b => decide (v a < v b) := by
    funext k k'
    have hk := hv k
    have hk' := hv k'
    rw [h, h]
    show (BitVec.ofBool ((BitVec.ofNat 32 (v k)).slt (BitVec.ofNat 32 (v k'))) == 1#1) = _
    rw [ofBool_beq, Bool.eq_iff_iff, BitVec.slt_iff_toInt_lt, toInt_ofNat (n := v k) (by omega), toInt_ofNat (n := v k') (by omega), decide_eq_true_iff]
    omega
  rw [e]

end Cert.Proof.Ref
-- ==== Proof.RefMax.lean ====
module

public import proofs.«01_k».proof.Proof.RefSort

/-! The largest number of a row and its place, as the reference finds them. -/

@[expose] public noncomputable section

namespace Cert.Proof.Ref

open Cert.ReferenceIdeal Cert.ReferenceIdeal.Gen
open Idealize.ShloMosaic Idealize.ShloMosaic.StableHlo
open Idealize.SL Idealize.SL.Sem
open Cert.Proof.Order

set_option maxHeartbeats 400000

/-- `p` comes no later than `q` in the search. -/
def Under (p q : EReal × BitVec 32) : Prop := p.1 < q.1 ∨ (p.1 = q.1 ∧ q.2.toInt ≤ p.2.toInt)

theorem Under.refl (p : EReal × BitVec 32) : Under p p := Or.inr ⟨rfl, le_refl _⟩

theorem Under.trans {p q r : EReal × BitVec 32} (h : Under p q) (k : Under q r) : Under p r := by
  rcases h with h | ⟨h, h'⟩ <;> rcases k with k | ⟨k, k'⟩
  · exact Or.inl (h.trans k)
  · exact Or.inl (k ▸ h)
  · exact Or.inl (h ▸ k)
  · exact Or.inr ⟨h.trans k, k'.trans h'⟩

theorem reducer_at (a b : EReal × BitVec 32) :
    reducer_argmax_f32_i32 (F := Ideal) a b = if b.1 < a.1 ∨ (a.1 = b.1 ∧ a.2.toInt < b.2.toInt) then a else b := by
  have e : reducer_argmax_f32_i32 (F := Ideal) a b
      = (Scalar.select (IntOp.ori (BitVec.ofBool (decide (b.1 < a.1))) (BitVec.ofBool (decide (a.1 ≠ a.1)))) a.1 b.1,
         Scalar.select (IntOp.ori (IntOp.ori (BitVec.ofBool (decide (b.1 < a.1))) (BitVec.ofBool (decide (a.1 ≠ a.1))))
            (IntOp.andi (BitVec.ofBool (decide (a.1 = b.1))) (BitVec.ofBool (a.2.slt b.2)))) a.2 b.2) := rfl
  have es : a.2.slt b.2 = decide (a.2.toInt < b.2.toInt) := by rw [Bool.eq_iff_iff, BitVec.slt_iff_toInt_lt, decide_eq_true_iff]
  rw [e, es, decide_eq_false (show ¬ (a.1 ≠ a.1) from fun h => h rfl)]
  by_cases h1 : b.1 < a.1
  · rw [decide_eq_true h1, if_pos (Or.inl h1)]
    generalize decide (a.1 = b.1) = x
    generalize decide (a.2.toInt < b.2.toInt) = y
    cases x <;> cases y <;> rfl
  · rw [decide_eq_false h1]
    by_cases h2 : a.1 = b.1
    · rw [decide_eq_true h2]
      by_cases h3 : a.2.toInt < b.2.toInt
      · rw [decide_eq_true h3, if_pos (Or.inr ⟨h2, h3⟩)]
        exact Prod.ext h2.symm rfl
      · rw [decide_eq_false h3, if_neg (by tauto)]; rfl
    · rw [decide_eq_false h2, if_neg (by tauto)]
      generalize decide (a.2.toInt < b.2.toInt) = y
      cases y <;> rfl

theorem reducer_mem (a b : EReal × BitVec 32) : reducer_argmax_f32_i32 (F := Ideal) a b = a ∨ reducer_argmax_f32_i32 (F := Ideal) a b = b := by
  rw [reducer_at]; split
  · exact Or.inl rfl
  · exact Or.inr rfl

theorem reducer_under (a b : EReal × BitVec 32) :
    Under a (reducer_argmax_f32_i32 (F := Ideal) a b) ∧ Under b (reducer_argmax_f32_i32 (F := Ideal) a b) := by
  rw [reducer_at]; split
  · next h =>
    refine ⟨Under.refl _, ?_⟩
    rcases h with h | ⟨h, h'⟩
    · exact Or.inl h
    · exact Or.inr ⟨h.symm, le_of_lt h'⟩
  · next h =>
    refine ⟨?_, Under.refl _⟩
    have h1 : ¬ b.1 < a.1 := fun q => h (Or.inl q)
    rcases lt_or_eq_of_le (not_lt.1 h1) with q | q
    · exact Or.inl q
    · exact Or.inr ⟨q, not_lt.1 fun z => h (Or.inr ⟨q, z⟩)⟩

theorem fold_best (L : List (EReal × BitVec 32)) : ∀ init, L.foldl (reducer_argmax_f32_i32 (F := Ideal)) init ∈ init :: L
    ∧ ∀ p ∈ init :: L, Under p (L.foldl (reducer_argmax_f32_i32 (F := Ideal)) init) := by
  induction L with
  | nil => intro init; exact ⟨List.mem_cons_self, fun p hp => by rw [List.mem_singleton.1 hp]; exact Under.refl _⟩
  | cons x L ih =>
    intro init
    rw [List.foldl_cons]
    obtain ⟨h1, h2⟩ := ih (reducer_argmax_f32_i32 (F := Ideal) init x)
    have hu := reducer_under init x
    have hr := h2 _ List.mem_cons_self
    constructor
    · rcases List.mem_cons.1 h1 with h | h
      · rw [h]
        rcases reducer_mem init x with q | q
        · rw [q]; exact List.mem_cons_self
        · rw [q]; exact List.mem_cons_of_mem _ List.mem_cons_self
      · exact List.mem_cons_of_mem _ (List.mem_cons_of_mem _ h)
    · intro p hp
      rcases List.mem_cons.1 hp with h | h
      · rw [h]; exact hu.1.trans hr
      · rcases List.mem_cons.1 h with h | h
        · rw [h]; exact hu.2.trans hr
        · exact h2 p (List.mem_cons_of_mem _ h)

/-- A search over the numbered entries of a row. -/
theorem best_of_fold (f : Fin 2048 → EReal) (L : List (EReal × BitVec 32)) (hL : ∀ p, p ∈ L ↔ ∃ i : Fin 2048, p = (f i, BitVec.ofNat 32 i.val)) :
    Best f 2048 (L.foldl (reducer_argmax_f32_i32 (F := Ideal)) (⊥, 0#32)).1 (L.foldl (reducer_argmax_f32_i32 (F := Ideal)) (⊥, 0#32)).2 := by
  obtain ⟨h1, h2⟩ := fold_best L (⊥, 0#32)
  generalize L.foldl (reducer_argmax_f32_i32 (F := Ideal)) (⊥, 0#32) = acc at h1 h2 ⊢
  have hmem : ∃ i : Fin 2048, acc = (f i, BitVec.ofNat 32 i.val) := by
    rcases List.mem_cons.1 h1 with h | h
    · refine ⟨0, ?_⟩
      have := h2 _ (List.mem_cons_of_mem _ ((hL (f 0, BitVec.ofNat 32 (0 : Fin 2048).val)).2 ⟨0, rfl⟩))
      rw [h] at this ⊢
      rcases this with q | ⟨q, -⟩
      · exact absurd q not_lt_bot
      · exact Prod.ext q.symm rfl
    · exact (hL acc).1 h
  obtain ⟨i, rfl⟩ := hmem
  have hall : ∀ j : Fin 2048, f j < f i ∨ (f j = f i ∧ i.val ≤ j.val) := fun j => by
    have := h2 _ (List.mem_cons_of_mem _ ((hL (f j, BitVec.ofNat 32 j.val)).2 ⟨j, rfl⟩))
    rcases this with q | ⟨q, q'⟩
    · exact Or.inl q
    · refine Or.inr ⟨q, ?_⟩
      have hi := i.isLt
      have hj := j.isLt
      dsimp only at q'
      rw [toInt_ofNat (n := i.val) (by omega), toInt_ofNat (n := j.val) (by omega)] at q'
      omega
  refine ⟨i, i.isLt, rfl, rfl, fun j _ => ?_, fun j hj => ?_⟩
  · rcases hall j with q | ⟨q, -⟩
    · exact le_of_lt q
    · exact le_of_eq q
  · rcases hall j with q | ⟨-, q⟩
    · exact q
    · exact absurd (show j.val < i.val from hj) (by omega)

theorem drop_at (b : Fin 4) (l q : Fin 2048) : reducesTo_S4x2048x2048_S4x2048_d2.drop (ix3 b l q) = ix2 b l := by
  funext z
  match z with
  | ⟨0, _⟩ => rfl
  | ⟨1, _⟩ => rfl

theorem ix3_eta (i : S4x2048x2048.Idx) : ∃ (b : Fin 4) (l q : Fin 2048), i = ix3 b l q := ⟨i 0, i 1, i 2, by
  funext z
  match z with
  | ⟨0, _⟩ => rfl
  | ⟨1, _⟩ => rfl
  | ⟨2, _⟩ => rfl⟩

theorem mem_fiber (f : Fin 2048 → EReal) (X : S4x2048x2048.Idx → EReal) (b : Fin 4) (l : Fin 2048) (h : ∀ q, X (ix3 b l q) = f q)
    (Y : S4x2048x2048.Idx → BitVec 32) (hY : ∀ q : Fin 2048, Y (ix3 b l q) = BitVec.ofNat 32 q.val) (p : EReal × BitVec 32) :
    p ∈ Host.argReduceFiber X Y reducesTo_S4x2048x2048_S4x2048_d2 (ix2 b l) ↔ ∃ i : Fin 2048, p = (f i, BitVec.ofNat 32 i.val) := by
  unfold Host.argReduceFiber
  rw [List.mem_map]
  constructor
  · rintro ⟨n, hn, rfl⟩
    have hd := of_decide_eq_true (List.mem_filter.1 hn).2
    generalize S4x2048x2048.rowMajor.symm n = j at hd ⊢
    obtain ⟨b', l', q, rfl⟩ := ix3_eta j
    rw [drop_at] at hd
    have e0 : b' = b := congrFun hd 0
    have e1 : l' = l := congrFun hd 1
    subst e0
    subst e1
    exact ⟨q, by rw [h, hY]⟩
  · rintro ⟨q, rfl⟩
    refine ⟨S4x2048x2048.rowMajor (ix3 b l q), List.mem_filter.2 ⟨List.mem_finRange _, decide_eq_true ?_⟩, ?_⟩
    · rw [Equiv.symm_apply_apply]; exact drop_at b l q
    · rw [Equiv.symm_apply_apply, h, hY]

theorem argmax_at (f : Fin 2048 → EReal) (X : S4x2048x2048.Idx → EReal) (b : Fin 4) (l : Fin 2048) (h : ∀ q, X (ix3 b l q) = f q)
    (Y : S4x2048x2048.Idx → BitVec 32) (hY : ∀ q : Fin 2048, Y (ix3 b l q) = BitVec.ofNat 32 q.val)
    (u : S_.Idx → EReal) (hu : u (Shape.Idx.first h_S_) = ⊥) (v : S_.Idx → BitVec 32) (hv : v (Shape.Idx.first h_S_) = 0#32) :
    (Host.argReduce (F := Ideal) (φ := .f32) reducer_argmax_f32_i32 X Y u v reducesTo_S4x2048x2048_S4x2048_d2 h_S_ (ix2 b l)).2
      = BitVec.ofNat 32 (place f).val := by
  rw [Ideal.argReduce_eq_reduce2, Host.reduce2_eq_foldl_fiber, hu, hv, ← bestI_eq]
  exact (Best.unique (best_of_fold f _ (mem_fiber f X b l h Y hY)) (best f)).2

end Cert.Proof.Ref
-- ==== Proof.RefScores.lean ====
module

public import proofs.«01_k».proof.Proof.RefEq0
public import proofs.«01_k».proof.Proof.RefEq1
public import proofs.«01_k».proof.Proof.RefEq2
public import proofs.«01_k».proof.Proof.RefMax

/-! The scores of the reference. -/

@[expose] public noncomputable section

namespace Cert.Proof.Ref

open Cert.ReferenceIdeal Cert.ReferenceIdeal.Gen
open Idealize.ShloMosaic Idealize.ShloMosaic.StableHlo
open Idealize.SL Idealize.SL.Sem
open Cert.Proof.Order

set_option maxHeartbeats 400000
set_option maxRecDepth 8000

variable (m : (ℓ : Loc nD τ sig) → Buf (Elt Ideal) ℓ) (c : Dev nD)

/-- The two arguments by their coordinates. -/
def xr (b : Fin 4) (r : Fin 4096) (d : Fin 1024) : EReal := (fin m c main_arg0) (ix3 b r d)
def kr (b : Fin 4) (r : Fin 4096) (d : Fin 1024) : EReal := (fin m c main_arg1) (ix3 b r d)

theorem v10_at (b : Fin 4) (l : Fin 2048) (d : Fin 1024) : (fin m c main_v10) (ix3 b l d) = kr m c b (evenAt l) d := by
  rw [e_v10]
  unfold kr
  pointwise
  rfl

theorem v11_at (b : Fin 4) (l : Fin 2048) (d : Fin 1024) : (fin m c main_v11) (ix3 b l d) = kr m c b (oddAt l) d := by
  rw [e_v11]
  unfold kr
  pointwise
  exact congrArg (fin m c main_arg1) (congrArg (fun r => ix3 b r d) (Fin.ext (Nat.add_comm _ _)))

theorem v49_at (b : Fin 4) (l : Fin 2048) (d : Fin 1024) : (fin m c main_v49) (ix3 b l d) = xr m c b (evenAt l) d := by
  rw [e_v49]
  unfold xr
  pointwise
  rfl

theorem v50_at (b : Fin 4) (l : Fin 2048) (d : Fin 1024) : (fin m c main_v50) (ix3 b l d) = xr m c b (oddAt l) d := by
  rw [e_v50]
  unfold xr
  pointwise
  exact congrArg (fin m c main_arg0) (congrArg (fun r => ix3 b r d) (Fin.ext (Nat.add_comm _ _)))

theorem v16_at (b : Fin 4) (l : Fin 2048) (d : Fin 1024) : (fin m c main_v16) (ix3 b l d) = unit (kr m c b (evenAt l)) d := by
  rw [e_v16, e_v15, e_v14, e_v12, e_v13, e_cst, e_call0_v2, e_call0_v1, e_call0_cst, e_call0_v0]
  have h := v10_at m c b l
  generalize fin m c main_v10 = X at h ⊢
  pointwise
  simp only [h]
  rfl

theorem v21_at (b : Fin 4) (l : Fin 2048) (d : Fin 1024) : (fin m c main_v21) (ix3 b l d) = unit (kr m c b (oddAt l)) d := by
  rw [e_v21, e_v20, e_v19, e_v17, e_v18, e_cst_3, e_call1_v2, e_call1_v1, e_call1_cst, e_call1_v0]
  have h := v11_at m c b l
  generalize fin m c main_v11 = X at h ⊢
  pointwise
  simp only [h]
  rfl

theorem v23_at (b : Fin 4) (l q : Fin 2048) : (fin m c main_v23) (ix3 b l q) = (∑ d, unit (kr m c b (evenAt l)) d * unit (kr m c b (oddAt q)) d : EReal) := by
  rw [e_v23, e_v22]
  have h := v16_at m c b l
  have h' := v21_at m c b q
  generalize fin m c main_v16 = X at h ⊢
  generalize fin m c main_v21 = Y at h' ⊢
  pointwise
  simp only [h, h']

theorem v26_at (b : Fin 4) (l q : Fin 2048) : (fin m c main_v26) (ix3 b l q) = sc (kr m c) b l q := by
  rw [e_v26]
  refine (setRow _ _ (fun j => ?_) _ (⊥ : EReal) (fun j => ?_) b l q).trans ?_
  · rw [e_v24, e_c_4]; rfl
  · rw [e_v25, e_cst_5]; exact negInf
  · rw [v23_at]; rfl

theorem v27_at (b : Fin 4) (l : Fin 2048) : (fin m c main_v27) (ix2 b l) = mx (kr m c) b l := by
  rw [e_v27, e_cst_6]
  have h := v26_at m c b l
  generalize fin m c main_v26 = X at h ⊢
  pointwise
  simp only [h, negInf]
  rfl

end Cert.Proof.Ref
-- ==== Proof.RefOrder.lean ====
module

public import proofs.«01_k».proof.Proof.RefScores

/-! The best places of the reference and its order of them. -/

@[expose] public noncomputable section

namespace Cert.Proof.Ref

open Cert.ReferenceIdeal Cert.ReferenceIdeal.Gen
open Idealize.ShloMosaic Idealize.ShloMosaic.StableHlo
open Idealize.SL Idealize.SL.Sem
open Cert.Proof.Order

set_option maxHeartbeats 400000
set_option maxRecDepth 8000

variable (m : (ℓ : Loc nD τ sig) → Buf (Elt Ideal) ℓ) (c : Dev nD)

theorem v28_at (b : Fin 4) (l : Fin 2048) : (fin m c main_v28) (ix2 b l) = BitVec.ofNat 32 (place (sc (kr m c) b l)).val := by
  rw [e_v28, e_call2_v0, e_call2_cst, e_call2_c]
  have h := v26_at m c b l
  generalize fin m c main_v26 = X at h ⊢
  exact argmax_at (sc (kr m c) b l) X b l h _ (fun _ => rfl) _ negInf _ rfl

theorem neg_at (X : S4x2048.Idx → EReal) (j : S4x2048.Idx) : (Host.negf (F := Ideal) (φ := .f32) X) j = -(X j) := rfl

theorem v29_at (b : Fin 4) (l : Fin 2048) : (fin m c main_v29) (ix2 b l) = (-(mx (kr m c) b l) : EReal) := by
  rw [e_v29]
  have h := v27_at m c b l
  exact (neg_at _ _).trans (congrArg (fun z : EReal => -z) h)

theorem v30_at (b : Fin 4) (p : Fin 2048) : (fin m c main_v30) (ix2 b p) = BitVec.ofNat 32 (at_ (mx (kr m c) b) p).val := by
  rw [e_v30, e_call3_v0]
  exact argsort_at (mx (kr m c) b) (fin m c main_v29) b (v29_at m c b) (iotaInDim S4x2048 32 1) (fun _ => rfl) p

/-- The first half of the order. -/
def early (M : Fin 2048 → EReal) (p : Fin 1024) : Fin 2048 := at_ M ⟨p.val, by omega⟩

theorem v31_at (b : Fin 4) (p : Fin 1024) : (fin m c main_v31) (ix2 b p) = BitVec.ofNat 32 (early (mx (kr m c) b) p).val := by
  rw [e_v31]
  have h := v30_at m c b
  generalize fin m c main_v30 = X at h ⊢
  pointwise
  exact h _

theorem v32_at (b : Fin 4) (p : Fin 1024) : (fin m c main_v32) (ix2 b p) = BitVec.ofNat 32 (late (mx (kr m c) b) p).val := by
  rw [e_v32]
  have h := v30_at m c b
  generalize fin m c main_v30 = X at h ⊢
  pointwise
  exact h _

theorem v33_at (b : Fin 4) (u : Fin 1024) : (fin m c main_v33) (ix2 b u) = BitVec.ofNat 32 (src (mx (kr m c) b) u).val := by
  rw [e_v33]
  have h := v32_at m c b
  generalize fin m c main_v32 = X at h ⊢
  exact sort_words (fun a => (late (mx (kr m c) b) a).val) (fun a => (late (mx (kr m c) b) a).isLt) X b h u

theorem wrapped (n : ℕ) (h : n < 2147483648) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

theorem inside (n : ℕ) (h : n < 2048) :
    IntOp.andi (IntOp.cmpi .sge (BitVec.ofNat 32 n) 0#32) (IntOp.cmpi .sle (BitVec.ofNat 32 n) 2047#32) = 1#1 := by
  have h1 : IntOp.cmpi .sge (BitVec.ofNat 32 n) 0#32 = 1#1 := by
    show BitVec.ofBool ((0#32 : BitVec 32).sle (BitVec.ofNat 32 n)) = 1#1
    have : (0#32 : BitVec 32).sle (BitVec.ofNat 32 n) = true := by
      rw [BitVec.sle_iff_toInt_le, toInt_ofNat (n := n) (by omega)]
      exact Int.natCast_nonneg n
    rw [this]; rfl
  have h2 : IntOp.cmpi .sle (BitVec.ofNat 32 n) 2047#32 = 1#1 := by
    show BitVec.ofBool ((BitVec.ofNat 32 n).sle 2047#32) = 1#1
    have : (BitVec.ofNat 32 n).sle 2047#32 = true := by
      rw [BitVec.sle_iff_toInt_le, toInt_ofNat (n := n) (by omega), toInt_ofNat (n := 2047) (by omega)]
      omega
    rw [this]; rfl
  rw [h1, h2]; rfl

theorem fold_andi_one (g : Fin 1 → BitVec 1) (h : g 0 = 1#1) : Finset.fold IntOp.andi 1#1 g Finset.univ = 1#1 := by
  rw [show (Finset.univ : Finset (Fin 1)) = {0} from rfl, Finset.fold_singleton, h]
  rfl

theorem call5_v4_at (b : Fin 4) (u : Fin 1024) : (fin m c main_call5_v4) (ix2 b u) = BitVec.ofNat 32 (early (mx (kr m c) b) u).val := by
  rw [e_call5_v4, e_call5_v1, e_call5_v0, e_call5_c]
  have h := v31_at m c b u
  have hl := (early (mx (kr m c) b) u).isLt
  generalize fin m c main_v31 = X at h ⊢
  generalize fin m c main_call5_v3 = Y
  pointwise
  rw [h]
  exact wrapped _ (by omega) _

theorem call5_v5_at (b : Fin 4) (u : Fin 1024) : (fin m c main_call5_v5) (ix3 b u 0) = BitVec.ofNat 32 (early (mx (kr m c) b) u).val := by
  rw [e_call5_v5]
  have h := call5_v4_at m c b
  generalize fin m c main_call5_v4 = X at h ⊢
  pointwise
  exact h _

theorem call5_v11_at (b : Fin 4) (u : Fin 1024) : (fin m c main_call5_v11) (ix3 b u 0) = 1#1 := by
  rw [e_call5_v11, e_call5_v7, e_call5_v6, e_call5_c_2, e_call5_v10, e_call5_v9, e_call5_v8, e_call5_c_1]
  have h := call5_v5_at m c b u
  generalize fin m c main_call5_v5 = X at h ⊢
  pointwise
  rw [h]
  exact inside _ (early (mx (kr m c) b) u).isLt

theorem call5_v12_at (b : Fin 4) (u : Fin 1024) : (fin m c main_call5_v12) (ix2 b u) = 1#1 := by
  rw [e_call5_v12, e_call5_c_3]
  have h := call5_v11_at m c b u
  generalize fin m c main_call5_v11 = X at h ⊢
  pointwise
  exact fold_andi_one _ h

theorem v34_at (b : Fin 4) (u : Fin 1024) : (fin m c main_v34) (ix2 b u) = BitVec.ofNat 32 (place (sc (kr m c) b (early (mx (kr m c) b) u))).val := by
  rw [e_v34, e_call5_v13]
  have h := call5_v12_at m c b u
  have h1 := take2 (fin m c main_v28) (fin m c main_call5_v5) b u _ (call5_v5_at m c b u)
  rw [v28_at] at h1
  generalize fin m c main_call5_v12 = X at h ⊢
  generalize fin m c main_call5_v14 = Y
  generalize fin m c main_call5_v5 = Z at h1 ⊢
  generalize fin m c main_v28 = W at h1 ⊢
  show Scalar.select (X (ix2 b u)) _ _ = _
  rw [h]
  exact h1

theorem early_eq (M : Fin 2048 → EReal) {p q : Fin 1024} (h : early M p = early M q) : p = q := by
  unfold early at h
  have := congrArg (fun p : Fin 2048 => p.val) ((at_bij M).1 h)
  dsimp only at this
  exact Fin.ext this

theorem not_keep (M : Fin 2048 → EReal) (l : Fin 2048) : ¬ Keep M l.val ↔ ∃ p, early M p = l := by
  rw [keep_iff, not_le]
  constructor
  · intro h
    exact ⟨⟨rank M l, h⟩, at_rank M l⟩
  · rintro ⟨p, rfl⟩
    unfold early
    rw [rank_at]
    exact p.isLt

end Cert.Proof.Ref
-- ==== Proof.RefRows.lean ====
module

public import proofs.«01_k».proof.Proof.RefOrder

/-! The rows that the reference leaves. -/

@[expose] public noncomputable section

namespace Cert.Proof.Ref

open Cert.ReferenceIdeal Cert.ReferenceIdeal.Gen
open Idealize.ShloMosaic Idealize.ShloMosaic.StableHlo
open Idealize.SL Idealize.SL.Sem
open Cert.Proof.Order

set_option maxHeartbeats 400000
set_option maxRecDepth 8000

variable (m : (ℓ : Loc nD τ sig) → Buf (Elt Ideal) ℓ) (c : Dev nD)

theorem sel_row (M : S4x1024.Idx → BitVec 1) (A B : S4x1024x1024.Idx → EReal) (b : Fin 4) (u d : Fin 1024) (h : M (ix2 b u) = 1#1) :
    (select (broadcastInDim S4x1024x1024 ![0, 1] bcast_S4x1024_S4x1024x1024_0_1 M) A B : S4x1024x1024.Idx → EReal) (ix3 b u d) = A (ix3 b u d) := by
  pointwise
  rw [h]
  rfl

theorem v51_at (b : Fin 4) (u : Fin 1024) : (fin m c main_v51) (ix3 b u 0) = BitVec.ofNat 32 (src (mx (kr m c) b) u).val := by
  rw [e_v51]
  have h := v33_at m c b
  generalize fin m c main_v33 = X at h ⊢
  pointwise
  exact h _

theorem call6_v4_at (b : Fin 4) (u : Fin 1024) : (fin m c main_call6_v4) (ix3 b u 0) = BitVec.ofNat 32 (src (mx (kr m c) b) u).val := by
  rw [e_call6_v4, e_call6_v1, e_call6_v0, e_call6_c]
  have h := v51_at m c b u
  have hl := (src (mx (kr m c) b) u).isLt
  generalize fin m c main_v51 = X at h ⊢
  generalize fin m c main_call6_v3 = Y
  pointwise
  rw [h]
  exact wrapped _ (by omega) _

theorem call6_v10_at (b : Fin 4) (u : Fin 1024) : (fin m c main_call6_v10) (ix3 b u 0) = 1#1 := by
  rw [e_call6_v10, e_call6_v6, e_call6_v5, e_call6_c_2, e_call6_v9, e_call6_v8, e_call6_v7, e_call6_c_1]
  have h := call6_v4_at m c b u
  generalize fin m c main_call6_v4 = X at h ⊢
  pointwise
  rw [h]
  exact inside _ (src (mx (kr m c) b) u).isLt

theorem call6_v11_at (b : Fin 4) (u : Fin 1024) : (fin m c main_call6_v11) (ix2 b u) = 1#1 := by
  rw [e_call6_v11, e_call6_c_3]
  have h := call6_v10_at m c b u
  generalize fin m c main_call6_v10 = X at h ⊢
  pointwise
  exact fold_andi_one _ h

theorem v52_at (b : Fin 4) (u d : Fin 1024) : (fin m c main_v52) (ix3 b u d) = xr m c b (evenAt (src (mx (kr m c) b) u)) d := by
  rw [e_v52, e_call6_v12, e_call6_v13]
  have h := call6_v11_at m c b u
  have h1 := take3 (fin m c main_v49) (fin m c main_call6_v4) b u d _ (call6_v4_at m c b u)
  rw [v49_at] at h1
  generalize fin m c main_call6_v11 = X at h ⊢
  generalize fin m c main_call6_v14 = Y
  generalize fin m c main_call6_v4 = Z at h1 ⊢
  generalize fin m c main_v49 = W at h1 ⊢
  exact (sel_row X _ Y b u d h).trans h1

theorem v53_at (b : Fin 4) (u : Fin 1024) : (fin m c main_v53) (ix3 b u 0) = BitVec.ofNat 32 (early (mx (kr m c) b) u).val := by
  rw [e_v53]
  have h := v31_at m c b
  generalize fin m c main_v31 = X at h ⊢
  pointwise
  exact h _

theorem call7_v4_at (b : Fin 4) (u : Fin 1024) : (fin m c main_call7_v4) (ix3 b u 0) = BitVec.ofNat 32 (early (mx (kr m c) b) u).val := by
  rw [e_call7_v4, e_call7_v1, e_call7_v0, e_call7_c]
  have h := v53_at m c b u
  have hl := (early (mx (kr m c) b) u).isLt
  generalize fin m c main_v53 = X at h ⊢
  generalize fin m c main_call7_v3 = Y
  pointwise
  rw [h]
  exact wrapped _ (by omega) _

theorem call7_v10_at (b : Fin 4) (u : Fin 1024) : (fin m c main_call7_v10) (ix3 b u 0) = 1#1 := by
  rw [e_call7_v10, e_call7_v6, e_call7_v5, e_call7_c_2, e_call7_v9, e_call7_v8, e_call7_v7, e_call7_c_1]
  have h := call7_v4_at m c b u
  generalize fin m c main_call7_v4 = X at h ⊢
  pointwise
  rw [h]
  exact inside _ (early (mx (kr m c) b) u).isLt

theorem call7_v11_at (b : Fin 4) (u : Fin 1024) : (fin m c main_call7_v11) (ix2 b u) = 1#1 := by
  rw [e_call7_v11, e_call7_c_3]
  have h := call7_v10_at m c b u
  generalize fin m c main_call7_v10 = X at h ⊢
  pointwise
  exact fold_andi_one _ h

theorem v54_at (b : Fin 4) (u d : Fin 1024) : (fin m c main_v54) (ix3 b u d) = xr m c b (evenAt (early (mx (kr m c) b) u)) d := by
  rw [e_v54, e_call7_v12, e_call7_v13]
  have h := call7_v11_at m c b u
  have h1 := take3 (fin m c main_v49) (fin m c main_call7_v4) b u d _ (call7_v4_at m c b u)
  rw [v49_at] at h1
  generalize fin m c main_call7_v11 = X at h ⊢
  generalize fin m c main_call7_v14 = Y
  generalize fin m c main_call7_v4 = Z at h1 ⊢
  generalize fin m c main_v49 = W at h1 ⊢
  exact (sel_row X _ Y b u d h).trans h1

theorem v66_at (b : Fin 4) (u : Fin 1024) : (fin m c main_v66) (ix2 b u) = BitVec.ofNat 32 (place (sc (kr m c) b (early (mx (kr m c) b) u))).val := by
  rw [e_v66, e_v63, e_v62, e_c_13]
  have h := v34_at m c b u
  have hl := (place (sc (kr m c) b (early (mx (kr m c) b) u))).isLt
  generalize fin m c main_v34 = X at h ⊢
  generalize fin m c main_v65 = Y
  pointwise
  rw [h]
  exact wrapped _ (by omega) _

theorem v56_at (b : Fin 4) : (fin m c main_v56) (ix2 b 0) = BitVec.ofNat 32 b.val := by
  rw [e_v56, e_v55]
  pointwise

theorem v61_at (b : Fin 4) : (fin m c main_v61) (ix2 b 0) = BitVec.ofNat 32 b.val := by
  rw [e_v61, e_v58, e_v57, e_c_11]
  have h := v56_at m c b
  have hl := b.isLt
  generalize fin m c main_v56 = X at h ⊢
  generalize fin m c main_v60 = Y
  pointwise
  rw [h]
  exact wrapped _ (by omega) _

theorem v70_0 (b : Fin 4) (u : Fin 1024) : (fin m c main_v70) (ix3 b u 0) = BitVec.ofNat 32 b.val := by
  rw [e_v70, e_v68, e_v67]
  have h := v61_at m c b
  generalize fin m c main_v61 = X at h ⊢
  generalize fin m c main_v69 = Y
  pointwise
  exact h

theorem v70_1 (b : Fin 4) (u : Fin 1024) : (fin m c main_v70) (ix3 b u 1) = BitVec.ofNat 32 (place (sc (kr m c) b (early (mx (kr m c) b) u))).val := by
  rw [e_v70, e_v69]
  have h := v66_at m c b u
  generalize fin m c main_v66 = X at h ⊢
  generalize fin m c main_v68 = Y
  pointwise
  exact h

/-- The sum over the updates that land on one element. -/
theorem sum_at (i : S4x1024x2.Idx → BitVec 32) (y : S4x1024x1024.Idx → EReal) (b : Fin 4) (q : Fin 2048) (d : Fin 1024) (M : Fin 2048 → EReal)
    (f : Fin 2048 → Fin 2048) (g : Fin 2048 → EReal) (h0 : ∀ b u, i (ix3 b u 0) = BitVec.ofNat 32 b.val)
    (h1 : ∀ u, i (ix3 b u 1) = BitVec.ofNat 32 (f (early M u)).val) (hy : ∀ u, y (ix3 b u d) = g (early M u)) :
    (∑ j ∈ Finset.univ.filter (fun j => scatter_S4x2048x1024_S4x1024x2_S4x1024x1024_2_01_01_2.resultIdx? j i = some (ix3 b q d)), y j)
      = ∑ l : Fin 2048, if ¬ Keep M l.val ∧ (f l).val = q.val then g l else 0 := by
  have key : ∀ (a : Fin 4) (p e : Fin 1024), scatter_S4x2048x1024_S4x1024x2_S4x1024x1024_2_01_01_2.resultIdx? (ix3 a p e) i = some (ix3 b q d)
      ↔ a = b ∧ (f (early M p)).val = q.val ∧ e = d := fun a p e => by
    rw [lands3, h0]
    have ha := a.isLt
    rw [toInt_ofNat (n := a.val) (by omega)]
    constructor
    · rintro ⟨k0, k1, k2⟩
      have ea : a = b := Fin.ext (by omega)
      subst ea
      rw [h1, toInt_ofNat (n := (f (early M p)).val) (by have := (f (early M p)).isLt; omega)] at k1
      exact ⟨rfl, by omega, k2⟩
    · rintro ⟨rfl, k1, k2⟩
      rw [h1, toInt_ofNat (n := (f (early M p)).val) (by have := (f (early M p)).isLt; omega)]
      exact ⟨rfl, by omega, k2⟩
  have eta : ∀ j : S4x1024x1024.Idx, ∃ (a : Fin 4) (p e : Fin 1024), j = ix3 a p e := fun j => ⟨j 0, j 1, j 2, by
    funext z
    match z with
    | ⟨0, _⟩ => rfl
    | ⟨1, _⟩ => rfl
    | ⟨2, _⟩ => rfl⟩
  rw [← Finset.sum_filter]
  refine Finset.sum_bij (fun j _ => early M (j 1)) ?_ ?_ ?_ ?_
  · intro j hj
    obtain ⟨a, p, e, rfl⟩ := eta j
    have := (key a p e).1 (Finset.mem_filter.1 hj).2
    exact Finset.mem_filter.2 ⟨Finset.mem_univ _, (not_keep M _).2 ⟨p, rfl⟩, this.2.1⟩
  · intro j hj j' hj' hh
    obtain ⟨a, p, e, rfl⟩ := eta j
    obtain ⟨a', p', e', rfl⟩ := eta j'
    have k := (key a p e).1 (Finset.mem_filter.1 hj).2
    have k' := (key a' p' e').1 (Finset.mem_filter.1 hj').2
    have ep : p = p' := early_eq M hh
    rw [k.1, k'.1, k.2.2, k'.2.2, ep]
  · intro l hl
    obtain ⟨hk, hq⟩ := (Finset.mem_filter.1 hl).2
    obtain ⟨p, rfl⟩ := (not_keep M l).1 hk
    exact ⟨ix3 b p d, Finset.mem_filter.2 ⟨Finset.mem_univ _, (key b p d).2 ⟨rfl, hq, rfl⟩⟩, rfl⟩
  · intro j hj
    obtain ⟨a, p, e, rfl⟩ := eta j
    have k := (key a p e).1 (Finset.mem_filter.1 hj).2
    rw [k.1, k.2.2]
    exact hy p

theorem v71_at (b : Fin 4) (q : Fin 2048) (d : Fin 1024) : (fin m c main_v71) (ix3 b q d)
    = (xr m c b (oddAt q) d + ∑ l : Fin 2048, if ¬ Keep (mx (kr m c) b) l.val ∧ (place (sc (kr m c) b l)).val = q.val then xr m c b (evenAt l) d else 0 : EReal) := by
  rw [e_v71]
  have hs := sum_at (fin m c main_v70) (fin m c main_v54) b q d (mx (kr m c) b) (fun l => place (sc (kr m c) b l)) (fun l => xr m c b (evenAt l) d)
    (v70_0 m c) (v70_1 m c b) (fun u => v54_at m c b u d)
  have hx := v50_at m c b q d
  exact congrArg₂ (fun u v : EReal => u + v) hx hs

theorem ref1 (b : Fin 4) (r : Fin 3072) (d : Fin 1024) : (fin m c main_v72) (ix3 b r d) = out1 (xr m c) (kr m c) b r d := by
  rw [e_v72]
  have h := v52_at m c b
  have h' := v71_at m c b
  unfold out1
  generalize fin m c main_v52 = X at h ⊢
  generalize fin m c main_v71 = Y at h' ⊢
  pointwise
  by_cases hr : r.val < 1024
  · rw [dif_pos hr, dif_pos hr]
    exact h _ _
  · rw [dif_neg hr, dif_neg hr]
    exact h' _ _

end Cert.Proof.Ref
-- ==== Proof.RefIndex.lean ====
module

public import proofs.«01_k».proof.Proof.RefRows

/-! The index that the reference leaves. -/

@[expose] public noncomputable section

namespace Cert.Proof.Ref

open Cert.ReferenceIdeal Cert.ReferenceIdeal.Gen
open Idealize.ShloMosaic Idealize.ShloMosaic.StableHlo
open Idealize.SL Idealize.SL.Sem
open Cert.Proof.Order

set_option maxHeartbeats 400000
set_option maxRecDepth 8000

variable (m : (ℓ : Loc nD τ sig) → Buf (Elt Ideal) ℓ) (c : Dev nD)

theorem w4_at (l : Fin 2048) : (fin m c main_v4) (ix1 l) = BitVec.ofNat 32 (2 * l.val) := by
  rw [e_v4, e_v3, e_c_0, e_v2, e_v1, e_c, e_v0]
  pointwise
  show 0#32 + 2#32 * BitVec.ofNat 32 l.val = _
  rw [BitVec.zero_add, show (2#32 : BitVec 32) = BitVec.ofNat 32 2 from rfl, ← BitVec.ofNat_mul]

theorem w9_at (l : Fin 2048) : (fin m c main_v9) (ix1 l) = BitVec.ofNat 32 (2 * l.val + 1) := by
  rw [e_v9, e_v8, e_c_2, e_v7, e_v6, e_c_1, e_v5]
  pointwise
  show 1#32 + 2#32 * BitVec.ofNat 32 l.val = _
  rw [show (2#32 : BitVec 32) = BitVec.ofNat 32 2 from rfl, show (1#32 : BitVec 32) = BitVec.ofNat 32 1 from rfl, ← BitVec.ofNat_mul, ← BitVec.ofNat_add, Nat.add_comm]

theorem v40_at (b : Fin 4) (u : Fin 1024) : (fin m c main_v40) (ix3 b u 0) = BitVec.ofNat 32 (early (mx (kr m c) b) u).val := by
  rw [e_v40, e_v39, e_v36, e_v35, e_c_7]
  have h := v31_at m c b u
  have hl := (early (mx (kr m c) b) u).isLt
  generalize fin m c main_v31 = X at h ⊢
  generalize fin m c main_v38 = Y
  pointwise
  rw [h]
  exact wrapped _ (by omega) _

theorem v41_at (b : Fin 4) (u : Fin 1024) : (fin m c main_v41) (ix2 b u) = BitVec.ofNat 32 (2 * (early (mx (kr m c) b) u).val) := by
  rw [e_v41]
  exact (take1 (fin m c main_v4) (fin m c main_v40) b u _ (v40_at m c b u)).trans (w4_at m c _)

theorem v47_at (b : Fin 4) (u : Fin 1024) : (fin m c main_v47) (ix3 b u 0) = BitVec.ofNat 32 (src (mx (kr m c) b) u).val := by
  rw [e_v47, e_v46, e_v43, e_v42, e_c_9]
  have h := v33_at m c b u
  have hl := (src (mx (kr m c) b) u).isLt
  generalize fin m c main_v33 = X at h ⊢
  generalize fin m c main_v45 = Y
  pointwise
  rw [h]
  exact wrapped _ (by omega) _

theorem v48_at (b : Fin 4) (u : Fin 1024) : (fin m c main_v48) (ix2 b u) = BitVec.ofNat 32 (2 * (src (mx (kr m c) b) u).val) := by
  rw [e_v48]
  exact (take1 (fin m c main_v4) (fin m c main_v47) b u _ (v47_at m c b u)).trans (w4_at m c _)

theorem v81_at (b : Fin 4) : (fin m c main_v81) (ix2 b 0) = BitVec.ofNat 32 b.val := by
  rw [e_v81, e_v78, e_v77, e_c_16]
  have h := v56_at m c b
  have hl := b.isLt
  generalize fin m c main_v56 = X at h ⊢
  generalize fin m c main_v80 = Y
  pointwise
  rw [h]
  exact wrapped _ (by omega) _

theorem v103_at (b : Fin 4) : (fin m c main_v103) (ix2 b 0) = BitVec.ofNat 32 b.val := by
  rw [e_v103, e_v100, e_v99, e_c_21]
  have h := v56_at m c b
  have hl := b.isLt
  generalize fin m c main_v56 = X at h ⊢
  generalize fin m c main_v102 = Y
  pointwise
  rw [h]
  exact wrapped _ (by omega) _

theorem v120_at (b : Fin 4) : (fin m c main_v120) (ix2 b 0) = BitVec.ofNat 32 b.val := by
  rw [e_v120, e_v117, e_v116, e_c_26]
  have h := v56_at m c b
  have hl := b.isLt
  generalize fin m c main_v56 = X at h ⊢
  generalize fin m c main_v119 = Y
  pointwise
  rw [h]
  exact wrapped _ (by omega) _

theorem v98_at (b : Fin 4) (u : Fin 2048) : (fin m c main_v98) (ix2 b u) = BitVec.ofNat 32 (2 * u.val + 1) := by
  rw [e_v98, e_v97]
  have h := w9_at m c u
  generalize fin m c main_v9 = X at h ⊢
  pointwise
  exact h

theorem v86_at (b : Fin 4) (u : Fin 1024) : (fin m c main_v86) (ix2 b u) = BitVec.ofNat 32 (2 * (src (mx (kr m c) b) u).val) := by
  rw [e_v86, e_v83, e_v82, e_c_18]
  have h := v48_at m c b u
  have hl := (src (mx (kr m c) b) u).isLt
  generalize fin m c main_v48 = X at h ⊢
  generalize fin m c main_v85 = Y
  pointwise
  rw [h]
  exact wrapped _ (by omega) _

theorem v108_at (b : Fin 4) (u : Fin 2048) : (fin m c main_v108) (ix2 b u) = BitVec.ofNat 32 (2 * u.val + 1) := by
  rw [e_v108, e_v105, e_v104, e_c_23]
  have h := v98_at m c b u
  have hl := u.isLt
  generalize fin m c main_v98 = X at h ⊢
  generalize fin m c main_v107 = Y
  pointwise
  rw [h]
  exact wrapped _ (by omega) _

theorem v125_at (b : Fin 4) (u : Fin 1024) : (fin m c main_v125) (ix2 b u) = BitVec.ofNat 32 (2 * (early (mx (kr m c) b) u).val) := by
  rw [e_v125, e_v122, e_v121, e_c_28]
  have h := v41_at m c b u
  have hl := (early (mx (kr m c) b) u).isLt
  generalize fin m c main_v41 = X at h ⊢
  generalize fin m c main_v124 = Y
  pointwise
  rw [h]
  exact wrapped _ (by omega) _

theorem v90_0 (b : Fin 4) (u : Fin 1024) : (fin m c main_v90) (ix3 b u 0) = BitVec.ofNat 32 b.val := by
  rw [e_v90, e_v88, e_v87]
  have h := v81_at m c b
  generalize fin m c main_v81 = X at h ⊢
  generalize fin m c main_v89 = Y
  pointwise
  exact h

theorem v90_1 (b : Fin 4) (u : Fin 1024) : (fin m c main_v90) (ix3 b u 1) = BitVec.ofNat 32 (2 * (src (mx (kr m c) b) u).val) := by
  rw [e_v90, e_v89]
  have h := v86_at m c b u
  generalize fin m c main_v86 = X at h ⊢
  generalize fin m c main_v88 = Y
  pointwise
  exact h

theorem v112_0 (b : Fin 4) (u : Fin 2048) : (fin m c main_v112) (ix3 b u 0) = BitVec.ofNat 32 b.val := by
  rw [e_v112, e_v110, e_v109]
  have h := v103_at m c b
  generalize fin m c main_v103 = X at h ⊢
  generalize fin m c main_v111 = Y
  pointwise
  exact h

theorem v112_1 (b : Fin 4) (u : Fin 2048) : (fin m c main_v112) (ix3 b u 1) = BitVec.ofNat 32 (2 * u.val + 1) := by
  rw [e_v112, e_v111]
  have h := v108_at m c b u
  generalize fin m c main_v108 = X at h ⊢
  generalize fin m c main_v110 = Y
  pointwise
  exact h

theorem v129_0 (b : Fin 4) (u : Fin 1024) : (fin m c main_v129) (ix3 b u 0) = BitVec.ofNat 32 b.val := by
  rw [e_v129, e_v127, e_v126]
  have h := v120_at m c b
  generalize fin m c main_v120 = X at h ⊢
  generalize fin m c main_v128 = Y
  pointwise
  exact h

theorem v129_1 (b : Fin 4) (u : Fin 1024) : (fin m c main_v129) (ix3 b u 1) = BitVec.ofNat 32 (2 * (early (mx (kr m c) b) u).val) := by
  rw [e_v129, e_v128]
  have h := v125_at m c b u
  generalize fin m c main_v125 = X at h ⊢
  generalize fin m c main_v127 = Y
  pointwise
  exact h

theorem v76_at (b : Fin 4) (u : Fin 1024) : (fin m c main_v76) (ix2 b u) = BitVec.ofNat 32 u.val := by
  rw [e_v76, e_v75, e_v74]
  pointwise

theorem v96_at (b : Fin 4) (u : Fin 2048) : (fin m c main_v96) (ix2 b u) = BitVec.ofNat 32 (1024 + u.val) := by
  rw [e_v96, e_v95, e_v94, e_c_20, e_v93, e_v92]
  pointwise
  exact (BitVec.ofNat_add 1024 u.val).symm

theorem v115_at (b : Fin 4) (u : Fin 1024) : (fin m c main_v115) (ix2 b u) = BitVec.ofNat 32 (1024 + (place (sc (kr m c) b (early (mx (kr m c) b) u))).val) := by
  rw [e_v115, e_v114, e_c_25]
  have h := v34_at m c b u
  generalize fin m c main_v34 = X at h ⊢
  pointwise
  rw [h]
  exact (BitVec.ofNat_add 1024 _).symm

theorem landsA (i : S4x1024x2.Idx → BitVec 32) (h0 : ∀ b u, i (ix3 b u 0) = BitVec.ofNat 32 b.val) (pos : Fin 1024 → ℕ) (b : Fin 4)
    (hp : ∀ u, pos u < 4096) (h1 : ∀ u, i (ix3 b u 1) = BitVec.ofNat 32 (pos u)) (k : S4x1024.Idx) (r : Fin 4096) :
    scatter_S4x4096_S4x1024x2_S4x1024_n_01_01_2.resultIdx? k i = some (ix2 b r) ↔ ∃ u, k = ix2 b u ∧ pos u = r.val := by
  obtain ⟨a, u, rfl⟩ : ∃ (a : Fin 4) (u : Fin 1024), k = ix2 a u := ⟨k 0, k 1, by
    funext z
    match z with
    | ⟨0, _⟩ => rfl
    | ⟨1, _⟩ => rfl⟩
  have hl : _ ↔ (i (ix3 a u 0)).toInt = b.val ∧ (i (ix3 a u 1)).toInt = r.val :=
    Routing.scatter_lands2 (R := 4) (C := 4096) (A := 4) (B := 1024) scatter_S4x4096_S4x1024x2_S4x1024_n_01_01_2 rfl rfl rfl i a u b r
  refine hl.trans ?_
  rw [h0, toInt_ofNat (n := a.val) (by have := a.isLt; omega)]
  have hpu := hp u
  constructor
  · rintro ⟨k0, k1⟩
    have ea : a = b := Fin.ext (by omega)
    subst ea
    rw [h1, toInt_ofNat (n := pos u) (by omega)] at k1
    exact ⟨u, rfl, by omega⟩
  · rintro ⟨u', hk, hr⟩
    have ea : a = b := congrFun hk 0
    have eu : u = u' := congrFun hk 1
    subst ea
    subst eu
    rw [h1, toInt_ofNat (n := pos u) (by omega)]
    exact ⟨rfl, by omega⟩

theorem hitA (x : S4x4096.Idx → BitVec 32) (i : S4x1024x2.Idx → BitVec 32) (upd : S4x1024.Idx → BitVec 32) (h0 : ∀ b u, i (ix3 b u 0) = BitVec.ofNat 32 b.val)
    (pos : Fin 1024 → ℕ) (b : Fin 4) (hp : ∀ u, pos u < 4096) (hj : ∀ u v, pos u = pos v → u = v) (h1 : ∀ u, i (ix3 b u 1) = BitVec.ofNat 32 (pos u))
    (u : Fin 1024) (r : Fin 4096) (hr : pos u = r.val) : Host.scatter scatter_S4x4096_S4x1024x2_S4x1024_n_01_01_2 (fun _ b => b) x i upd (ix2 b r) = upd (ix2 b u) := by
  refine Routing.scatter_set_hit _ x i upd _ _ (fun k hk => ?_) (ix2 b u) ((landsA i h0 pos b hp h1 _ r).2 ⟨u, rfl, hr⟩)
  obtain ⟨v, rfl, hv⟩ := (landsA i h0 pos b hp h1 k r).1 hk
  rw [hj v u (hv.trans hr.symm)]

theorem missA (x : S4x4096.Idx → BitVec 32) (i : S4x1024x2.Idx → BitVec 32) (upd : S4x1024.Idx → BitVec 32) (h0 : ∀ b u, i (ix3 b u 0) = BitVec.ofNat 32 b.val)
    (pos : Fin 1024 → ℕ) (b : Fin 4) (hp : ∀ u, pos u < 4096) (h1 : ∀ u, i (ix3 b u 1) = BitVec.ofNat 32 (pos u))
    (r : Fin 4096) (hr : ∀ u, pos u ≠ r.val) : Host.scatter scatter_S4x4096_S4x1024x2_S4x1024_n_01_01_2 (fun _ b => b) x i upd (ix2 b r) = x (ix2 b r) := by
  refine Routing.scatter_set_miss _ x i upd _ fun k hk => ?_
  obtain ⟨v, rfl, hv⟩ := (landsA i h0 pos b hp h1 k r).1 hk
  exact hr v hv

theorem landsB (i : S4x2048x2.Idx → BitVec 32) (h0 : ∀ b u, i (ix3 b u 0) = BitVec.ofNat 32 b.val) (pos : Fin 2048 → ℕ) (b : Fin 4)
    (hp : ∀ u, pos u < 4096) (h1 : ∀ u, i (ix3 b u 1) = BitVec.ofNat 32 (pos u)) (k : S4x2048.Idx) (r : Fin 4096) :
    scatter_S4x4096_S4x2048x2_S4x2048_n_01_01_2.resultIdx? k i = some (ix2 b r) ↔ ∃ u, k = ix2 b u ∧ pos u = r.val := by
  obtain ⟨a, u, rfl⟩ : ∃ (a : Fin 4) (u : Fin 2048), k = ix2 a u := ⟨k 0, k 1, by
    funext z
    match z with
    | ⟨0, _⟩ => rfl
    | ⟨1, _⟩ => rfl⟩
  have hl : _ ↔ (i (ix3 a u 0)).toInt = b.val ∧ (i (ix3 a u 1)).toInt = r.val :=
    Routing.scatter_lands2 (R := 4) (C := 4096) (A := 4) (B := 2048) scatter_S4x4096_S4x2048x2_S4x2048_n_01_01_2 rfl rfl rfl i a u b r
  refine hl.trans ?_
  rw [h0, toInt_ofNat (n := a.val) (by have := a.isLt; omega)]
  have hpu := hp u
  constructor
  · rintro ⟨k0, k1⟩
    have ea : a = b := Fin.ext (by omega)
    subst ea
    rw [h1, toInt_ofNat (n := pos u) (by omega)] at k1
    exact ⟨u, rfl, by omega⟩
  · rintro ⟨u', hk, hr⟩
    have ea : a = b := congrFun hk 0
    have eu : u = u' := congrFun hk 1
    subst ea
    subst eu
    rw [h1, toInt_ofNat (n := pos u) (by omega)]
    exact ⟨rfl, by omega⟩

theorem hitB (x : S4x4096.Idx → BitVec 32) (i : S4x2048x2.Idx → BitVec 32) (upd : S4x2048.Idx → BitVec 32) (h0 : ∀ b u, i (ix3 b u 0) = BitVec.ofNat 32 b.val)
    (pos : Fin 2048 → ℕ) (b : Fin 4) (hp : ∀ u, pos u < 4096) (hj : ∀ u v, pos u = pos v → u = v) (h1 : ∀ u, i (ix3 b u 1) = BitVec.ofNat 32 (pos u))
    (u : Fin 2048) (r : Fin 4096) (hr : pos u = r.val) : Host.scatter scatter_S4x4096_S4x2048x2_S4x2048_n_01_01_2 (fun _ b => b) x i upd (ix2 b r) = upd (ix2 b u) := by
  refine Routing.scatter_set_hit _ x i upd _ _ (fun k hk => ?_) (ix2 b u) ((landsB i h0 pos b hp h1 _ r).2 ⟨u, rfl, hr⟩)
  obtain ⟨v, rfl, hv⟩ := (landsB i h0 pos b hp h1 k r).1 hk
  rw [hj v u (hv.trans hr.symm)]

theorem missB (x : S4x4096.Idx → BitVec 32) (i : S4x2048x2.Idx → BitVec 32) (upd : S4x2048.Idx → BitVec 32) (h0 : ∀ b u, i (ix3 b u 0) = BitVec.ofNat 32 b.val)
    (pos : Fin 2048 → ℕ) (b : Fin 4) (hp : ∀ u, pos u < 4096) (h1 : ∀ u, i (ix3 b u 1) = BitVec.ofNat 32 (pos u))
    (r : Fin 4096) (hr : ∀ u, pos u ≠ r.val) : Host.scatter scatter_S4x4096_S4x2048x2_S4x2048_n_01_01_2 (fun _ b => b) x i upd (ix2 b r) = x (ix2 b r) := by
  refine Routing.scatter_set_miss _ x i upd _ fun k hk => ?_
  obtain ⟨v, rfl, hv⟩ := (landsB i h0 pos b hp h1 k r).1 hk
  exact hr v hv

theorem src_eq (M : Fin 2048 → EReal) {u v : Fin 1024} (h : (src M u).val = (src M v).val) : u = v := (src_mono M).injective h

theorem ref2 (b : Fin 4) (r : Fin 4096) : (fin m c main_v130) (ix2 b r) = out2 (kr m c) b r := by
  have hrl := r.isLt
  rw [e_v130]
  have pA : ∀ u : Fin 1024, 2 * (src (mx (kr m c) b) u).val < 4096 := fun u => by have := (src (mx (kr m c) b) u).isLt; omega
  have pB : ∀ u : Fin 2048, 2 * u.val + 1 < 4096 := fun u => by have := u.isLt; omega
  have pC : ∀ u : Fin 1024, 2 * (early (mx (kr m c) b) u).val < 4096 := fun u => by have := (early (mx (kr m c) b) u).isLt; omega
  unfold out2
  by_cases hr : r.val % 2 = 0
  · rw [if_pos hr]
    unfold goes
    by_cases hk : Keep (mx (kr m c) b) (r.val / 2)
    · rw [if_pos hk]
      obtain ⟨u, hu⟩ := (keep_src _ _).1 hk
      refine (missA _ _ _ (v129_0 m c) (fun u => 2 * (early (mx (kr m c) b) u).val) b pC (v129_1 m c b) r fun p hp => ?_).trans ?_
      · refine (not_keep (mx (kr m c) b) ⟨r.val / 2, by omega⟩).2 ⟨p, Fin.ext ?_⟩ hk
        show _ = r.val / 2
        omega
      rw [e_v113]
      refine (missB _ _ _ (v112_0 m c) (fun u => 2 * u.val + 1) b pB (v112_1 m c b) r fun p hp => ?_).trans ?_
      · omega
      rw [e_v91]
      refine (hitA _ _ _ (v90_0 m c) (fun u => 2 * (src (mx (kr m c) b) u).val) b pA (fun u v h => src_eq (mx (kr m c) b) (by omega)) (v90_1 m c b) u r
        (by omega)).trans ?_
      rw [v76_at]
      show _ = BitVec.ofNat 32 (Nat.count (Keep (mx (kr m c) b)) (r.val / 2))
      rw [← hu, count_src]
    · rw [if_neg hk]
      obtain ⟨p, hp⟩ := (not_keep (mx (kr m c) b) ⟨r.val / 2, by omega⟩).1 hk
      have hpv : (early (mx (kr m c) b) p).val = r.val / 2 := congrArg (fun q : Fin 2048 => q.val) hp
      refine (hitA _ _ _ (v129_0 m c) (fun u => 2 * (early (mx (kr m c) b) u).val) b pC
        (fun u v h => early_eq (mx (kr m c) b) (Fin.ext (by omega))) (v129_1 m c b) p r (by omega)).trans ?_
      rw [v115_at, hp]
  · rw [if_neg hr]
    refine (missA _ _ _ (v129_0 m c) (fun u => 2 * (early (mx (kr m c) b) u).val) b pC (v129_1 m c b) r fun p hp => ?_).trans ?_
    · omega
    rw [e_v113]
    refine (hitB _ _ _ (v112_0 m c) (fun u => 2 * u.val + 1) b pB (fun u v h => Fin.ext (by omega)) (v112_1 m c b) ⟨r.val / 2, by omega⟩ r
      (by show 2 * (r.val / 2) + 1 = r.val; omega)).trans ?_
    rw [v96_at]

end Cert.Proof.Ref
-- ==== Proof.Values.lean ====
module

public import proofs.«01_k».proof.Proof.Frames
public import proofs.«01_k».proof.Proof.KVal
public import proofs.«01_k».proof.Proof.RefIndex

/-! The two results of the kernel are those of the reference. -/

@[expose] public noncomputable section

namespace Cert.Proof

open Idealize.ShloMosaic Idealize.SL.Sem
open Idealize.ShloMosaic.TcCoe
open Cert.Proof.Order

set_option maxHeartbeats 400000

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem eta3 {a b c : ℕ} {α : Type} (f g : (⟨3, ![a, b, c]⟩ : Shape).Idx → α) (h : ∀ x y z, f (ix3 x y z) = g (ix3 x y z)) : f = g := by
  funext i
  have e : i = ix3 (i 0) (i 1) (i 2) := by
    funext z
    match z with
    | ⟨0, _⟩ => rfl
    | ⟨1, _⟩ => rfl
    | ⟨2, _⟩ => rfl
  rw [e]
  exact h _ _ _

theorem eta2 {a b : ℕ} {α : Type} (f g : (⟨2, ![a, b]⟩ : Shape).Idx → α) (h : ∀ x y, f (ix2 x y) = g (ix2 x y)) : f = g := by
  funext i
  have e : i = ix2 (i 0) (i 1) := by
    funext z
    match z with
    | ⟨0, _⟩ => rfl
    | ⟨1, _⟩ => rfl
  rw [e]
  exact h _ _

section
variable (c : Dev Cert.KernelIdeal.nD)

theorem same0 (h : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)) : Ref.xr m' c = Run.xs m c := by
  funext b r d
  exact congrFun ((Ref.fin_arg0 m' c).trans h) (ix3 b r d)

theorem same1 (h : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)) : Ref.kr m' c = Run.ks m c := by
  funext b r d
  exact congrFun ((Ref.fin_arg1 m' c).trans h) (ix3 b r d)

theorem equal1 (h0 : Ref.xr m' c = Run.xs m c) (h1 : Ref.kr m' c = Run.ks m c) :
    (Ref.fin m' c Cert.ReferenceIdeal.main_v72 : (⟨3, ![4, 3072, 1024]⟩ : Shape).Idx → EReal) = Run.V6 m c Cert.KernelIdeal.main_v10 := by
  refine eta3 _ _ fun b r d => ?_
  refine (Ref.ref1 m' c b r d).trans ?_
  rw [h0, h1]
  exact (Run.result1 m c b r d).symm

theorem equal2 (h1 : Ref.kr m' c = Run.ks m c) :
    (Ref.fin m' c Cert.ReferenceIdeal.main_v130 : (⟨2, ![4, 4096]⟩ : Shape).Idx → BitVec 32) = Run.V6 m c Cert.KernelIdeal.main_v20 := by
  refine eta2 _ _ fun b r => ?_
  refine (Ref.ref2 m' c b r).trans ?_
  rw [h1]
  exact (Run.result2 m c b r).symm

end

theorem algebraic : Cert.algebraic_KernelIdeal_ReferenceIdeal (hKernelIdeal := Cert.KernelIdeal.Gen.facts) (hReferenceIdeal := Cert.ReferenceIdeal.Gen.facts) := by
  intro m g m' g' _ hm
  refine ⟨fun c => Run.V6 m c Cert.KernelIdeal.main_v10, fun c => Run.V6 m c Cert.KernelIdeal.main_v20, ?_, ?_⟩
  · exact (θ_run (Cert.KernelIdeal.defs (F := Ideal)) _ _).mono
      (fun _ h c => ⟨h.1 c _ rfl, h.1 c _ rfl, (h.1 c Cert.KernelIdeal.main_arg0 rfl).trans (Run.V6_arg0 m c), (h.1 c Cert.KernelIdeal.main_arg1 rfl).trans (Run.V6_arg1 m c)⟩)
      (Run.run_main (F := Ideal) m g (Run.ins_lt m))
  · exact (θ_run (Cert.ReferenceIdeal.defs (F := Ideal)) _ _).mono
      (fun _ h c => ⟨(h c _).trans (equal1 m m' c (same0 m m' c (hm c).1) (same1 m m' c (hm c).2)), (h c _).trans (equal2 m m' c (same1 m m' c (hm c).2)),
        (h c Cert.ReferenceIdeal.main_arg0).trans (Ref.fin_arg0 m' c), (h c Cert.ReferenceIdeal.main_arg1).trans (Ref.fin_arg1 m' c)⟩)
      (Ref.run_line (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.RefRun
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Run.frame_kernel, Run.frame_kernelIdeal, Ref.frame_reference, trivial, algebraic⟩

end Cert.Proof

end
